-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed_KernelIdeal [hPre_well_posed_KernelIdeal : Cert.Pre_well_posed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_well_posed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_well_posed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed_ReferenceIdeal [hPre_well_posed_ReferenceIdeal : Cert.Pre_well_posed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_well_posed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_well_posed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_well_posed_KernelIdeal [hKernelIdeal : Cert.KernelIdeal.Facts] [hPre_well_posed_KernelIdeal : Cert.Pre_well_posed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_well_posed_ReferenceIdeal [hReferenceIdeal : Cert.ReferenceIdeal.Facts] [hPre_well_posed_ReferenceIdeal : Cert.Pre_well_posed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_well_posed_KernelIdeal [hKernelIdeal : Cert.KernelIdeal.Facts] [hReferenceIdeal : Cert.ReferenceIdeal.Facts] [hPre_well_posed_KernelIdeal : Cert.Pre_well_posed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v76) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_well_posed_KernelIdeal : Cert.Pre_well_posed_KernelIdeal.Facts) (hPre_well_posed_ReferenceIdeal : Cert.Pre_well_posed_ReferenceIdeal.Facts),
    quiescent_Kernel (hKernel := hKernel)
    ∧ quiescent_KernelIdeal (hKernelIdeal := hKernelIdeal)
    ∧ quiescent_KernelIdeal_pre_well_posed_KernelIdeal (hKernelIdeal := hKernelIdeal) (hPre_well_posed_KernelIdeal := hPre_well_posed_KernelIdeal)
    ∧ quiescent_ReferenceIdeal (hReferenceIdeal := hReferenceIdeal)
    ∧ quiescent_ReferenceIdeal_pre_well_posed_ReferenceIdeal (hReferenceIdeal := hReferenceIdeal) (hPre_well_posed_ReferenceIdeal := hPre_well_posed_ReferenceIdeal)
    ∧ preserves_Kernel_KernelIdeal
    ∧ algebraic_KernelIdeal_ReferenceIdeal_pre_well_posed_KernelIdeal (hKernelIdeal := hKernelIdeal) (hReferenceIdeal := hReferenceIdeal) (hPre_well_posed_KernelIdeal := hPre_well_posed_KernelIdeal)
-- ==== Pre_well_posed_KernelIdeal.lean ====
abbrev S1024x512 : Shape := ⟨2, ![1024, 512]⟩
abbrev S512x32 : Shape := ⟨2, ![512, 32]⟩
abbrev S1024x2 : Shape := ⟨2, ![1024, 2]⟩
abbrev S4x512x1024 : Shape := ⟨3, ![4, 512, 1024]⟩
abbrev S_ : Shape := ⟨0, ![]⟩

class Facts : Prop where
  bcast_S_S1024x512 : S_.BroadcastsInDim S1024x512 (![] : Fin 0 → Fin S1024x512.rank)
  bcast_S_S512x32 : S_.BroadcastsInDim S512x32 (![] : Fin 0 → Fin S512x32.rank)
  bcast_S_S1024x2 : S_.BroadcastsInDim S1024x2 (![] : Fin 0 → Fin S1024x2.rank)

variable [Facts]

def fn {F : FTy → Type} [FloatOps F] (main_arg0 : FVec F S1024x512 .f32) (main_arg1 : FVec F S512x32 .f32) (main_arg2 : IVec S1024x2 32) (main_arg3 : FVec F S4x512x1024 .f32) : IVec S1024x512 1 × IVec S512x32 1 × IVec S1024x2 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_v3 : FVec F S512x32 .f32 := Host.absf main_arg1
  let main_cst_0 : FVec F S_ .f32 := constant S_ .f32 0x7F800000#32
  let main_v4 : FVec F S512x32 .f32 := broadcastInDim S512x32 ![] bcast_S_S512x32 main_cst_0
  let main_v5 : IVec S512x32 1 := cmpf .olt main_v3 main_v4
  let main_c : IVec S_ 32 := constantI S_ 32 0#32
  let main_v6 : IVec S1024x2 32 := broadcastInDim S1024x2 ![] bcast_S_S1024x2 main_c
  let main_v7 : IVec S1024x2 1 := cmpi .sge main_arg2 main_v6
  let main_c_1 : IVec S_ 32 := constantI S_ 32 32#32
  let main_v8 : IVec S1024x2 32 := broadcastInDim S1024x2 ![] bcast_S_S1024x2 main_c_1
  let main_v9 : IVec S1024x2 1 := cmpi .slt main_arg2 main_v8
  let main_v10 : IVec S1024x2 1 := andi main_v7 main_v9
  (main_v2, main_v5, main_v10)
-- ==== Pre_well_posed_ReferenceIdeal.lean ====
abbrev S1024x512 : Shape := ⟨2, ![1024, 512]⟩
abbrev S512x32 : Shape := ⟨2, ![512, 32]⟩
abbrev S1024x2 : Shape := ⟨2, ![1024, 2]⟩
abbrev S32x512x1024 : Shape := ⟨3, ![32, 512, 1024]⟩
abbrev S_ : Shape := ⟨0, ![]⟩

class Facts : Prop where
  bcast_S_S1024x512 : S_.BroadcastsInDim S1024x512 (![] : Fin 0 → Fin S1024x512.rank)
  bcast_S_S512x32 : S_.BroadcastsInDim S512x32 (![] : Fin 0 → Fin S512x32.rank)
  bcast_S_S1024x2 : S_.BroadcastsInDim S1024x2 (![] : Fin 0 → Fin S1024x2.rank)

variable [Facts]

def fn {F : FTy → Type} [FloatOps F] (main_arg0 : FVec F S1024x512 .f32) (main_arg1 : FVec F S512x32 .f32) (main_arg2 : IVec S1024x2 32) (main_arg3 : FVec F S32x512x1024 .f32) : IVec S1024x512 1 × IVec S512x32 1 × IVec S1024x2 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_v3 : FVec F S512x32 .f32 := Host.absf main_arg1
  let main_cst_0 : FVec F S_ .f32 := constant S_ .f32 0x7F800000#32
  let main_v4 : FVec F S512x32 .f32 := broadcastInDim S512x32 ![] bcast_S_S512x32 main_cst_0
  let main_v5 : IVec S512x32 1 := cmpf .olt main_v3 main_v4
  let main_c : IVec S_ 32 := constantI S_ 32 0#32
  let main_v6 : IVec S1024x2 32 := broadcastInDim S1024x2 ![] bcast_S_S1024x2 main_c
  let main_v7 : IVec S1024x2 1 := cmpi .sge main_arg2 main_v6
  let main_c_1 : IVec S_ 32 := constantI S_ 32 32#32
  let main_v8 : IVec S1024x2 32 := broadcastInDim S1024x2 ![] bcast_S_S1024x2 main_c_1
  let main_v9 : IVec S1024x2 1 := cmpi .slt main_arg2 main_v8
  let main_v10 : IVec S1024x2 1 := andi main_v7 main_v9
  (main_v2, main_v5, main_v10)
-- ==== Kernel.lean ====
abbrev S1024x512 : Shape := ⟨2, ![1024, 512]⟩
abbrev S512x32 : Shape := ⟨2, ![512, 32]⟩
abbrev S1024x2 : Shape := ⟨2, ![1024, 2]⟩
abbrev S4x512x1024 : Shape := ⟨3, ![4, 512, 1024]⟩
abbrev S1024x1024 : Shape := ⟨2, ![1024, 1024]⟩
abbrev S96x1024 : Shape := ⟨2, ![96, 1024]⟩
abbrev S48x1024 : Shape := ⟨2, ![48, 1024]⟩
abbrev S24x1024 : Shape := ⟨2, ![24, 1024]⟩
abbrev S64x1024 : Shape := ⟨2, ![64, 1024]⟩
abbrev S32x1024 : Shape := ⟨2, ![32, 1024]⟩
abbrev S16x1024 : Shape := ⟨2, ![16, 1024]⟩
abbrev S36 : Shape := ⟨1, ![36]⟩
abbrev S_ : Shape := ⟨0, ![]⟩
abbrev S1024x32 : Shape := ⟨2, ![1024, 32]⟩
abbrev S1024 : Shape := ⟨1, ![1024]⟩
abbrev S1024x1 : Shape := ⟨2, ![1024, 1]⟩
abbrev S192x512 : Shape := ⟨2, ![192, 512]⟩
abbrev S192x1024 : Shape := ⟨2, ![192, 1024]⟩
abbrev S192x1 : Shape := ⟨2, ![192, 1]⟩
abbrev S1x512x1024 : Shape := ⟨3, ![1, 512, 1024]⟩
abbrev S512x1024 : Shape := ⟨2, ![512, 1024]⟩
abbrev S1 : Shape := ⟨1, ![1]⟩
abbrev S128x512 : Shape := ⟨2, ![128, 512]⟩
abbrev S128x1024 : Shape := ⟨2, ![128, 1024]⟩
abbrev S128x1 : Shape := ⟨2, ![128, 1]⟩

abbrev nBuf : Space → Nat
  | .hbm => 5
  | .vmem => 24
  | .smem => 0
  | _ => 0

abbrev bufTy : (tb : Table) → Fin (tcTables nBuf tb) → BufTy
  | .hbm, ⟨0, _⟩ => ⟨S1024x512, .f32⟩
  | .hbm, ⟨1, _⟩ => ⟨S512x32, .f32⟩
  | .hbm, ⟨2, _⟩ => ⟨S1024x2, .i32⟩
  | .hbm, ⟨3, _⟩ => ⟨S4x512x1024, .f32⟩
  | .hbm, ⟨4, _⟩ => ⟨S1024x1024, .f32⟩
  | .local _ .vmem, ⟨0, _⟩ => ⟨S1024x512, .f32⟩
  | .local _ .vmem, ⟨1, _⟩ => ⟨S512x32, .f32⟩
  | .local _ .vmem, ⟨2, _⟩ => ⟨S1024x2, .i32⟩
  | .local _ .vmem, ⟨3, _⟩ => ⟨S4x512x1024, .f32⟩
  | .local _ .vmem, ⟨4, _⟩ => ⟨S1024x1024, .f32⟩
  | .local _ .vmem, ⟨5, _⟩ => ⟨S96x1024, .bf16⟩
  | .local _ .vmem, ⟨6, _⟩ => ⟨S48x1024, .bf16⟩
  | .local _ .vmem, ⟨7, _⟩ => ⟨S24x1024, .bf16⟩
  | .local _ .vmem, ⟨8, _⟩ => ⟨S96x1024, .bf16⟩
  | .local _ .vmem, ⟨9, _⟩ => ⟨S48x1024, .bf16⟩
  | .local _ .vmem, ⟨10, _⟩ => ⟨S24x1024, .bf16⟩
  | .local _ .vmem, ⟨11, _⟩ => ⟨S96x1024, .bf16⟩
  | .local _ .vmem, ⟨12, _⟩ => ⟨S48x1024, .bf16⟩
  | .local _ .vmem, ⟨13, _⟩ => ⟨S24x1024, .bf16⟩
  | .local _ .vmem, ⟨14, _⟩ => ⟨S96x1024, .bf16⟩
  | .local _ .vmem, ⟨15, _⟩ => ⟨S48x1024, .bf16⟩
  | .local _ .vmem, ⟨16, _⟩ => ⟨S24x1024, .bf16⟩
  | .local _ .vmem, ⟨17, _⟩ => ⟨S64x1024, .bf16⟩
  | .local _ .vmem, ⟨18, _⟩ => ⟨S32x1024, .bf16⟩
  | .local _ .vmem, ⟨19, _⟩ => ⟨S16x1024, .bf16⟩
  | .local _ .vmem, ⟨20, _⟩ => ⟨S64x1024, .bf16⟩
  | .local _ .vmem, ⟨21, _⟩ => ⟨S32x1024, .bf16⟩
  | .local _ .vmem, ⟨22, _⟩ => ⟨S16x1024, .bf16⟩
  | .local _ .vmem, ⟨23, _⟩ => ⟨S1024x1024, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 1 → Bool
  | ⟨0, _⟩ => false
  | _ => false

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  (ofTc nBuf bufTy 1 77 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_scratch10 : Ref sig .tc := ⟨.vmem, 15, rfl⟩
abbrev cc0_scratch11 : Ref sig .tc := ⟨.vmem, 16, rfl⟩
abbrev cc0_scratch12 : Ref sig .tc := ⟨.vmem, 17, rfl⟩
abbrev cc0_scratch13 : Ref sig .tc := ⟨.vmem, 18, rfl⟩
abbrev cc0_scratch14 : Ref sig .tc := ⟨.vmem, 19, rfl⟩
abbrev cc0_scratch15 : Ref sig .tc := ⟨.vmem, 20, rfl⟩
abbrev cc0_scratch16 : Ref sig .tc := ⟨.vmem, 21, rfl⟩
abbrev cc0_scratch17 : Ref sig .tc := ⟨.vmem, 22, rfl⟩
abbrev cc0_scratch18 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.xori v2 c4_i32
  let c1_i32_8 : BitVec 32 := 1#32
  let v15 : BitVec 32 := Scalar.muli v3 c1_i32_8
  let v16 : BitVec 32 := Scalar.addi c0_i32 v15
  v16.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_10 : BitVec 32 := 1#32
  let v17 : BitVec 32 := Scalar.muli v4 c1_i32_10
  let v18 : BitVec 32 := Scalar.addi c0_i32_11 v17
  v18.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_13 : BitVec 32 := 1#32
  let v19 : BitVec 32 := Scalar.muli v5 c1_i32_13
  let v20 : BitVec 32 := Scalar.addi c0_i32_14 v19
  v20.toNat
def k0_off1 (d0 : Dev nD) (c0_i32_64 : BitVec 32) (c2_i32 : BitVec 32) : Fin 2 → Nat :=
  let c1_i32_62 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c2_i32
  let c1_i32_1 : BitVec 32 := 1#32
  let v7 : BitVec 32 := Scalar.andi v6 c1_i32_1
  let v145 : BitVec 32 := Scalar.subi c1_i32_62 v7
  let c96_i32_63 : BitVec 32 := 96#32
  let v146 : BitVec 32 := Scalar.muli v145 c96_i32_63
  let v147 : BitVec 32 := Scalar.addi c0_i32_64 v146
  let c0_i32_69 : BitVec 32 := 0#32
  ![v147.toNat, 0]
def k0_off1_at (r : Fin 3) : BitVec 32 × BitVec 32 :=
  if r.val < 1 then
    (0#32, 2#32)
  else
    if r.val < 2 then
      (192#32, 1#32)
    else
      (576#32, 2#32)
def k0_dev4 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.xori v2 c4_i32
  let c1_i32_67 : BitVec 32 := 1#32
  let v148 : BitVec 32 := Scalar.muli v3 c1_i32_67
  let v149 : BitVec 32 := Scalar.addi c0_i32_68 v148
  v149.toNat
def k0_dev5 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_94 : BitVec 32 := 1#32
  let v202 : BitVec 32 := Scalar.muli v4 c1_i32_94
  let v203 : BitVec 32 := Scalar.addi c0_i32_95 v202
  v203.toNat
def k0_off2 (d0 : Dev nD) : Fin 2 → Nat :=
  let c384_i32_118 : BitVec 32 := 384#32
  let c1_i32_116 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let v253 : BitVec 32 := Scalar.subi c1_i32_116 v13
  let c96_i32_117 : BitVec 32 := 96#32
  let v254 : BitVec 32 := Scalar.muli v253 c96_i32_117
  let v255 : BitVec 32 := Scalar.addi c384_i32_118 v254
  let c0_i32_123 : BitVec 32 := 0#32
  ![v255.toNat, 0]
def k0_dev6 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_121 : BitVec 32 := 1#32
  let v256 : BitVec 32 := Scalar.muli v5 c1_i32_121
  let v257 : BitVec 32 := Scalar.addi c0_i32_122 v256
  v257.toNat
def k0_dev7 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.xori v2 c4_i32
  let c1_i32_148 : BitVec 32 := 1#32
  let v310 : BitVec 32 := Scalar.muli v3 c1_i32_148
  let v311 : BitVec 32 := Scalar.addi c0_i32_149 v310
  v311.toNat
def k0_off3 (d0 : Dev nD) : Fin 2 → Nat :=
  let c768_i32_171 : BitVec 32 := 768#32
  let c1_i32_169 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let v361 : BitVec 32 := Scalar.subi c1_i32_169 v13
  let c64_i32_170 : BitVec 32 := 64#32
  let v362 : BitVec 32 := Scalar.muli v361 c64_i32_170
  let v363 : BitVec 32 := Scalar.addi c768_i32_171 v362
  let c0_i32_176 : BitVec 32 := 0#32
  ![v363.toNat, 0]
def k0_dev8 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_174 : BitVec 32 := 1#32
  let v364 : BitVec 32 := Scalar.muli v5 c1_i32_174
  let v365 : BitVec 32 := Scalar.addi c0_i32_175 v364
  v365.toNat
def k0_off4 (d0 : Dev nD) : Fin 2 → Nat :=
  let c896_i32_198 : BitVec 32 := 896#32
  let c1_i32_196 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v8 : BitVec 32 := Scalar.shrsi v2 c1_i32_2
  let c1_i32_3 : BitVec 32 := 1#32
  let v9 : BitVec 32 := Scalar.andi v8 c1_i32_3
  let v415 : BitVec 32 := Scalar.subi c1_i32_196 v9
  let c64_i32_197 : BitVec 32 := 64#32
  let v416 : BitVec 32 := Scalar.muli v415 c64_i32_197
  let v417 : BitVec 32 := Scalar.addi c896_i32_198 v416
  let c0_i32_202 : BitVec 32 := 0#32
  ![v417.toNat, 0]
def k0_dev9 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_200 : BitVec 32 := 1#32
  let v418 : BitVec 32 := Scalar.muli v4 c1_i32_200
  let v419 : BitVec 32 := Scalar.addi c0_i32_201 v418
  v419.toNat
def k0_off5 (d0 : Dev nD) (c0_i32_61 : BitVec 32) (c2_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c2_i32
  let c1_i32_1 : BitVec 32 := 1#32
  let v7 : BitVec 32 := Scalar.andi v6 c1_i32_1
  let c96_i32 : BitVec 32 := 96#32
  let v143 : BitVec 32 := Scalar.muli v7 c96_i32
  let v144 : BitVec 32 := Scalar.addi c0_i32_61 v143
  let v433 : Index := Scalar.indexCast v144
  let c0_212 : Index := 0#32
  ![v433.toNat, 0]
def k0_off5_at (r : Fin 3) : BitVec 32 × BitVec 32 :=
  if r.val < 1 then
    (0#32, 2#32)
  else
    if r.val < 2 then
      (192#32, 1#32)
    else
      (576#32, 2#32)
def k0_off6 (d0 : Dev nD) : Fin 2 → Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_1 : BitVec 32 := 1#32
  let v7 : BitVec 32 := Scalar.andi v6 c1_i32_1
  let c96_i32 : BitVec 32 := 96#32
  let v143 : BitVec 32 := Scalar.muli v7 c96_i32
  let v144 : BitVec 32 := Scalar.addi c0_i32_61 v143
  let c1_i32_216 : BitVec 32 := 1#32
  let c1_i32_2 : BitVec 32 := 1#32
  let v8 : BitVec 32 := Scalar.shrsi v2 c1_i32_2
  let c1_i32_3 : BitVec 32 := 1#32
  let v9 : BitVec 32 := Scalar.andi v8 c1_i32_3
  let v443 : BitVec 32 := Scalar.subi c1_i32_216 v9
  let c48_i32_217 : BitVec 32 := 48#32
  let v444 : BitVec 32 := Scalar.muli v443 c48_i32_217
  let v445 : BitVec 32 := Scalar.addi v144 v444
  let c0_i32_221 : BitVec 32 := 0#32
  ![v445.toNat, 0]
def k0_dev10 (d0 : Dev nD) : Nat :=
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_219 : BitVec 32 := 1#32
  let v446 : BitVec 32 := Scalar.muli v4 c1_i32_219
  let v447 : BitVec 32 := Scalar.addi c0_i32_220 v446
  v447.toNat
def k0_off7 (d0 : Dev nD) (c192_i32 : BitVec 32) (c1_i32_2 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v8 : BitVec 32 := Scalar.shrsi v2 c1_i32_2
  let c1_i32_3 : BitVec 32 := 1#32
  let v9 : BitVec 32 := Scalar.andi v8 c1_i32_3
  let c96_i32_88 : BitVec 32 := 96#32
  let v197 : BitVec 32 := Scalar.muli v9 c96_i32_88
  let v198 : BitVec 32 := Scalar.addi c192_i32 v197
  let c1_i32_236 : BitVec 32 := 1#32
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let v471 : BitVec 32 := Scalar.subi c1_i32_236 v13
  let c48_i32_237 : BitVec 32 := 48#32
  let v472 : BitVec 32 := Scalar.muli v471 c48_i32_237
  let v473 : BitVec 32 := Scalar.addi v198 v472
  let c0_i32_241 : BitVec 32 := 0#32
  ![v473.toNat, 0]
def k0_off7_at (r : Fin 2) : BitVec 32 × BitVec 32 :=
  if r.val < 1 then
    (192#32, 1#32)
  else
    (576#32, 2#32)
def k0_dev11 (d0 : Dev nD) : Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_239 : BitVec 32 := 1#32
  let v474 : BitVec 32 := Scalar.muli v5 c1_i32_239
  let v475 : BitVec 32 := Scalar.addi c0_i32_240 v474
  v475.toNat
def k0_off8 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c96_i32_115 : BitVec 32 := 96#32
  let v251 : BitVec 32 := Scalar.muli v13 c96_i32_115
  let v252 : BitVec 32 := Scalar.addi c384_i32 v251
  let v489 : Index := Scalar.indexCast v252
  let c0_251 : Index := 0#32
  ![v489.toNat, 0]
def k0_off9 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c96_i32_115 : BitVec 32 := 96#32
  let v251 : BitVec 32 := Scalar.muli v13 c96_i32_115
  let v252 : BitVec 32 := Scalar.addi c384_i32 v251
  let c1_i32_256 : BitVec 32 := 1#32
  let c2_i32 : BitVec 32 := 2#32
  let v6 : BitVec 32 := Scalar.shrsi v2 c2_i32
  let c1_i32_1 : BitVec 32 := 1#32
  let v7 : BitVec 32 := Scalar.andi v6 c1_i32_1
  let v499 : BitVec 32 := Scalar.subi c1_i32_256 v7
  let c48_i32_257 : BitVec 32 := 48#32
  let v500 : BitVec 32 := Scalar.muli v499 c48_i32_257
  let v501 : BitVec 32 := Scalar.addi v252 v500
  let c0_i32_262 : BitVec 32 := 0#32
  ![v501.toNat, 0]
def k0_dev12 (d0 : Dev nD) : Nat :=
  let c0_i32_261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.xori v2 c4_i32
  let c1_i32_260 : BitVec 32 := 1#32
  let v502 : BitVec 32 := Scalar.muli v3 c1_i32_260
  let v503 : BitVec 32 := Scalar.addi c0_i32_261 v502
  v503.toNat
def k0_dev13 (d0 : Dev nD) : Nat :=
  let c0_i32_281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_280 : BitVec 32 := 1#32
  let v530 : BitVec 32 := Scalar.muli v5 c1_i32_280
  let v531 : BitVec 32 := Scalar.addi c0_i32_281 v530
  v531.toNat
def k0_off10 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c64_i32 : BitVec 32 := 64#32
  let v359 : BitVec 32 := Scalar.muli v13 c64_i32
  let v360 : BitVec 32 := Scalar.addi c768_i32 v359
  let v545 : Index := Scalar.indexCast v360
  let c0_292 : Index := 0#32
  ![v545.toNat, 0]
def k0_off11 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c64_i32 : BitVec 32 := 64#32
  let v359 : BitVec 32 := Scalar.muli v13 c64_i32
  let v360 : BitVec 32 := Scalar.addi c768_i32 v359
  let c1_i32_296 : BitVec 32 := 1#32
  let c1_i32_2 : BitVec 32 := 1#32
  let v8 : BitVec 32 := Scalar.shrsi v2 c1_i32_2
  let c1_i32_3 : BitVec 32 := 1#32
  let v9 : BitVec 32 := Scalar.andi v8 c1_i32_3
  let v555 : BitVec 32 := Scalar.subi c1_i32_296 v9
  let c32_i32_297 : BitVec 32 := 32#32
  let v556 : BitVec 32 := Scalar.muli v555 c32_i32_297
  let v557 : BitVec 32 := Scalar.addi v360 v556
  let c0_i32_301 : BitVec 32 := 0#32
  ![v557.toNat, 0]
def k0_dev14 (d0 : Dev nD) : Nat :=
  let c0_i32_300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_299 : BitVec 32 := 1#32
  let v558 : BitVec 32 := Scalar.muli v4 c1_i32_299
  let v559 : BitVec 32 := Scalar.addi c0_i32_300 v558
  v559.toNat
def k0_off12 (d0 : Dev nD) : Fin 2 → Nat :=
  let c896_i32 : BitVec 32 := 896#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v8 : BitVec 32 := Scalar.shrsi v2 c1_i32_2
  let c1_i32_3 : BitVec 32 := 1#32
  let v9 : BitVec 32 := Scalar.andi v8 c1_i32_3
  let c64_i32_195 : BitVec 32 := 64#32
  let v413 : BitVec 32 := Scalar.muli v9 c64_i32_195
  let v414 : BitVec 32 := Scalar.addi c896_i32 v413
  let v573 : Index := Scalar.indexCast v414
  let c0_311 : Index := 0#32
  ![v573.toNat, 0]
def k0_off13 (d0 : Dev nD) : Fin 2 → Nat :=
  let c896_i32 : BitVec 32 := 896#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v8 : BitVec 32 := Scalar.shrsi v2 c1_i32_2
  let c1_i32_3 : BitVec 32 := 1#32
  let v9 : BitVec 32 := Scalar.andi v8 c1_i32_3
  let c64_i32_195 : BitVec 32 := 64#32
  let v413 : BitVec 32 := Scalar.muli v9 c64_i32_195
  let v414 : BitVec 32 := Scalar.addi c896_i32 v413
  let c1_i32_316 : BitVec 32 := 1#32
  let c2_i32 : BitVec 32 := 2#32
  let v6 : BitVec 32 := Scalar.shrsi v2 c2_i32
  let c1_i32_1 : BitVec 32 := 1#32
  let v7 : BitVec 32 := Scalar.andi v6 c1_i32_1
  let v583 : BitVec 32 := Scalar.subi c1_i32_316 v7
  let c32_i32_317 : BitVec 32 := 32#32
  let v584 : BitVec 32 := Scalar.muli v583 c32_i32_317
  let v585 : BitVec 32 := Scalar.addi v414 v584
  let c0_i32_321 : BitVec 32 := 0#32
  ![v585.toNat, 0]
def k0_dev15 (d0 : Dev nD) : Nat :=
  let c0_i32_320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.xori v2 c4_i32
  let c1_i32_319 : BitVec 32 := 1#32
  let v586 : BitVec 32 := Scalar.muli v3 c1_i32_319
  let v587 : BitVec 32 := Scalar.addi c0_i32_320 v586
  v587.toNat
def k0_off14 (d0 : Dev nD) : Fin 2 → Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_1 : BitVec 32 := 1#32
  let v7 : BitVec 32 := Scalar.andi v6 c1_i32_1
  let c96_i32 : BitVec 32 := 96#32
  let v143 : BitVec 32 := Scalar.muli v7 c96_i32
  let v144 : BitVec 32 := Scalar.addi c0_i32_61 v143
  let c1_i32_2 : BitVec 32 := 1#32
  let v8 : BitVec 32 := Scalar.shrsi v2 c1_i32_2
  let c1_i32_3 : BitVec 32 := 1#32
  let v9 : BitVec 32 := Scalar.andi v8 c1_i32_3
  let c48_i32 : BitVec 32 := 48#32
  let v441 : BitVec 32 := Scalar.muli v9 c48_i32
  let v442 : BitVec 32 := Scalar.addi v144 v441
  let v601 : Index := Scalar.indexCast v442
  let c0_331 : Index := 0#32
  ![v601.toNat, 0]
def k0_off15 (d0 : Dev nD) : Fin 2 → Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_1 : BitVec 32 := 1#32
  let v7 : BitVec 32 := Scalar.andi v6 c1_i32_1
  let c96_i32 : BitVec 32 := 96#32
  let v143 : BitVec 32 := Scalar.muli v7 c96_i32
  let v144 : BitVec 32 := Scalar.addi c0_i32_61 v143
  let c1_i32_2 : BitVec 32 := 1#32
  let v8 : BitVec 32 := Scalar.shrsi v2 c1_i32_2
  let c1_i32_3 : BitVec 32 := 1#32
  let v9 : BitVec 32 := Scalar.andi v8 c1_i32_3
  let c48_i32 : BitVec 32 := 48#32
  let v441 : BitVec 32 := Scalar.muli v9 c48_i32
  let v442 : BitVec 32 := Scalar.addi v144 v441
  let c1_i32_335 : BitVec 32 := 1#32
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let v611 : BitVec 32 := Scalar.subi c1_i32_335 v13
  let c24_i32_336 : BitVec 32 := 24#32
  let v612 : BitVec 32 := Scalar.muli v611 c24_i32_336
  let v613 : BitVec 32 := Scalar.addi v442 v612
  let c0_i32_340 : BitVec 32 := 0#32
  ![v613.toNat, 0]
def k0_dev16 (d0 : Dev nD) : Nat :=
  let c0_i32_339 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_338 : BitVec 32 := 1#32
  let v614 : BitVec 32 := Scalar.muli v5 c1_i32_338
  let v615 : BitVec 32 := Scalar.addi c0_i32_339 v614
  v615.toNat
def k0_off16 (d0 : Dev nD) (c192_i32 : BitVec 32) (c1_i32_2 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v8 : BitVec 32 := Scalar.shrsi v2 c1_i32_2
  let c1_i32_3 : BitVec 32 := 1#32
  let v9 : BitVec 32 := Scalar.andi v8 c1_i32_3
  let c96_i32_88 : BitVec 32 := 96#32
  let v197 : BitVec 32 := Scalar.muli v9 c96_i32_88
  let v198 : BitVec 32 := Scalar.addi c192_i32 v197
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c48_i32_235 : BitVec 32 := 48#32
  let v469 : BitVec 32 := Scalar.muli v13 c48_i32_235
  let v470 : BitVec 32 := Scalar.addi v198 v469
  let v629 : Index := Scalar.indexCast v470
  let c0_350 : Index := 0#32
  ![v629.toNat, 0]
def k0_off16_at (r : Fin 2) : BitVec 32 × BitVec 32 :=
  if r.val < 1 then
    (192#32, 1#32)
  else
    (576#32, 2#32)
def k0_off17 (d0 : Dev nD) (c192_i32 : BitVec 32) (c1_i32_2 : BitVec 32) (c2_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v8 : BitVec 32 := Scalar.shrsi v2 c1_i32_2
  let c1_i32_3 : BitVec 32 := 1#32
  let v9 : BitVec 32 := Scalar.andi v8 c1_i32_3
  let c96_i32_88 : BitVec 32 := 96#32
  let v197 : BitVec 32 := Scalar.muli v9 c96_i32_88
  let v198 : BitVec 32 := Scalar.addi c192_i32 v197
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c48_i32_235 : BitVec 32 := 48#32
  let v469 : BitVec 32 := Scalar.muli v13 c48_i32_235
  let v470 : BitVec 32 := Scalar.addi v198 v469
  let c1_i32_355 : BitVec 32 := 1#32
  let v6 : BitVec 32 := Scalar.shrsi v2 c2_i32
  let c1_i32_1 : BitVec 32 := 1#32
  let v7 : BitVec 32 := Scalar.andi v6 c1_i32_1
  let v639 : BitVec 32 := Scalar.subi c1_i32_355 v7
  let c24_i32_356 : BitVec 32 := 24#32
  let v640 : BitVec 32 := Scalar.muli v639 c24_i32_356
  let v641 : BitVec 32 := Scalar.addi v470 v640
  let c0_i32_360 : BitVec 32 := 0#32
  ![v641.toNat, 0]
def k0_off17_at (r : Fin 2) : BitVec 32 × BitVec 32 × BitVec 32 :=
  if r.val < 1 then
    (192#32, 1#32, 2#32)
  else
    (576#32, 2#32, 1#32)
def k0_dev17 (d0 : Dev nD) : Nat :=
  let c0_i32_359 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.xori v2 c4_i32
  let c1_i32_358 : BitVec 32 := 1#32
  let v642 : BitVec 32 := Scalar.muli v3 c1_i32_358
  let v643 : BitVec 32 := Scalar.addi c0_i32_359 v642
  v643.toNat
def k0_off18 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c96_i32_115 : BitVec 32 := 96#32
  let v251 : BitVec 32 := Scalar.muli v13 c96_i32_115
  let v252 : BitVec 32 := Scalar.addi c384_i32 v251
  let c2_i32 : BitVec 32 := 2#32
  let v6 : BitVec 32 := Scalar.shrsi v2 c2_i32
  let c1_i32_1 : BitVec 32 := 1#32
  let v7 : BitVec 32 := Scalar.andi v6 c1_i32_1
  let c48_i32_255 : BitVec 32 := 48#32
  let v497 : BitVec 32 := Scalar.muli v7 c48_i32_255
  let v498 : BitVec 32 := Scalar.addi v252 v497
  let v657 : Index := Scalar.indexCast v498
  let c0_370 : Index := 0#32
  ![v657.toNat, 0]
def k0_off19 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c96_i32_115 : BitVec 32 := 96#32
  let v251 : BitVec 32 := Scalar.muli v13 c96_i32_115
  let v252 : BitVec 32 := Scalar.addi c384_i32 v251
  let c2_i32 : BitVec 32 := 2#32
  let v6 : BitVec 32 := Scalar.shrsi v2 c2_i32
  let c1_i32_1 : BitVec 32 := 1#32
  let v7 : BitVec 32 := Scalar.andi v6 c1_i32_1
  let c48_i32_255 : BitVec 32 := 48#32
  let v497 : BitVec 32 := Scalar.muli v7 c48_i32_255
  let v498 : BitVec 32 := Scalar.addi v252 v497
  let c1_i32_375 : BitVec 32 := 1#32
  let c1_i32_2 : BitVec 32 := 1#32
  let v8 : BitVec 32 := Scalar.shrsi v2 c1_i32_2
  let c1_i32_3 : BitVec 32 := 1#32
  let v9 : BitVec 32 := Scalar.andi v8 c1_i32_3
  let v667 : BitVec 32 := Scalar.subi c1_i32_375 v9
  let c24_i32_376 : BitVec 32 := 24#32
  let v668 : BitVec 32 := Scalar.muli v667 c24_i32_376
  let v669 : BitVec 32 := Scalar.addi v498 v668
  let c0_i32_380 : BitVec 32 := 0#32
  ![v669.toNat, 0]
def k0_dev18 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_378 : BitVec 32 := 1#32
  let v670 : BitVec 32 := Scalar.muli v4 c1_i32_378
  let v671 : BitVec 32 := Scalar.addi c0_i32_379 v670
  v671.toNat
def k0_dev19 (d0 : Dev nD) : Nat :=
  let c0_i32_399 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_398 : BitVec 32 := 1#32
  let v698 : BitVec 32 := Scalar.muli v4 c1_i32_398
  let v699 : BitVec 32 := Scalar.addi c0_i32_399 v698
  v699.toNat
def k0_off20 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c64_i32 : BitVec 32 := 64#32
  let v359 : BitVec 32 := Scalar.muli v13 c64_i32
  let v360 : BitVec 32 := Scalar.addi c768_i32 v359
  let c1_i32_2 : BitVec 32 := 1#32
  let v8 : BitVec 32 := Scalar.shrsi v2 c1_i32_2
  let c1_i32_3 : BitVec 32 := 1#32
  let v9 : BitVec 32 := Scalar.andi v8 c1_i32_3
  let c32_i32 : BitVec 32 := 32#32
  let v553 : BitVec 32 := Scalar.muli v9 c32_i32
  let v554 : BitVec 32 := Scalar.addi v360 v553
  let v713 : Index := Scalar.indexCast v554
  let c0_410 : Index := 0#32
  ![v713.toNat, 0]
def k0_off21 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c64_i32 : BitVec 32 := 64#32
  let v359 : BitVec 32 := Scalar.muli v13 c64_i32
  let v360 : BitVec 32 := Scalar.addi c768_i32 v359
  let c1_i32_2 : BitVec 32 := 1#32
  let v8 : BitVec 32 := Scalar.shrsi v2 c1_i32_2
  let c1_i32_3 : BitVec 32 := 1#32
  let v9 : BitVec 32 := Scalar.andi v8 c1_i32_3
  let c32_i32 : BitVec 32 := 32#32
  let v553 : BitVec 32 := Scalar.muli v9 c32_i32
  let v554 : BitVec 32 := Scalar.addi v360 v553
  let c1_i32_414 : BitVec 32 := 1#32
  let c2_i32 : BitVec 32 := 2#32
  let v6 : BitVec 32 := Scalar.shrsi v2 c2_i32
  let c1_i32_1 : BitVec 32 := 1#32
  let v7 : BitVec 32 := Scalar.andi v6 c1_i32_1
  let v723 : BitVec 32 := Scalar.subi c1_i32_414 v7
  let c16_i32_415 : BitVec 32 := 16#32
  let v724 : BitVec 32 := Scalar.muli v723 c16_i32_415
  let v725 : BitVec 32 := Scalar.addi v554 v724
  let c0_i32_420 : BitVec 32 := 0#32
  ![v725.toNat, 0]
def k0_dev20 (d0 : Dev nD) : Nat :=
  let c0_i32_419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.xori v2 c4_i32
  let c1_i32_418 : BitVec 32 := 1#32
  let v726 : BitVec 32 := Scalar.muli v3 c1_i32_418
  let v727 : BitVec 32 := Scalar.addi c0_i32_419 v726
  v727.toNat
def k0_off22 (d0 : Dev nD) : Fin 2 → Nat :=
  let c896_i32 : BitVec 32 := 896#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v8 : BitVec 32 := Scalar.shrsi v2 c1_i32_2
  let c1_i32_3 : BitVec 32 := 1#32
  let v9 : BitVec 32 := Scalar.andi v8 c1_i32_3
  let c64_i32_195 : BitVec 32 := 64#32
  let v413 : BitVec 32 := Scalar.muli v9 c64_i32_195
  let v414 : BitVec 32 := Scalar.addi c896_i32 v413
  let c2_i32 : BitVec 32 := 2#32
  let v6 : BitVec 32 := Scalar.shrsi v2 c2_i32
  let c1_i32_1 : BitVec 32 := 1#32
  let v7 : BitVec 32 := Scalar.andi v6 c1_i32_1
  let c32_i32_315 : BitVec 32 := 32#32
  let v581 : BitVec 32 := Scalar.muli v7 c32_i32_315
  let v582 : BitVec 32 := Scalar.addi v414 v581
  let v741 : Index := Scalar.indexCast v582
  let c0_430 : Index := 0#32
  ![v741.toNat, 0]
def k0_off23 (d0 : Dev nD) : Fin 2 → Nat :=
  let c896_i32 : BitVec 32 := 896#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v8 : BitVec 32 := Scalar.shrsi v2 c1_i32_2
  let c1_i32_3 : BitVec 32 := 1#32
  let v9 : BitVec 32 := Scalar.andi v8 c1_i32_3
  let c64_i32_195 : BitVec 32 := 64#32
  let v413 : BitVec 32 := Scalar.muli v9 c64_i32_195
  let v414 : BitVec 32 := Scalar.addi c896_i32 v413
  let c2_i32 : BitVec 32 := 2#32
  let v6 : BitVec 32 := Scalar.shrsi v2 c2_i32
  let c1_i32_1 : BitVec 32 := 1#32
  let v7 : BitVec 32 := Scalar.andi v6 c1_i32_1
  let c32_i32_315 : BitVec 32 := 32#32
  let v581 : BitVec 32 := Scalar.muli v7 c32_i32_315
  let v582 : BitVec 32 := Scalar.addi v414 v581
  let c1_i32_435 : BitVec 32 := 1#32
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let v751 : BitVec 32 := Scalar.subi c1_i32_435 v13
  let c16_i32_436 : BitVec 32 := 16#32
  let v752 : BitVec 32 := Scalar.muli v751 c16_i32_436
  let v753 : BitVec 32 := Scalar.addi v582 v752
  let c0_i32_440 : BitVec 32 := 0#32
  ![v753.toNat, 0]
def k0_dev21 (d0 : Dev nD) : Nat :=
  let c0_i32_439 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_438 : BitVec 32 := 1#32
  let v754 : BitVec 32 := Scalar.muli v5 c1_i32_438
  let v755 : BitVec 32 := Scalar.addi c0_i32_439 v754
  v755.toNat
def k0_off24 (d0 : Dev nD) : Fin 2 → Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_1 : BitVec 32 := 1#32
  let v7 : BitVec 32 := Scalar.andi v6 c1_i32_1
  let c96_i32 : BitVec 32 := 96#32
  let v143 : BitVec 32 := Scalar.muli v7 c96_i32
  let v144 : BitVec 32 := Scalar.addi c0_i32_61 v143
  let c1_i32_2 : BitVec 32 := 1#32
  let v8 : BitVec 32 := Scalar.shrsi v2 c1_i32_2
  let c1_i32_3 : BitVec 32 := 1#32
  let v9 : BitVec 32 := Scalar.andi v8 c1_i32_3
  let c48_i32 : BitVec 32 := 48#32
  let v441 : BitVec 32 := Scalar.muli v9 c48_i32
  let v442 : BitVec 32 := Scalar.addi v144 v441
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c24_i32 : BitVec 32 := 24#32
  let v609 : BitVec 32 := Scalar.muli v13 c24_i32
  let v610 : BitVec 32 := Scalar.addi v442 v609
  let v769 : Index := Scalar.indexCast v610
  let c0_450 : Index := 0#32
  ![v769.toNat, 0]
def k0_off25 (d0 : Dev nD) : Fin 2 → Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_1 : BitVec 32 := 1#32
  let v7 : BitVec 32 := Scalar.andi v6 c1_i32_1
  let c96_i32 : BitVec 32 := 96#32
  let v143 : BitVec 32 := Scalar.muli v7 c96_i32
  let v144 : BitVec 32 := Scalar.addi c0_i32_61 v143
  let c1_i32_2 : BitVec 32 := 1#32
  let v8 : BitVec 32 := Scalar.shrsi v2 c1_i32_2
  let c1_i32_3 : BitVec 32 := 1#32
  let v9 : BitVec 32 := Scalar.andi v8 c1_i32_3
  let c48_i32 : BitVec 32 := 48#32
  let v441 : BitVec 32 := Scalar.muli v9 c48_i32
  let v442 : BitVec 32 := Scalar.addi v144 v441
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c24_i32 : BitVec 32 := 24#32
  let v609 : BitVec 32 := Scalar.muli v13 c24_i32
  let v610 : BitVec 32 := Scalar.addi v442 v609
  let c0_i32_457 : BitVec 32 := 0#32
  ![v610.toNat, 0]
def k0_dev22 (d0 : Dev nD) : Nat :=
  let c0_i32_456 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_455 : BitVec 32 := 1#32
  let v777 : BitVec 32 := Scalar.muli v5 c1_i32_455
  let v778 : BitVec 32 := Scalar.addi c0_i32_456 v777
  v778.toNat
def k0_off26 (d0 : Dev nD) (c192_i32 : BitVec 32) (c1_i32_2 : BitVec 32) (c2_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v8 : BitVec 32 := Scalar.shrsi v2 c1_i32_2
  let c1_i32_3 : BitVec 32 := 1#32
  let v9 : BitVec 32 := Scalar.andi v8 c1_i32_3
  let c96_i32_88 : BitVec 32 := 96#32
  let v197 : BitVec 32 := Scalar.muli v9 c96_i32_88
  let v198 : BitVec 32 := Scalar.addi c192_i32 v197
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c48_i32_235 : BitVec 32 := 48#32
  let v469 : BitVec 32 := Scalar.muli v13 c48_i32_235
  let v470 : BitVec 32 := Scalar.addi v198 v469
  let v6 : BitVec 32 := Scalar.shrsi v2 c2_i32
  let c1_i32_1 : BitVec 32 := 1#32
  let v7 : BitVec 32 := Scalar.andi v6 c1_i32_1
  let c24_i32_354 : BitVec 32 := 24#32
  let v637 : BitVec 32 := Scalar.muli v7 c24_i32_354
  let v638 : BitVec 32 := Scalar.addi v470 v637
  let v793 : Index := Scalar.indexCast v638
  let c0_468 : Index := 0#32
  ![v793.toNat, 0]
def k0_off26_at (r : Fin 2) : BitVec 32 × BitVec 32 × BitVec 32 :=
  if r.val < 1 then
    (192#32, 1#32, 2#32)
  else
    (576#32, 2#32, 1#32)
def k0_off27 (d0 : Dev nD) (c192_i32 : BitVec 32) (c1_i32_2 : BitVec 32) (c2_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v8 : BitVec 32 := Scalar.shrsi v2 c1_i32_2
  let c1_i32_3 : BitVec 32 := 1#32
  let v9 : BitVec 32 := Scalar.andi v8 c1_i32_3
  let c96_i32_88 : BitVec 32 := 96#32
  let v197 : BitVec 32 := Scalar.muli v9 c96_i32_88
  let v198 : BitVec 32 := Scalar.addi c192_i32 v197
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c48_i32_235 : BitVec 32 := 48#32
  let v469 : BitVec 32 := Scalar.muli v13 c48_i32_235
  let v470 : BitVec 32 := Scalar.addi v198 v469
  let v6 : BitVec 32 := Scalar.shrsi v2 c2_i32
  let c1_i32_1 : BitVec 32 := 1#32
  let v7 : BitVec 32 := Scalar.andi v6 c1_i32_1
  let c24_i32_354 : BitVec 32 := 24#32
  let v637 : BitVec 32 := Scalar.muli v7 c24_i32_354
  let v638 : BitVec 32 := Scalar.addi v470 v637
  let c0_i32_475 : BitVec 32 := 0#32
  ![v638.toNat, 0]
def k0_off27_at (r : Fin 2) : BitVec 32 × BitVec 32 × BitVec 32 :=
  if r.val < 1 then
    (192#32, 1#32, 2#32)
  else
    (576#32, 2#32, 1#32)
def k0_dev23 (d0 : Dev nD) : Nat :=
  let c0_i32_474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.xori v2 c4_i32
  let c1_i32_473 : BitVec 32 := 1#32
  let v801 : BitVec 32 := Scalar.muli v3 c1_i32_473
  let v802 : BitVec 32 := Scalar.addi c0_i32_474 v801
  v802.toNat
def k0_off28 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c96_i32_115 : BitVec 32 := 96#32
  let v251 : BitVec 32 := Scalar.muli v13 c96_i32_115
  let v252 : BitVec 32 := Scalar.addi c384_i32 v251
  let c2_i32 : BitVec 32 := 2#32
  let v6 : BitVec 32 := Scalar.shrsi v2 c2_i32
  let c1_i32_1 : BitVec 32 := 1#32
  let v7 : BitVec 32 := Scalar.andi v6 c1_i32_1
  let c48_i32_255 : BitVec 32 := 48#32
  let v497 : BitVec 32 := Scalar.muli v7 c48_i32_255
  let v498 : BitVec 32 := Scalar.addi v252 v497
  let c1_i32_2 : BitVec 32 := 1#32
  let v8 : BitVec 32 := Scalar.shrsi v2 c1_i32_2
  let c1_i32_3 : BitVec 32 := 1#32
  let v9 : BitVec 32 := Scalar.andi v8 c1_i32_3
  let c24_i32_374 : BitVec 32 := 24#32
  let v665 : BitVec 32 := Scalar.muli v9 c24_i32_374
  let v666 : BitVec 32 := Scalar.addi v498 v665
  let v817 : Index := Scalar.indexCast v666
  let c0_486 : Index := 0#32
  ![v817.toNat, 0]
def k0_off29 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c96_i32_115 : BitVec 32 := 96#32
  let v251 : BitVec 32 := Scalar.muli v13 c96_i32_115
  let v252 : BitVec 32 := Scalar.addi c384_i32 v251
  let c2_i32 : BitVec 32 := 2#32
  let v6 : BitVec 32 := Scalar.shrsi v2 c2_i32
  let c1_i32_1 : BitVec 32 := 1#32
  let v7 : BitVec 32 := Scalar.andi v6 c1_i32_1
  let c48_i32_255 : BitVec 32 := 48#32
  let v497 : BitVec 32 := Scalar.muli v7 c48_i32_255
  let v498 : BitVec 32 := Scalar.addi v252 v497
  let c1_i32_2 : BitVec 32 := 1#32
  let v8 : BitVec 32 := Scalar.shrsi v2 c1_i32_2
  let c1_i32_3 : BitVec 32 := 1#32
  let v9 : BitVec 32 := Scalar.andi v8 c1_i32_3
  let c24_i32_374 : BitVec 32 := 24#32
  let v665 : BitVec 32 := Scalar.muli v9 c24_i32_374
  let v666 : BitVec 32 := Scalar.addi v498 v665
  let c0_i32_493 : BitVec 32 := 0#32
  ![v666.toNat, 0]
def k0_dev24 (d0 : Dev nD) : Nat :=
  let c0_i32_492 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_491 : BitVec 32 := 1#32
  let v825 : BitVec 32 := Scalar.muli v4 c1_i32_491
  let v826 : BitVec 32 := Scalar.addi c0_i32_492 v825
  v826.toNat
def k0_dev25 (d0 : Dev nD) : Nat :=
  let c0_i32_510 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_509 : BitVec 32 := 1#32
  let v849 : BitVec 32 := Scalar.muli v4 c1_i32_509
  let v850 : BitVec 32 := Scalar.addi c0_i32_510 v849
  v850.toNat
def k0_off30 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c64_i32 : BitVec 32 := 64#32
  let v359 : BitVec 32 := Scalar.muli v13 c64_i32
  let v360 : BitVec 32 := Scalar.addi c768_i32 v359
  let c1_i32_2 : BitVec 32 := 1#32
  let v8 : BitVec 32 := Scalar.shrsi v2 c1_i32_2
  let c1_i32_3 : BitVec 32 := 1#32
  let v9 : BitVec 32 := Scalar.andi v8 c1_i32_3
  let c32_i32 : BitVec 32 := 32#32
  let v553 : BitVec 32 := Scalar.muli v9 c32_i32
  let v554 : BitVec 32 := Scalar.addi v360 v553
  let c2_i32 : BitVec 32 := 2#32
  let v6 : BitVec 32 := Scalar.shrsi v2 c2_i32
  let c1_i32_1 : BitVec 32 := 1#32
  let v7 : BitVec 32 := Scalar.andi v6 c1_i32_1
  let c16_i32 : BitVec 32 := 16#32
  let v721 : BitVec 32 := Scalar.muli v7 c16_i32
  let v722 : BitVec 32 := Scalar.addi v554 v721
  let v865 : Index := Scalar.indexCast v722
  let c0_522 : Index := 0#32
  ![v865.toNat, 0]
def k0_off31 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c64_i32 : BitVec 32 := 64#32
  let v359 : BitVec 32 := Scalar.muli v13 c64_i32
  let v360 : BitVec 32 := Scalar.addi c768_i32 v359
  let c1_i32_2 : BitVec 32 := 1#32
  let v8 : BitVec 32 := Scalar.shrsi v2 c1_i32_2
  let c1_i32_3 : BitVec 32 := 1#32
  let v9 : BitVec 32 := Scalar.andi v8 c1_i32_3
  let c32_i32 : BitVec 32 := 32#32
  let v553 : BitVec 32 := Scalar.muli v9 c32_i32
  let v554 : BitVec 32 := Scalar.addi v360 v553
  let c2_i32 : BitVec 32 := 2#32
  let v6 : BitVec 32 := Scalar.shrsi v2 c2_i32
  let c1_i32_1 : BitVec 32 := 1#32
  let v7 : BitVec 32 := Scalar.andi v6 c1_i32_1
  let c16_i32 : BitVec 32 := 16#32
  let v721 : BitVec 32 := Scalar.muli v7 c16_i32
  let v722 : BitVec 32 := Scalar.addi v554 v721
  let c0_i32_529 : BitVec 32 := 0#32
  ![v722.toNat, 0]
def k0_dev26 (d0 : Dev nD) : Nat :=
  let c0_i32_528 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.xori v2 c4_i32
  let c1_i32_527 : BitVec 32 := 1#32
  let v873 : BitVec 32 := Scalar.muli v3 c1_i32_527
  let v874 : BitVec 32 := Scalar.addi c0_i32_528 v873
  v874.toNat
def k0_off32 (d0 : Dev nD) : Fin 2 → Nat :=
  let c896_i32 : BitVec 32 := 896#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v8 : BitVec 32 := Scalar.shrsi v2 c1_i32_2
  let c1_i32_3 : BitVec 32 := 1#32
  let v9 : BitVec 32 := Scalar.andi v8 c1_i32_3
  let c64_i32_195 : BitVec 32 := 64#32
  let v413 : BitVec 32 := Scalar.muli v9 c64_i32_195
  let v414 : BitVec 32 := Scalar.addi c896_i32 v413
  let c2_i32 : BitVec 32 := 2#32
  let v6 : BitVec 32 := Scalar.shrsi v2 c2_i32
  let c1_i32_1 : BitVec 32 := 1#32
  let v7 : BitVec 32 := Scalar.andi v6 c1_i32_1
  let c32_i32_315 : BitVec 32 := 32#32
  let v581 : BitVec 32 := Scalar.muli v7 c32_i32_315
  let v582 : BitVec 32 := Scalar.addi v414 v581
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c16_i32_434 : BitVec 32 := 16#32
  let v749 : BitVec 32 := Scalar.muli v13 c16_i32_434
  let v750 : BitVec 32 := Scalar.addi v582 v749
  let v889 : Index := Scalar.indexCast v750
  let c0_540 : Index := 0#32
  ![v889.toNat, 0]
def k0_off33 (d0 : Dev nD) : Fin 2 → Nat :=
  let c896_i32 : BitVec 32 := 896#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v8 : BitVec 32 := Scalar.shrsi v2 c1_i32_2
  let c1_i32_3 : BitVec 32 := 1#32
  let v9 : BitVec 32 := Scalar.andi v8 c1_i32_3
  let c64_i32_195 : BitVec 32 := 64#32
  let v413 : BitVec 32 := Scalar.muli v9 c64_i32_195
  let v414 : BitVec 32 := Scalar.addi c896_i32 v413
  let c2_i32 : BitVec 32 := 2#32
  let v6 : BitVec 32 := Scalar.shrsi v2 c2_i32
  let c1_i32_1 : BitVec 32 := 1#32
  let v7 : BitVec 32 := Scalar.andi v6 c1_i32_1
  let c32_i32_315 : BitVec 32 := 32#32
  let v581 : BitVec 32 := Scalar.muli v7 c32_i32_315
  let v582 : BitVec 32 := Scalar.addi v414 v581
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c16_i32_434 : BitVec 32 := 16#32
  let v749 : BitVec 32 := Scalar.muli v13 c16_i32_434
  let v750 : BitVec 32 := Scalar.addi v582 v749
  let c0_i32_547 : BitVec 32 := 0#32
  ![v750.toNat, 0]
def k0_dev27 (d0 : Dev nD) : Nat :=
  let c0_i32_546 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_545 : BitVec 32 := 1#32
  let v897 : BitVec 32 := Scalar.muli v5 c1_i32_545
  let v898 : BitVec 32 := Scalar.addi c0_i32_546 v897
  v898.toNat
def k0_off34 (d0 : Dev nD) : Fin 2 → Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_1 : BitVec 32 := 1#32
  let v7 : BitVec 32 := Scalar.andi v6 c1_i32_1
  let c96_i32 : BitVec 32 := 96#32
  let v143 : BitVec 32 := Scalar.muli v7 c96_i32
  let v144 : BitVec 32 := Scalar.addi c0_i32_61 v143
  let c1_i32_2 : BitVec 32 := 1#32
  let v8 : BitVec 32 := Scalar.shrsi v2 c1_i32_2
  let c1_i32_3 : BitVec 32 := 1#32
  let v9 : BitVec 32 := Scalar.andi v8 c1_i32_3
  let c48_i32 : BitVec 32 := 48#32
  let v441 : BitVec 32 := Scalar.muli v9 c48_i32
  let v442 : BitVec 32 := Scalar.addi v144 v441
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c24_i32 : BitVec 32 := 24#32
  let v609 : BitVec 32 := Scalar.muli v13 c24_i32
  let v610 : BitVec 32 := Scalar.addi v442 v609
  let c24_i32_560 : BitVec 32 := 24#32
  let v915 : BitVec 32 := Scalar.muli v13 c24_i32_560
  let v916 : BitVec 32 := Scalar.subi v610 v915
  let c0_i32_565 : BitVec 32 := 0#32
  ![v916.toNat, 0]
def k0_dev28 (d0 : Dev nD) : Nat :=
  let c0_i32_564 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_563 : BitVec 32 := 1#32
  let v917 : BitVec 32 := Scalar.muli v4 c1_i32_563
  let v918 : BitVec 32 := Scalar.addi c0_i32_564 v917
  v918.toNat
def k0_off35 (d0 : Dev nD) (c192_i32 : BitVec 32) (c1_i32_2 : BitVec 32) (c2_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v8 : BitVec 32 := Scalar.shrsi v2 c1_i32_2
  let c1_i32_3 : BitVec 32 := 1#32
  let v9 : BitVec 32 := Scalar.andi v8 c1_i32_3
  let c96_i32_88 : BitVec 32 := 96#32
  let v197 : BitVec 32 := Scalar.muli v9 c96_i32_88
  let v198 : BitVec 32 := Scalar.addi c192_i32 v197
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c48_i32_235 : BitVec 32 := 48#32
  let v469 : BitVec 32 := Scalar.muli v13 c48_i32_235
  let v470 : BitVec 32 := Scalar.addi v198 v469
  let v6 : BitVec 32 := Scalar.shrsi v2 c2_i32
  let c1_i32_1 : BitVec 32 := 1#32
  let v7 : BitVec 32 := Scalar.andi v6 c1_i32_1
  let c24_i32_354 : BitVec 32 := 24#32
  let v637 : BitVec 32 := Scalar.muli v7 c24_i32_354
  let v638 : BitVec 32 := Scalar.addi v470 v637
  let c24_i32_578 : BitVec 32 := 24#32
  let v935 : BitVec 32 := Scalar.muli v7 c24_i32_578
  let v936 : BitVec 32 := Scalar.subi v638 v935
  let c0_i32_582 : BitVec 32 := 0#32
  ![v936.toNat, 0]
def k0_off35_at (r : Fin 2) : BitVec 32 × BitVec 32 × BitVec 32 :=
  if r.val < 1 then
    (192#32, 1#32, 2#32)
  else
    (576#32, 2#32, 1#32)
def k0_dev29 (d0 : Dev nD) : Nat :=
  let c0_i32_581 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_580 : BitVec 32 := 1#32
  let v937 : BitVec 32 := Scalar.muli v5 c1_i32_580
  let v938 : BitVec 32 := Scalar.addi c0_i32_581 v937
  v938.toNat
def k0_off36 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c96_i32_115 : BitVec 32 := 96#32
  let v251 : BitVec 32 := Scalar.muli v13 c96_i32_115
  let v252 : BitVec 32 := Scalar.addi c384_i32 v251
  let c2_i32 : BitVec 32 := 2#32
  let v6 : BitVec 32 := Scalar.shrsi v2 c2_i32
  let c1_i32_1 : BitVec 32 := 1#32
  let v7 : BitVec 32 := Scalar.andi v6 c1_i32_1
  let c48_i32_255 : BitVec 32 := 48#32
  let v497 : BitVec 32 := Scalar.muli v7 c48_i32_255
  let v498 : BitVec 32 := Scalar.addi v252 v497
  let c1_i32_2 : BitVec 32 := 1#32
  let v8 : BitVec 32 := Scalar.shrsi v2 c1_i32_2
  let c1_i32_3 : BitVec 32 := 1#32
  let v9 : BitVec 32 := Scalar.andi v8 c1_i32_3
  let c24_i32_374 : BitVec 32 := 24#32
  let v665 : BitVec 32 := Scalar.muli v9 c24_i32_374
  let v666 : BitVec 32 := Scalar.addi v498 v665
  let c24_i32_595 : BitVec 32 := 24#32
  let v955 : BitVec 32 := Scalar.muli v9 c24_i32_595
  let v956 : BitVec 32 := Scalar.subi v666 v955
  let c0_i32_599 : BitVec 32 := 0#32
  ![v956.toNat, 0]
def k0_dev30 (d0 : Dev nD) : Nat :=
  let c0_i32_598 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.xori v2 c4_i32
  let c1_i32_597 : BitVec 32 := 1#32
  let v957 : BitVec 32 := Scalar.muli v3 c1_i32_597
  let v958 : BitVec 32 := Scalar.addi c0_i32_598 v957
  v958.toNat
def k0_dev31 (d0 : Dev nD) : Nat :=
  let c0_i32_615 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_614 : BitVec 32 := 1#32
  let v977 : BitVec 32 := Scalar.muli v5 c1_i32_614
  let v978 : BitVec 32 := Scalar.addi c0_i32_615 v977
  v978.toNat
def k0_off37 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c64_i32 : BitVec 32 := 64#32
  let v359 : BitVec 32 := Scalar.muli v13 c64_i32
  let v360 : BitVec 32 := Scalar.addi c768_i32 v359
  let c1_i32_2 : BitVec 32 := 1#32
  let v8 : BitVec 32 := Scalar.shrsi v2 c1_i32_2
  let c1_i32_3 : BitVec 32 := 1#32
  let v9 : BitVec 32 := Scalar.andi v8 c1_i32_3
  let c32_i32 : BitVec 32 := 32#32
  let v553 : BitVec 32 := Scalar.muli v9 c32_i32
  let v554 : BitVec 32 := Scalar.addi v360 v553
  let c2_i32 : BitVec 32 := 2#32
  let v6 : BitVec 32 := Scalar.shrsi v2 c2_i32
  let c1_i32_1 : BitVec 32 := 1#32
  let v7 : BitVec 32 := Scalar.andi v6 c1_i32_1
  let c16_i32 : BitVec 32 := 16#32
  let v721 : BitVec 32 := Scalar.muli v7 c16_i32
  let v722 : BitVec 32 := Scalar.addi v554 v721
  let c16_i32_629 : BitVec 32 := 16#32
  let v995 : BitVec 32 := Scalar.muli v7 c16_i32_629
  let v996 : BitVec 32 := Scalar.subi v722 v995
  let c0_i32_633 : BitVec 32 := 0#32
  ![v996.toNat, 0]
def k0_dev32 (d0 : Dev nD) : Nat :=
  let c0_i32_632 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_631 : BitVec 32 := 1#32
  let v997 : BitVec 32 := Scalar.muli v4 c1_i32_631
  let v998 : BitVec 32 := Scalar.addi c0_i32_632 v997
  v998.toNat
def k0_off38 (d0 : Dev nD) : Fin 2 → Nat :=
  let c896_i32 : BitVec 32 := 896#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v8 : BitVec 32 := Scalar.shrsi v2 c1_i32_2
  let c1_i32_3 : BitVec 32 := 1#32
  let v9 : BitVec 32 := Scalar.andi v8 c1_i32_3
  let c64_i32_195 : BitVec 32 := 64#32
  let v413 : BitVec 32 := Scalar.muli v9 c64_i32_195
  let v414 : BitVec 32 := Scalar.addi c896_i32 v413
  let c2_i32 : BitVec 32 := 2#32
  let v6 : BitVec 32 := Scalar.shrsi v2 c2_i32
  let c1_i32_1 : BitVec 32 := 1#32
  let v7 : BitVec 32 := Scalar.andi v6 c1_i32_1
  let c32_i32_315 : BitVec 32 := 32#32
  let v581 : BitVec 32 := Scalar.muli v7 c32_i32_315
  let v582 : BitVec 32 := Scalar.addi v414 v581
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c16_i32_434 : BitVec 32 := 16#32
  let v749 : BitVec 32 := Scalar.muli v13 c16_i32_434
  let v750 : BitVec 32 := Scalar.addi v582 v749
  let c16_i32_646 : BitVec 32 := 16#32
  let v1015 : BitVec 32 := Scalar.muli v13 c16_i32_646
  let v1016 : BitVec 32 := Scalar.subi v750 v1015
  let c0_i32_650 : BitVec 32 := 0#32
  ![v1016.toNat, 0]
def k0_dev33 (d0 : Dev nD) : Nat :=
  let c0_i32_649 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.xori v2 c4_i32
  let c1_i32_648 : BitVec 32 := 1#32
  let v1017 : BitVec 32 := Scalar.muli v3 c1_i32_648
  let v1018 : BitVec 32 := Scalar.addi c0_i32_649 v1017
  v1018.toNat
def k0_off39 (d0 : Dev nD) : Fin 2 → Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_1 : BitVec 32 := 1#32
  let v7 : BitVec 32 := Scalar.andi v6 c1_i32_1
  let c96_i32 : BitVec 32 := 96#32
  let v143 : BitVec 32 := Scalar.muli v7 c96_i32
  let v144 : BitVec 32 := Scalar.addi c0_i32_61 v143
  let c1_i32_2 : BitVec 32 := 1#32
  let v8 : BitVec 32 := Scalar.shrsi v2 c1_i32_2
  let c1_i32_3 : BitVec 32 := 1#32
  let v9 : BitVec 32 := Scalar.andi v8 c1_i32_3
  let c48_i32 : BitVec 32 := 48#32
  let v441 : BitVec 32 := Scalar.muli v9 c48_i32
  let v442 : BitVec 32 := Scalar.addi v144 v441
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c24_i32 : BitVec 32 := 24#32
  let v609 : BitVec 32 := Scalar.muli v13 c24_i32
  let v610 : BitVec 32 := Scalar.addi v442 v609
  let c24_i32_560 : BitVec 32 := 24#32
  let v915 : BitVec 32 := Scalar.muli v13 c24_i32_560
  let v916 : BitVec 32 := Scalar.subi v610 v915
  let c48_i32_663 : BitVec 32 := 48#32
  let v1035 : BitVec 32 := Scalar.muli v9 c48_i32_663
  let v1036 : BitVec 32 := Scalar.subi v916 v1035
  let c0_i32_667 : BitVec 32 := 0#32
  ![v1036.toNat, 0]
def k0_dev34 (d0 : Dev nD) : Nat :=
  let c0_i32_666 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.xori v2 c4_i32
  let c1_i32_665 : BitVec 32 := 1#32
  let v1037 : BitVec 32 := Scalar.muli v3 c1_i32_665
  let v1038 : BitVec 32 := Scalar.addi c0_i32_666 v1037
  v1038.toNat
def k0_off40 (d0 : Dev nD) (c192_i32 : BitVec 32) (c1_i32_2 : BitVec 32) (c2_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v8 : BitVec 32 := Scalar.shrsi v2 c1_i32_2
  let c1_i32_3 : BitVec 32 := 1#32
  let v9 : BitVec 32 := Scalar.andi v8 c1_i32_3
  let c96_i32_88 : BitVec 32 := 96#32
  let v197 : BitVec 32 := Scalar.muli v9 c96_i32_88
  let v198 : BitVec 32 := Scalar.addi c192_i32 v197
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c48_i32_235 : BitVec 32 := 48#32
  let v469 : BitVec 32 := Scalar.muli v13 c48_i32_235
  let v470 : BitVec 32 := Scalar.addi v198 v469
  let v6 : BitVec 32 := Scalar.shrsi v2 c2_i32
  let c1_i32_1 : BitVec 32 := 1#32
  let v7 : BitVec 32 := Scalar.andi v6 c1_i32_1
  let c24_i32_354 : BitVec 32 := 24#32
  let v637 : BitVec 32 := Scalar.muli v7 c24_i32_354
  let v638 : BitVec 32 := Scalar.addi v470 v637
  let c24_i32_578 : BitVec 32 := 24#32
  let v935 : BitVec 32 := Scalar.muli v7 c24_i32_578
  let v936 : BitVec 32 := Scalar.subi v638 v935
  let c48_i32_680 : BitVec 32 := 48#32
  let v1055 : BitVec 32 := Scalar.muli v13 c48_i32_680
  let v1056 : BitVec 32 := Scalar.subi v936 v1055
  let c0_i32_684 : BitVec 32 := 0#32
  ![v1056.toNat, 0]
def k0_off40_at (r : Fin 2) : BitVec 32 × BitVec 32 × BitVec 32 :=
  if r.val < 1 then
    (192#32, 1#32, 2#32)
  else
    (576#32, 2#32, 1#32)
def k0_dev35 (d0 : Dev nD) : Nat :=
  let c0_i32_683 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_682 : BitVec 32 := 1#32
  let v1057 : BitVec 32 := Scalar.muli v4 c1_i32_682
  let v1058 : BitVec 32 := Scalar.addi c0_i32_683 v1057
  v1058.toNat
def k0_off41 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c96_i32_115 : BitVec 32 := 96#32
  let v251 : BitVec 32 := Scalar.muli v13 c96_i32_115
  let v252 : BitVec 32 := Scalar.addi c384_i32 v251
  let c2_i32 : BitVec 32 := 2#32
  let v6 : BitVec 32 := Scalar.shrsi v2 c2_i32
  let c1_i32_1 : BitVec 32 := 1#32
  let v7 : BitVec 32 := Scalar.andi v6 c1_i32_1
  let c48_i32_255 : BitVec 32 := 48#32
  let v497 : BitVec 32 := Scalar.muli v7 c48_i32_255
  let v498 : BitVec 32 := Scalar.addi v252 v497
  let c1_i32_2 : BitVec 32 := 1#32
  let v8 : BitVec 32 := Scalar.shrsi v2 c1_i32_2
  let c1_i32_3 : BitVec 32 := 1#32
  let v9 : BitVec 32 := Scalar.andi v8 c1_i32_3
  let c24_i32_374 : BitVec 32 := 24#32
  let v665 : BitVec 32 := Scalar.muli v9 c24_i32_374
  let v666 : BitVec 32 := Scalar.addi v498 v665
  let c24_i32_595 : BitVec 32 := 24#32
  let v955 : BitVec 32 := Scalar.muli v9 c24_i32_595
  let v956 : BitVec 32 := Scalar.subi v666 v955
  let c48_i32_697 : BitVec 32 := 48#32
  let v1075 : BitVec 32 := Scalar.muli v7 c48_i32_697
  let v1076 : BitVec 32 := Scalar.subi v956 v1075
  let c0_i32_702 : BitVec 32 := 0#32
  ![v1076.toNat, 0]
def k0_dev36 (d0 : Dev nD) : Nat :=
  let c0_i32_701 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_700 : BitVec 32 := 1#32
  let v1077 : BitVec 32 := Scalar.muli v5 c1_i32_700
  let v1078 : BitVec 32 := Scalar.addi c0_i32_701 v1077
  v1078.toNat
def k0_dev37 (d0 : Dev nD) : Nat :=
  let c0_i32_718 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.xori v2 c4_i32
  let c1_i32_717 : BitVec 32 := 1#32
  let v1097 : BitVec 32 := Scalar.muli v3 c1_i32_717
  let v1098 : BitVec 32 := Scalar.addi c0_i32_718 v1097
  v1098.toNat
def k0_off42 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c64_i32 : BitVec 32 := 64#32
  let v359 : BitVec 32 := Scalar.muli v13 c64_i32
  let v360 : BitVec 32 := Scalar.addi c768_i32 v359
  let c1_i32_2 : BitVec 32 := 1#32
  let v8 : BitVec 32 := Scalar.shrsi v2 c1_i32_2
  let c1_i32_3 : BitVec 32 := 1#32
  let v9 : BitVec 32 := Scalar.andi v8 c1_i32_3
  let c32_i32 : BitVec 32 := 32#32
  let v553 : BitVec 32 := Scalar.muli v9 c32_i32
  let v554 : BitVec 32 := Scalar.addi v360 v553
  let c2_i32 : BitVec 32 := 2#32
  let v6 : BitVec 32 := Scalar.shrsi v2 c2_i32
  let c1_i32_1 : BitVec 32 := 1#32
  let v7 : BitVec 32 := Scalar.andi v6 c1_i32_1
  let c16_i32 : BitVec 32 := 16#32
  let v721 : BitVec 32 := Scalar.muli v7 c16_i32
  let v722 : BitVec 32 := Scalar.addi v554 v721
  let c16_i32_629 : BitVec 32 := 16#32
  let v995 : BitVec 32 := Scalar.muli v7 c16_i32_629
  let v996 : BitVec 32 := Scalar.subi v722 v995
  let c32_i32_732 : BitVec 32 := 32#32
  let v1115 : BitVec 32 := Scalar.muli v9 c32_i32_732
  let v1116 : BitVec 32 := Scalar.subi v996 v1115
  let c0_i32_736 : BitVec 32 := 0#32
  ![v1116.toNat, 0]
def k0_dev38 (d0 : Dev nD) : Nat :=
  let c0_i32_735 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_734 : BitVec 32 := 1#32
  let v1117 : BitVec 32 := Scalar.muli v5 c1_i32_734
  let v1118 : BitVec 32 := Scalar.addi c0_i32_735 v1117
  v1118.toNat
def k0_off43 (d0 : Dev nD) : Fin 2 → Nat :=
  let c896_i32 : BitVec 32 := 896#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v8 : BitVec 32 := Scalar.shrsi v2 c1_i32_2
  let c1_i32_3 : BitVec 32 := 1#32
  let v9 : BitVec 32 := Scalar.andi v8 c1_i32_3
  let c64_i32_195 : BitVec 32 := 64#32
  let v413 : BitVec 32 := Scalar.muli v9 c64_i32_195
  let v414 : BitVec 32 := Scalar.addi c896_i32 v413
  let c2_i32 : BitVec 32 := 2#32
  let v6 : BitVec 32 := Scalar.shrsi v2 c2_i32
  let c1_i32_1 : BitVec 32 := 1#32
  let v7 : BitVec 32 := Scalar.andi v6 c1_i32_1
  let c32_i32_315 : BitVec 32 := 32#32
  let v581 : BitVec 32 := Scalar.muli v7 c32_i32_315
  let v582 : BitVec 32 := Scalar.addi v414 v581
  let c1_i32_4 : BitVec 32 := 1#32
  let v10 : BitVec 32 := Scalar.andi v2 c1_i32_4
  let c1_i32_5 : BitVec 32 := 1#32
  let v11 : BitVec 32 := Scalar.shrsi v2 c1_i32_5
  let c1_i32_6 : BitVec 32 := 1#32
  let v12 : BitVec 32 := Scalar.andi v11 c1_i32_6
  let v13 : BitVec 32 := Scalar.xori v10 v12
  let c16_i32_434 : BitVec 32 := 16#32
  let v749 : BitVec 32 := Scalar.muli v13 c16_i32_434
  let v750 : BitVec 32 := Scalar.addi v582 v749
  let c16_i32_646 : BitVec 32 := 16#32
  let v1015 : BitVec 32 := Scalar.muli v13 c16_i32_646
  let v1016 : BitVec 32 := Scalar.subi v750 v1015
  let c32_i32_749 : BitVec 32 := 32#32
  let v1135 : BitVec 32 := Scalar.muli v7 c32_i32_749
  let v1136 : BitVec 32 := Scalar.subi v1016 v1135
  let c0_i32_753 : BitVec 32 := 0#32
  ![v1136.toNat, 0]
def k0_dev39 (d0 : Dev nD) : Nat :=
  let c0_i32_752 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_751 : BitVec 32 := 1#32
  let v1137 : BitVec 32 := Scalar.muli v4 c1_i32_751
  let v1138 : BitVec 32 := Scalar.addi c0_i32_752 v1137
  v1138.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x512 : Shape := ⟨2, ![1024, 512]⟩
abbrev S512x32 : Shape := ⟨2, ![512, 32]⟩
abbrev S1024x2 : Shape := ⟨2, ![1024, 2]⟩
abbrev S32x512x1024 : Shape := ⟨3, ![32, 512, 1024]⟩
abbrev S1024x32 : Shape := ⟨2, ![1024, 32]⟩
abbrev S_ : Shape := ⟨0, ![]⟩
abbrev S1024 : Shape := ⟨1, ![1024]⟩
abbrev S1024x1 : Shape := ⟨2, ![1024, 1]⟩
abbrev S2 : Shape := ⟨1, ![2]⟩
abbrev S1x2 : Shape := ⟨2, ![1, 2]⟩
abbrev S1 : Shape := ⟨1, ![1]⟩
abbrev S1x1 : Shape := ⟨2, ![1, 1]⟩
abbrev S1024x512x1024 : Shape := ⟨3, ![1024, 512, 1024]⟩
abbrev S1024x1024 : Shape := ⟨2, ![1024, 1024]⟩

abbrev nBuf : Space → Nat
  | .hbm => 99
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x32, .f32⟩
  | .hbm, ⟨2, _⟩ => ⟨S1024x2, .i32⟩
  | .hbm, ⟨3, _⟩ => ⟨S32x512x1024, .f32⟩
  | .hbm, ⟨4, _⟩ => ⟨S1024x32, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x32, .f32⟩
  | .hbm, ⟨9, _⟩ => ⟨S1024x32, .f32⟩
  | .hbm, ⟨10, _⟩ => ⟨S1024x32, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S1024x32, .f32⟩
  | .hbm, ⟨15, _⟩ => ⟨S1024x32, .f32⟩
  | .hbm, ⟨16, _⟩ => ⟨S1024, .i32⟩
  | .hbm, ⟨17, _⟩ => ⟨S1024x1, .i32⟩
  | .hbm, ⟨18, _⟩ => ⟨S1024, .i32⟩
  | .hbm, ⟨19, _⟩ => ⟨S1024x1, .i32⟩
  | .hbm, ⟨20, _⟩ => ⟨S1024, .i32⟩
  | .hbm, ⟨21, _⟩ => ⟨S1024x1, .i32⟩
  | .hbm, ⟨22, _⟩ => ⟨S1024x1, .i32⟩
  | .hbm, ⟨23, _⟩ => ⟨S1024x2, .i32⟩
  | .hbm, ⟨24, _⟩ => ⟨S2, .i32⟩
  | .hbm, ⟨25, _⟩ => ⟨S_, .i32⟩
  | .hbm, ⟨26, _⟩ => ⟨S1024x2, .i32⟩
  | .hbm, ⟨27, _⟩ => ⟨S1024x2, .i1⟩
  | .hbm, ⟨28, _⟩ => ⟨S1x2, .i32⟩
  | .hbm, ⟨29, _⟩ => ⟨S1024x2, .i32⟩
  | .hbm, ⟨30, _⟩ => ⟨S1024x2, .i1⟩
  | .hbm, ⟨31, _⟩ => ⟨S1024x2, .i1⟩
  | .hbm, ⟨32, _⟩ => ⟨S_, .i1⟩
  | .hbm, ⟨33, _⟩ => ⟨S1024, .i1⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S1024x1, .i32⟩
  | .hbm, ⟨39, _⟩ => ⟨S1024x1, .i32⟩
  | .hbm, ⟨40, _⟩ => ⟨S1024x2, .i32⟩
  | .hbm, ⟨41, _⟩ => ⟨S2, .i32⟩
  | .hbm, ⟨42, _⟩ => ⟨S_, .i32⟩
  | .hbm, ⟨43, _⟩ => ⟨S1024x2, .i32⟩
  | .hbm, ⟨44, _⟩ => ⟨S1024x2, .i1⟩
  | .hbm, ⟨45, _⟩ => ⟨S1x2, .i32⟩
  | .hbm, ⟨46, _⟩ => ⟨S1024x2, .i32⟩
  | .hbm, ⟨47, _⟩ => ⟨S1024x2, .i1⟩
  | .hbm, ⟨48, _⟩ => ⟨S1024x2, .i1⟩
  | .hbm, ⟨49, _⟩ => ⟨S_, .i1⟩
  | .hbm, ⟨50, _⟩ => ⟨S1024, .i1⟩
  | .hbm, ⟨51, _⟩ => ⟨S1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S1024, .f32⟩
  | .hbm, ⟨56, _⟩ => ⟨S1024x1, .i32⟩
  | .hbm, ⟨57, _⟩ => ⟨S1, .i32⟩
  | .hbm, ⟨58, _⟩ => ⟨S_, .i32⟩
  | .hbm, ⟨59, _⟩ => ⟨S1024x1, .i32⟩
  | .hbm, ⟨60, _⟩ => ⟨S1024x1, .i1⟩
  | .hbm, ⟨61, _⟩ => ⟨S1x1, .i32⟩
  | .hbm, ⟨62, _⟩ => ⟨S1024x1, .i32⟩
  | .hbm, ⟨63, _⟩ => ⟨S1024x1, .i1⟩
  | .hbm, ⟨64, _⟩ => ⟨S1024x1, .i1⟩
  | .hbm, ⟨65, _⟩ => ⟨S_, .i1⟩
  | .hbm, ⟨66, _⟩ => ⟨S1024, .i1⟩
  | .hbm, ⟨67, _⟩ => ⟨S1024x512x1024, .f32⟩
  | .hbm, ⟨68, _⟩ => ⟨S1024x512x1024, .i1⟩
  | .hbm, ⟨69, _⟩ => ⟨S_, .f32⟩
  | .hbm, ⟨70, _⟩ => ⟨S1024x512x1024, .f32⟩
  | .hbm, ⟨71, _⟩ => ⟨S1024x512x1024, .f32⟩
  | .hbm, ⟨72, _⟩ => ⟨S1024x1, .i32⟩
  | .hbm, ⟨73, _⟩ => ⟨S1, .i32⟩
  | .hbm, ⟨74, _⟩ => ⟨S_, .i32⟩
  | .hbm, ⟨75, _⟩ => ⟨S1024x1, .i32⟩
  | .hbm, ⟨76, _⟩ => ⟨S1024x1, .i1⟩
  | .hbm, ⟨77, _⟩ => ⟨S1x1, .i32⟩
  | .hbm, ⟨78, _⟩ => ⟨S1024x1, .i32⟩
  | .hbm, ⟨79, _⟩ => ⟨S1024x1, .i1⟩
  | .hbm, ⟨80, _⟩ => ⟨S1024x1, .i1⟩
  | .hbm, ⟨81, _⟩ => ⟨S_, .i1⟩
  | .hbm, ⟨82, _⟩ => ⟨S1024, .i1⟩
  | .hbm, ⟨83, _⟩ => ⟨S1024x512x1024, .f32⟩
  | .hbm, ⟨84, _⟩ => ⟨S1024x512x1024, .i1⟩
  | .hbm, ⟨85, _⟩ => ⟨S_, .f32⟩
  | .hbm, ⟨86, _⟩ => ⟨S1024x512x1024, .f32⟩
  | .hbm, ⟨87, _⟩ => ⟨S1024x512x1024, .f32⟩
  | .hbm, ⟨88, _⟩ => ⟨S1024x1024, .f32⟩
  | .hbm, ⟨89, _⟩ => ⟨S1024x1024, .f32⟩
  | .hbm, ⟨90, _⟩ => ⟨S1024, .f32⟩
  | .hbm, ⟨91, _⟩ => ⟨S1024x1, .f32⟩
  | .hbm, ⟨92, _⟩ => ⟨S1024x1024, .f32⟩
  | .hbm, ⟨93, _⟩ => ⟨S1024x1024, .f32⟩
  | .hbm, ⟨94, _⟩ => ⟨S1024, .f32⟩
  | .hbm, ⟨95, _⟩ => ⟨S1024x1, .f32⟩
  | .hbm, ⟨96, _⟩ => ⟨S1024x1024, .f32⟩
  | .hbm, ⟨97, _⟩ => ⟨S1024x1024, .f32⟩
  | .hbm, ⟨98, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_8 : Ref sig .tc := ⟨.hbm, 57, rfl⟩
abbrev main_c_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_12 : Ref sig .tc := ⟨.hbm, 73, rfl⟩
abbrev main_c_13 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_14 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_15 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩

abbrev nD : Nat := 1
abbrev τ : Topo := Topo.v7x

variable {F : FTy → Type} [FloatOps F]
-- ==== Proof.Geometry.lean ====
/-
The cube the eight devices form, and the row ranges the two phases move over it.

The accumulator is cut in six parts of rows. Each part is reduced over the cube's three directions in its own order,
halving the rows a device keeps at every step, and gathered back in the reverse order.
-/
module

public import proofs.«01_k».proof.Proof.Gen.KernelIdeal

@[expose] public section

noncomputable section

namespace Cert.KProof

open Cert.KernelIdeal Cert.KernelIdeal.Gen
open Idealize.ShloMosaic

/-! ## The cube -/

/-- The neighbour of a device along direction `0`, `1` or `2`. -/
def nbr (d : Fin 3) (c : Dev nD) : Dev nD := ⟨(c.val ^^^ (match d with | 0 => 4 | 1 => 3 | 2 => 1)) % 8, Nat.mod_lt _ (by decide)⟩

theorem nbr_nbr (d : Fin 3) (c : Dev nD) : nbr d (nbr d c) = c := by revert d c; decide

/-- The step to a neighbour as a permutation of the devices. -/
def swap (d : Fin 3) : Dev nD ≃ Dev nD := ⟨nbr d, nbr d, nbr_nbr d, nbr_nbr d⟩

/-- A device's side of the cube along a direction. -/
def side (d : Fin 3) (c : Dev nD) : ℕ := match d with
  | 0 => c.val / 4 % 2
  | 1 => c.val / 2 % 2
  | 2 => (c.val + c.val / 2) % 2

/-! ## The parts -/

/-- A part's first row. -/
def base (j : Fin 6) : ℕ := ![0, 192, 384, 576, 768, 896] j
/-- A part's number of rows. -/
def size (j : Fin 6) : ℕ := ![192, 192, 192, 192, 128, 128] j
/-- The direction a part is reduced along at step `k`. -/
def ord (j : Fin 6) (k : ℕ) : Fin 3 := match k with
  | 0 => ![0, 1, 2, 0, 2, 1] j
  | 1 => ![1, 2, 0, 2, 1, 0] j
  | _ => ![2, 0, 1, 1, 0, 2] j
/-- The neighbour a part is exchanged with at reducing step `k`. -/
def pal (j : Fin 6) (k : ℕ) (c : Dev nD) : Dev nD := nbr (ord j k) c
/-- The number of rows of a part a device is responsible for after `k` reducing steps. -/
def len (j : Fin 6) (k : ℕ) : ℕ := match k with
  | 0 => size j
  | 1 => ![96, 96, 96, 96, 64, 64] j
  | 2 => ![48, 48, 48, 48, 32, 32] j
  | _ => ![24, 24, 24, 24, 16, 16] j
/-- The first of those rows. -/
def lo (j : Fin 6) (k : ℕ) (c : Dev nD) : ℕ := match k with
  | 0 => base j
  | 1 => base j + side (ord j 0) c * len j 1
  | 2 => base j + side (ord j 0) c * len j 1 + side (ord j 1) c * len j 2
  | _ => base j + side (ord j 0) c * len j 1 + side (ord j 1) c * len j 2 + side (ord j 2) c * len j 3

theorem pal_pal (j : Fin 6) (k : ℕ) (c : Dev nD) : pal j k (pal j k c) = c := nbr_nbr _ _

/-- A device's rows after `k` steps are its own and its neighbour's rows after one step more, in one order or the other. -/
theorem halves (k : Fin 3) (j : Fin 6) (c : Dev nD) :
    len j k.val = len j (k.val + 1) + len j (k.val + 1)
      ∧ ((lo j (k.val + 1) c = lo j k.val c ∧ lo j (k.val + 1) (pal j k.val c) = lo j k.val c + len j (k.val + 1))
        ∨ (lo j (k.val + 1) (pal j k.val c) = lo j k.val c ∧ lo j (k.val + 1) c = lo j k.val c + len j (k.val + 1))) := by
  revert k j c; decide
theorem lo_ge (k : Fin 4) (j : Fin 6) (c : Dev nD) : base j ≤ lo j k.val c := by revert k j c; decide
theorem lo_le (k : Fin 4) (j : Fin 6) (c : Dev nD) : lo j k.val c + len j k.val ≤ base j + size j := by revert k j c; decide
theorem lo_apart (j : Fin 6) (c c' : Dev nD) : c = c' ∨ lo j 3 c + len j 3 ≤ lo j 3 c' ∨ lo j 3 c' + len j 3 ≤ lo j 3 c := by revert j c c'; decide
theorem base_le (j : Fin 6) : base j + size j ≤ 1024 := by revert j; decide
theorem len_pos (k : Fin 4) (j : Fin 6) : 0 < len j k.val := by revert k j; decide
theorem lo_pal (j : Fin 6) (k : Fin 3) (c : Dev nD) : lo j k.val (pal j k.val c) = lo j k.val c := by revert k j c; decide

/-- The part a row lies in. -/
def part (r : ℕ) : Fin 6 :=
  if r < 192 then 0 else if r < 384 then 1 else if r < 576 then 2 else if r < 768 then 3 else if r < 896 then 4 else 5

theorem part_eq {j : Fin 6} {r : ℕ} (h₁ : base j ≤ r) (h₂ : r < base j + size j) : part r = j := by
  fin_cases j <;> simp [base, size] at h₁ h₂ <;> unfold part <;> (repeat' split) <;> first | rfl | omega

/-- The device that ends the reduction of a row. -/
def owner (r : ℕ) : Dev nD := if h : ∃ c : Dev nD, lo (part r) 3 c ≤ r ∧ r < lo (part r) 3 c + len (part r) 3 then h.choose else 0

theorem owner_eq {j : Fin 6} {c : Dev nD} {r : ℕ} (h₁ : lo j 3 c ≤ r) (h₂ : r < lo j 3 c + len j 3) : owner r = c := by
  have hp : part r = j := part_eq (le_trans (lo_ge 3 j c) h₁) (lt_of_lt_of_le h₂ (lo_le 3 j c))
  have hex : ∃ c : Dev nD, lo (part r) 3 c ≤ r ∧ r < lo (part r) 3 c + len (part r) 3 := ⟨c, by rw [hp]; exact ⟨h₁, h₂⟩⟩
  unfold owner; rw [dif_pos hex]
  have hs := hex.choose_spec
  revert hs; generalize hex.choose = c'; rw [hp]; intro hs
  rcases lo_apart j c' c with h | h | h
  · exact h
  · omega
  · omega

/-! ## Transfers -/

/-- The direction of a part's transfer `k`: three reducing steps, then three gathering steps in the reverse order. -/
def tdim (k : ℕ) (j : Fin 6) : Fin 3 := if k < 3 then ord j k else ord j (5 - k)
/-- The device a transfer goes to. -/
def tpal (k : ℕ) (j : Fin 6) (c : Dev nD) : Dev nD := nbr (tdim k j) c
/-- The number of rows a transfer moves. -/
def tlen (k : ℕ) (j : Fin 6) : ℕ := if k < 3 then len j (k + 1) else len j (6 - k)
/-- The first row a transfer moves. -/
def tlo (k : ℕ) (j : Fin 6) (c : Dev nD) : ℕ := if k < 3 then lo j (k + 1) (pal j k c) else lo j (6 - k) c

theorem tpal_tpal (k : ℕ) (j : Fin 6) (c : Dev nD) : tpal k j (tpal k j c) = c := nbr_nbr _ _
theorem tlen_pos (k j : Fin 6) : 0 < tlen k.val j := by revert k j; decide

/-- The rows from `l` on, `n` of them. -/
def rowsIn (l n : ℕ) : Finset S1024x1024.Idx := Finset.univ.filter fun i => l ≤ (i 0).val ∧ (i 0).val < l + n

theorem mem_rowsIn {l n : ℕ} {i : S1024x1024.Idx} : i ∈ rowsIn l n ↔ l ≤ (i 0).val ∧ (i 0).val < l + n := by simp [rowsIn]

theorem rowsIn_halves (k : Fin 3) (j : Fin 6) (c : Dev nD) :
    rowsIn (lo j k.val c) (len j k.val)
      = rowsIn (lo j (k.val + 1) c) (len j (k.val + 1)) ∪ rowsIn (lo j (k.val + 1) (pal j k.val c)) (len j (k.val + 1)) := by
  ext i; rw [Finset.mem_union, mem_rowsIn, mem_rowsIn, mem_rowsIn]
  obtain ⟨h, h'⟩ := halves k j c; omega
theorem rowsIn_apart (k : Fin 3) (j : Fin 6) (c : Dev nD) :
    Disjoint (rowsIn (lo j (k.val + 1) c) (len j (k.val + 1))) (rowsIn (lo j (k.val + 1) (pal j k.val c)) (len j (k.val + 1))) := by
  rw [Finset.disjoint_left]; intro i; rw [mem_rowsIn, mem_rowsIn]
  obtain ⟨h, h'⟩ := halves k j c; omega

/-- A rectangle of whole rows holds exactly those rows. -/
theorem rows_set {l n : ℕ} (inb : ∀ a, (![l, 0] : Fin 2 → ℕ) a + (![n, 1024] : Fin 2 → ℕ) a ≤ S1024x1024.size a) :
    (Rect.unit (s := S1024x1024) ![l, 0] ![n, 1024] inb).set = rowsIn l n := by
  ext i; rw [Rect.mem_set_unit, mem_rowsIn]
  constructor
  · intro h; exact h 0
  · intro h a; fin_cases a
    · exact h
    · exact ⟨Nat.zero_le _, by simpa using (i 1).isLt⟩

/-- The element of the accumulator at a row and a column given as numbers. -/
def at2 (r : ℕ) (x : Fin 1024) : S1024x1024.Idx := fun a => match a with
  | ⟨0, _⟩ => (⟨r % 1024, Nat.mod_lt _ (by decide)⟩ : Fin 1024)
  | ⟨1, _⟩ => x

/-- Where a rectangle of whole rows puts its elements. -/
theorem rows_emb {l n : ℕ} (inb : ∀ a, (![l, 0] : Fin 2 → ℕ) a + (![n, 1024] : Fin 2 → ℕ) a ≤ S1024x1024.size a) (i : (⟨2, ![n, 1024]⟩ : Shape).Idx) :
    (Rect.unit (s := S1024x1024) ![l, 0] ![n, 1024] inb).emb i = at2 (l + (i 0).val) (i 1) := by
  have h0 := inb 0
  have hi : (i 0).val < n := (i 0).isLt
  simp at h0
  funext a; refine Fin.ext ?_
  fin_cases a
  · show l + 1 * (i 0).val = (l + (i 0).val) % 1024
    rw [Nat.mod_eq_of_lt (by omega)]; omega
  · show 0 + 1 * (i 1).val = (i 1).val
    omega

end Cert.KProof
end
-- ==== Proof.Protocol.lean ====
/-
What travels between the devices and what each semaphore stands for.

A part's transfer `k < 3` sends half of the rows the device still answers for into the neighbour's landing buffer; a
transfer `3 ≤ k` sends finished rows to the same rows of the neighbour's accumulator. Every semaphore is used for one
transfer, so every cell has one round: the barrier's three units hand over the landing buffers of the three neighbours.
-/
module

public import proofs.«01_k».proof.Proof.Geometry
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The duties of a cell's round: one per direction of the cube. -/
abbrev D : Type := Fin 3
abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Memrefs -/

/-- The accumulator. -/
abbrev accM : Memref sig .tc .vmem S1024x1024 .bf16 := Memref.whole cc0_scratch18

/-- The landing buffer of a part's reducing step. -/
def buf (k : ℕ) (j : Fin 6) : Memref sig .tc .vmem ⟨2, ![len j (k + 1), 1024]⟩ .bf16 := match k, j with
  | 0, ⟨0, _⟩ => Memref.whole cc0_scratch0
  | 0, ⟨1, _⟩ => Memref.whole cc0_scratch3
  | 0, ⟨2, _⟩ => Memref.whole cc0_scratch6
  | 0, ⟨3, _⟩ => Memref.whole cc0_scratch9
  | 0, ⟨4, _⟩ => Memref.whole cc0_scratch12
  | 0, ⟨5, _⟩ => Memref.whole cc0_scratch15
  | 1, ⟨0, _⟩ => Memref.whole cc0_scratch1
  | 1, ⟨1, _⟩ => Memref.whole cc0_scratch4
  | 1, ⟨2, _⟩ => Memref.whole cc0_scratch7
  | 1, ⟨3, _⟩ => Memref.whole cc0_scratch10
  | 1, ⟨4, _⟩ => Memref.whole cc0_scratch13
  | 1, ⟨5, _⟩ => Memref.whole cc0_scratch16
  | _ + 2, ⟨0, _⟩ => Memref.whole cc0_scratch2
  | _ + 2, ⟨1, _⟩ => Memref.whole cc0_scratch5
  | _ + 2, ⟨2, _⟩ => Memref.whole cc0_scratch8
  | _ + 2, ⟨3, _⟩ => Memref.whole cc0_scratch11
  | _ + 2, ⟨4, _⟩ => Memref.whole cc0_scratch14
  | _ + 2, ⟨5, _⟩ => Memref.whole cc0_scratch17

/-! ## Semaphores -/

/-- The runtime's barrier semaphore. -/
abbrev barS : Sem sig := (SemArray.scalar (sig.barrier 0 rfl) : Sems sig S_).sem

/-- The semaphore of a transfer at its source. -/
def sendS (k j : Fin 6) : DmaSem sig := ⟨5 + (6 * k.val + j.val), by have := k.isLt; have := j.isLt; show _ < 77; omega⟩
/-- The semaphore of a transfer at its destination. -/
def recvS (k j : Fin 6) : DmaSem sig := ⟨41 + (6 * k.val + j.val), by have := k.isLt; have := j.isLt; show _ < 77; omega⟩

abbrev barCell (c : Dev nD) : GSem nD τ sig := ((c : Thread nD τ), .reg barS)
abbrev sendCell (k j : Fin 6) (c : Dev nD) : GSem nD τ sig := ((c : Thread nD τ), .dma (sendS k j))
abbrev recvCell (k j : Fin 6) (c : Dev nD) : GSem nD τ sig := ((c : Thread nD τ), .dma (recvS k j))

/-- Which transfer a semaphore belongs to. -/
def stepOf (n : ℕ) : Fin 6 := ⟨n / 6 % 6, Nat.mod_lt _ (by decide)⟩
def partOf (n : ℕ) : Fin 6 := ⟨n % 6, Nat.mod_lt _ (by decide)⟩

theorem stepOf_eq (k j : Fin 6) : stepOf (6 * k.val + j.val) = k := by revert k j; decide
theorem partOf_eq (k j : Fin 6) : partOf (6 * k.val + j.val) = j := by revert k j; decide

/-- The credit of a transfer. -/
def credit (k j : Fin 6) : ℕ := RefSig.tileCredit ⟨2, ![tlen k.val j, 1024]⟩ .bf16

theorem credit_pos (k j : Fin 6) : 0 < credit k j :=
  RefSig.tileCredit_pos _ _ (by have := tlen_pos k j; rw [Shape.numel, Fin.prod_univ_two]; exact Nat.mul_pos this (show 0 < 1024 by decide))

/-! ## Contents -/

section Contents
variable (a0 : Dev nD → S1024x1024.Idx → Elt F .bf16)

/-- A row's content on a device after `k` reducing steps, for the rows the device still answers for. -/
def red (k : ℕ) (c : Dev nD) (i : S1024x1024.Idx) : Elt F .bf16 := match k with
  | 0 => a0 c i
  | k + 1 => FloatOps.addf (red k c i) (red k (pal (part (i 0).val) k c) i)

/-- The reduced array: each row as the device that ends its reduction has it. -/
def fin (i : S1024x1024.Idx) : Elt F .bf16 := red a0 3 (owner (i 0).val) i

/-- A device's rows before transfer `k`. -/
def cont (k : ℕ) (c : Dev nD) : S1024x1024.Idx → Elt F .bf16 := if k < 3 then red a0 k c else fin a0

end Contents

/-- Rows of an array, as a block. -/
def rowsOf {n : ℕ} (f : S1024x1024.Idx → Elt F .bf16) (l : ℕ) : (⟨2, ![n, 1024]⟩ : Shape).Idx → Elt F .bf16 := fun i => f (at2 (l + (i 0).val) (i 1))

/-! ## Assertions about memory -/

/-- Rows of a device's accumulator. -/
def Acc (c : Dev nD) (l n : ℕ) (f : S1024x1024.Idx → Elt F .bf16) : sProp 𝕄 :=
  ((c : Thread nD τ).loc cc0_scratch18) ↦[rowsIn l n]{fullShare} (f : Buf (Elt F) ((c : Thread nD τ).loc cc0_scratch18))
def AccAny (c : Dev nD) (l n : ℕ) : sProp 𝕄 := iprop(∃ f, Acc c l n f)
/-- A landing buffer at known contents, and at some. -/
def BufAt (c : Dev nD) (k : ℕ) (j : Fin 6) (X : (⟨2, ![len j (k + 1), 1024]⟩ : Shape).Idx → Elt F .bf16) : sProp 𝕄 :=
  iprop(∃ f, ⌜(buf k j).view.read (Elt F) f = X⌝ ∗ ((buf k j).view.loc (c : Thread nD τ) ↦[(buf k j).view.set]{fullShare} f))
def BufAny (c : Dev nD) (k : ℕ) (j : Fin 6) : sProp 𝕄 :=
  iprop(∃ f, (buf k j).view.loc (c : Thread nD τ) ↦[(buf k j).view.set]{fullShare} f)

omit [FloatOps F] in
instance Acc_storable (c : Dev nD) (l n f) : BI.Storable (upEmb : UEmb _ 𝕄) (Acc (F := F) c l n f) := by unfold Acc; infer_instance
omit [FloatOps F] in
instance AccAny_storable (c : Dev nD) (l n) : BI.Storable (upEmb : UEmb _ 𝕄) (AccAny (F := F) c l n) := by unfold AccAny; infer_instance
omit [FloatOps F] in
instance BufAt_storable (c : Dev nD) (k j X) : BI.Storable (upEmb : UEmb _ 𝕄) (BufAt (F := F) c k j X) := by unfold BufAt; infer_instance
omit [FloatOps F] in
instance BufAny_storable (c : Dev nD) (k j) : BI.Storable (upEmb : UEmb _ 𝕄) (BufAny (F := F) c k j) := by unfold BufAny; infer_instance

/-! ## The schedule -/

section Sched
variable (a0 : Dev nD → S1024x1024.Idx → Elt F .bf16)

/-- What the neighbour along direction `d` hands over at the barrier: its landing buffers for the steps along `d`. -/
def barPay (c : Dev nD) (d : Fin 3) : sProp 𝕄 :=
  bigSep Finset.univ fun x : Fin 3 × Fin 6 => if ord x.2 x.1.val = d then BufAny (nbr d c) x.1.val x.2 else iprop(emp)
/-- What the source of a transfer gets back. -/
def sendPay (k j : Fin 6) (c : Dev nD) : sProp 𝕄 :=
  if k.val < 3 then iprop(emp) else Acc c (lo j (6 - k.val) c) (len j (6 - k.val)) (fin a0)
/-- What its destination gets: the landed rows, and for a reducing step also the rows of the source's accumulator. -/
def recvPay (k j : Fin 6) (c : Dev nD) : sProp 𝕄 :=
  if k.val < 3 then
    iprop(BufAt c k.val j (rowsOf (red a0 k.val (pal j k.val c)) (lo j (k.val + 1) c)) ∗ AccAny (pal j k.val c) (lo j (k.val + 1) c) (len j (k.val + 1)))
  else Acc c (lo j (6 - k.val) (tpal k.val j c)) (len j (6 - k.val)) (fin a0)

/-- A DMA semaphore's payload. -/
def dmaPay (n : ℕ) (c : Dev nD) : sProp 𝕄 :=
  if n < 5 then iprop(emp) else if n < 41 then sendPay a0 (stepOf (n - 5)) (partOf (n - 5)) c
  else recvPay a0 (stepOf (n - 41)) (partOf (n - 41)) c

/-- A DMA semaphore's credit. -/
def dmaAmt (n : ℕ) : ℕ := if n < 41 then credit (stepOf (n - 5)) (partOf (n - 5)) else credit (stepOf (n - 41)) (partOf (n - 41))

theorem dmaAmt_pos (n : ℕ) : 0 < dmaAmt n := by unfold dmaAmt; split <;> exact credit_pos _ _

def sched : Rounds.Schedule (GSem nD τ sig) D 𝕄 where
  duties g r := if r = 0 ∧ g.1.2 = .tc then (match g.2 with | .reg _ => Finset.univ | .dma s => if s.val < 5 then ∅ else {0}) else ∅
  unitless _ := False
  amount g _ _ := match g.2 with | .reg _ => 1 | .dma s => dmaAmt s.val
  payload g _ d := match g.2 with | .reg _ => barPay g.1.1 d | .dma s => dmaPay a0 s.val g.1.1
  amount_pos g _ _ _ := by
    cases g.2 with
    | reg _ => exact Nat.one_pos
    | dma s => exact dmaAmt_pos _

instance barPay_storable (c : Dev nD) (d : Fin 3) : BI.Storable (upEmb : UEmb _ 𝕄) (barPay (F := F) c d) := by
  unfold barPay
  have (x : Fin 3 × Fin 6) : BI.Storable (upEmb : UEmb _ 𝕄) (if ord x.2 x.1.val = d then BufAny (F := F) (nbr d c) x.1.val x.2 else iprop(emp)) := by
    split <;> infer_instance
  infer_instance
instance sendPay_storable (k j c) : BI.Storable (upEmb : UEmb _ 𝕄) (sendPay (F := F) a0 k j c) := by unfold sendPay; split <;> infer_instance
instance recvPay_storable (k j c) : BI.Storable (upEmb : UEmb _ 𝕄) (recvPay (F := F) a0 k j c) := by unfold recvPay; split <;> infer_instance
instance sched_payload_storable (g : GSem nD τ sig) (r : ℕ) (d : D) : BI.Storable (upEmb : UEmb _ 𝕄) ((sched (F := F) a0).payload g r d) := by
  show BI.Storable upEmb (match g.2 with | .reg _ => barPay g.1.1 d | .dma s => dmaPay a0 s.val g.1.1)
  cases g.2 with
  | reg _ => dsimp only; infer_instance
  | dma s => dsimp only; unfold dmaPay; (repeat' split) <;> infer_instance

theorem duties_bar (c : Dev nD) : (sched (F := F) a0).duties (barCell c) 0 = Finset.univ := by dsimp only [sched]; exact if_pos ⟨rfl, rfl⟩
theorem duties_send (k j : Fin 6) (c : Dev nD) : (sched (F := F) a0).duties (sendCell k j c) 0 = {0} := by
  dsimp only [sched]; rw [if_pos ⟨rfl, rfl⟩]; exact if_neg (by unfold sendS; dsimp only; omega)
theorem duties_recv (k j : Fin 6) (c : Dev nD) : (sched (F := F) a0).duties (recvCell k j c) 0 = {0} := by
  dsimp only [sched]; rw [if_pos ⟨rfl, rfl⟩]; exact if_neg (by unfold recvS; dsimp only; omega)
theorem duties_later (g : GSem nD τ sig) : ∀ r, 1 ≤ r → (sched (F := F) a0).duties g r = ∅ :=
  fun r hr => by dsimp only [sched]; exact if_neg fun h => by omega

theorem dmaAmt_send (k j : Fin 6) : dmaAmt (sendS k j).val = credit k j := by
  have h1 : (sendS k j).val < 41 := by have := k.isLt; have := j.isLt; show 5 + (6 * k.val + j.val) < 41; omega
  have h2 : (sendS k j).val - 5 = 6 * k.val + j.val := by show 5 + (6 * k.val + j.val) - 5 = _; omega
  unfold dmaAmt; rw [if_pos h1, h2, stepOf_eq, partOf_eq]
theorem dmaAmt_recv (k j : Fin 6) : dmaAmt (recvS k j).val = credit k j := by
  have h1 : ¬ (recvS k j).val < 41 := by show ¬ 41 + (6 * k.val + j.val) < 41; omega
  have h2 : (recvS k j).val - 41 = 6 * k.val + j.val := by show 41 + (6 * k.val + j.val) - 41 = _; omega
  unfold dmaAmt; rw [if_neg h1, h2, stepOf_eq, partOf_eq]

theorem amount_bar (c : Dev nD) (d : D) : (sched (F := F) a0).amount (barCell c) 0 d = 1 := rfl
theorem amount_send (k j : Fin 6) (c : Dev nD) (d : D) : (sched (F := F) a0).amount (sendCell k j c) 0 d = credit k j := dmaAmt_send k j
theorem amount_recv (k j : Fin 6) (c : Dev nD) (d : D) : (sched (F := F) a0).amount (recvCell k j c) 0 d = credit k j := dmaAmt_recv k j

theorem expect_bar (c : Dev nD) : (sched (F := F) a0).expect (barCell c) 0 = 3 := by
  unfold Schedule.expect Schedule.amountOf
  rw [duties_bar, Finset.sum_congr rfl fun d _ => amount_bar a0 c d, Finset.sum_const, Finset.card_univ, Fintype.card_fin, smul_eq_mul]
theorem expect_send (k j : Fin 6) (c : Dev nD) : (sched (F := F) a0).expect (sendCell k j c) 0 = credit k j := by
  unfold Schedule.expect Schedule.amountOf; rw [duties_send, Finset.sum_singleton, amount_send]
theorem expect_recv (k j : Fin 6) (c : Dev nD) : (sched (F := F) a0).expect (recvCell k j c) 0 = credit k j := by
  unfold Schedule.expect Schedule.amountOf; rw [duties_recv, Finset.sum_singleton, amount_recv]

theorem payload_bar (c : Dev nD) (d : D) : (sched (F := F) a0).payload (barCell c) 0 d = barPay c d := rfl
theorem payload_send (k j : Fin 6) (c : Dev nD) (d : D) : (sched (F := F) a0).payload (sendCell k j c) 0 d = sendPay a0 k j c := by
  have h1 : (sendS k j).val < 41 := by have := k.isLt; have := j.isLt; show 5 + (6 * k.val + j.val) < 41; omega
  have h0 : ¬ (sendS k j).val < 5 := by show ¬ 5 + (6 * k.val + j.val) < 5; omega
  have h2 : (sendS k j).val - 5 = 6 * k.val + j.val := by show 5 + (6 * k.val + j.val) - 5 = _; omega
  show dmaPay a0 (sendS k j).val c = _
  unfold dmaPay; rw [if_neg h0, if_pos h1, h2, stepOf_eq, partOf_eq]
theorem payload_recv (k j : Fin 6) (c : Dev nD) (d : D) : (sched (F := F) a0).payload (recvCell k j c) 0 d = recvPay a0 k j c := by
  have h1 : ¬ (recvS k j).val < 41 := by show ¬ 41 + (6 * k.val + j.val) < 41; omega
  have h0 : ¬ (recvS k j).val < 5 := by show ¬ 41 + (6 * k.val + j.val) < 5; omega
  have h2 : (recvS k j).val - 41 = 6 * k.val + j.val := by show 41 + (6 * k.val + j.val) - 41 = _; omega
  show dmaPay a0 (recvS k j).val c = _
  unfold dmaPay; rw [if_neg h0, if_neg h1, h2, stepOf_eq, partOf_eq]

theorem rest_bar (c : Dev nD) : bigSep ((sched (F := F) a0).duties (barCell c) 0 \ ∅) (fun d => (sched (F := F) a0).payload (barCell c) 0 d)
    = bigSep Finset.univ fun d => barPay c d := by
  rw [Finset.sdiff_empty, duties_bar]; rfl
theorem rest_send (k j : Fin 6) (c : Dev nD) :
    bigSep ((sched (F := F) a0).duties (sendCell k j c) 0 \ ∅) (fun d => (sched (F := F) a0).payload (sendCell k j c) 0 d) = sendPay a0 k j c := by
  rw [Finset.sdiff_empty, duties_send, bigSep_singleton, payload_send]
theorem rest_recv (k j : Fin 6) (c : Dev nD) :
    bigSep ((sched (F := F) a0).duties (recvCell k j c) 0 \ ∅) (fun d => (sched (F := F) a0).payload (recvCell k j c) 0 d) = recvPay a0 k j c := by
  rw [Finset.sdiff_empty, duties_recv, bigSep_singleton, payload_recv]

end Sched

/-! ## What each device owes; the levels -/

/-- The credit of transfer `n` that its source owes its destination. -/
def due (c : Dev nD) (n : ℕ) : CellTallies nD τ sig Unit :=
  tallyAt (recvCell (stepOf n) (partOf n) (tpal (stepOf n).val (partOf n) c)) () (credit (stepOf n) (partOf n))
/-- What a device owes before it issues transfer `n`. -/
def owed (c : Dev nD) (n : ℕ) : CellTallies nD τ sig Unit := ∑ i ∈ Finset.Ico n 36, due c i

theorem owed_step (c : Dev nD) {n : ℕ} (h : n < 36) : owed c n = owed c (n + 1) + due c n := by
  have hs : Finset.Ico n 36 = insert n (Finset.Ico (n + 1) 36) := by
    ext i; rw [Finset.mem_insert, Finset.mem_Ico, Finset.mem_Ico]; omega
  unfold owed; rw [hs, Finset.sum_insert (by rw [Finset.mem_Ico]; omega), add_comm]
theorem owed_end (c : Dev nD) : owed c 36 = 0 := by unfold owed; rw [Finset.Ico_self, Finset.sum_empty]

/-- What it owes at launch: also a unit to each neighbour's barrier. -/
def owed₀ (c : Dev nD) : CellTallies nD τ sig Unit :=
  owed c 0 + tallyAt (barCell (nbr 2 c)) () 1 + tallyAt (barCell (nbr 1 c)) () 1 + tallyAt (barCell (nbr 0 c)) () 1

def L (g : GSem nD τ sig) : Finset Unit := if g.1.2 = .tc then {()} else ∅
/-- Barriers at one, a transfer's arrival two above its number, everything else at zero. -/
def lv (g : GSem nD τ sig) (_ : Unit) : ℕ := match g.2 with | .reg _ => 1 | .dma s => if s.val < 41 then 0 else s.val - 39

theorem L_of_ne (g : GSem nD τ sig) (h : g.1.2 ≠ .tc) : L g = ∅ := if_neg h
theorem L_tc (c : Dev nD) (sm : SemLoc sig) : L ((c : Thread nD τ), sm) = {()} := if_pos rfl
theorem lv_recv (k j : Fin 6) (c : Dev nD) (u : Unit) : lv (recvCell k j c) u = 6 * k.val + j.val + 2 := by
  show (if 41 + (6 * k.val + j.val) < 41 then 0 else 41 + (6 * k.val + j.val) - 39) = _
  rw [if_neg (by omega)]; omega
theorem lv_send (k j : Fin 6) (c : Dev nD) (u : Unit) : lv (sendCell k j c) u = 0 := by
  have := k.isLt; have := j.isLt
  show (if 5 + (6 * k.val + j.val) < 41 then 0 else 5 + (6 * k.val + j.val) - 39) = _
  rw [if_pos (by omega)]

theorem sum_pos {ι : Type} [DecidableEq ι] (s : Finset ι) (f : ι → CellTallies nD τ sig Unit) {g : GSem nD τ sig} {u : Unit}
    (h : 0 < (∑ i ∈ s, f i) g u) : ∃ i ∈ s, 0 < f i g u := by
  induction s using Finset.induction_on with
  | empty => rw [Finset.sum_empty] at h; exact absurd h (Nat.lt_irrefl 0)
  | insert a s ha ih =>
    rw [Finset.sum_insert ha, Pi.add_apply, Finsupp.add_apply] at h
    by_cases h' : 0 < f a g u
    · exact ⟨a, Finset.mem_insert_self _ _, h'⟩
    · obtain ⟨i, hi, hp⟩ := ih (by omega)
      exact ⟨i, Finset.mem_insert_of_mem hi, hp⟩

theorem tally_pos {g g' : GSem nD τ sig} {u u' : Unit} {n : ℕ} (h : 0 < (tallyAt g u n : CellTallies nD τ sig Unit) g' u') : g' = g := by
  rw [tallyAt_apply] at h
  by_contra hn
  rw [if_neg (fun h' => hn h'.1)] at h; exact Nat.lt_irrefl 0 h

theorem due_pos {c : Dev nD} {n : ℕ} (hn : n < 36) {g : GSem nD τ sig} {u : Unit} (h : 0 < due c n g u) : g.1.2 = .tc ∧ lv g u = n + 2 := by
  have := tally_pos h; subst this
  refine ⟨rfl, ?_⟩
  rw [lv_recv]; show 6 * (n / 6 % 6) + n % 6 + 2 = n + 2; omega

theorem owed_pos {c : Dev nD} {n : ℕ} {g : GSem nD τ sig} {u : Unit} (h : 0 < owed c n g u) : g.1.2 = .tc ∧ n + 2 ≤ lv g u := by
  obtain ⟨i, hi, hp⟩ := sum_pos _ _ h
  rw [Finset.mem_Ico] at hi
  obtain ⟨h1, h2⟩ := due_pos hi.2 hp
  exact ⟨h1, by omega⟩

theorem owed₀_pos {c : Dev nD} {g : GSem nD τ sig} {u : Unit} (h : 0 < owed₀ c g u) : g.1.2 = .tc ∧ 1 ≤ lv g u := by
  unfold owed₀ at h
  rw [Pi.add_apply, Finsupp.add_apply, Pi.add_apply, Finsupp.add_apply, Pi.add_apply, Finsupp.add_apply] at h
  by_cases h1 : 0 < owed c 0 g u
  · obtain ⟨h2, h3⟩ := owed_pos h1; exact ⟨h2, by omega⟩
  by_cases h2 : 0 < (tallyAt (barCell (nbr 2 c)) () 1 : CellTallies nD τ sig Unit) g u
  · have := tally_pos h2; subst this; exact ⟨rfl, le_refl _⟩
  by_cases h3 : 0 < (tallyAt (barCell (nbr 1 c)) () 1 : CellTallies nD τ sig Unit) g u
  · have := tally_pos h3; subst this; exact ⟨rfl, le_refl _⟩
  · have := tally_pos (by omega : 0 < (tallyAt (barCell (nbr 0 c)) () 1 : CellTallies nD τ sig Unit) g u)
    subst this; exact ⟨rfl, le_refl _⟩

omit [FloatOps F] in
/-- A wait below everything still owed is allowed. -/
theorem mayWait_of (c : Dev nD) (sm : SemLoc sig) (O : CellTallies nD τ sig Unit)
    (h : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ()) (fun p hp => by rw [Finset.mem_singleton.mp hp, L_tc]; exact Finset.mem_singleton_self _)
    (fun g u hg => by rw [L, if_pos (h g u hg).1]; exact Finset.mem_singleton_self _)
    (fun p hp => by rw [Finset.mem_singleton.mp hp])
    (fun g u hg => (h g u hg).2)

end Cert.KProof
end
-- ==== Proof.State.lean ====
/-
The state of a device between two operations.

Each part of the accumulator walks through 26 positions: 0 before its partial product is stored; `1 + 4k + t` for its
transfer `k`, with `t = 0` before the transfer is issued, `1` after, `2` once its source semaphore is waited for and `3`
once its destination semaphore is (a gathering step has no position `3`: its landed rows need no merging); 25 at the end.
-/
module

public import proofs.«01_k».proof.Proof.Protocol

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## One transfer's tokens -/

/-- The tokens of a part's transfer, `u` positions after the one before it is issued. -/
def tok (c : Dev nD) (j k : Fin 6) (u : ℕ) : sProp 𝕄 := match u with
  | 0 => iprop(dutyTok ER (sendCell k j c) 0 (0 : D) ∗ dutyTok ER (recvCell k j (tpal k.val j c)) 0 (0 : D)
      ∗ atPos ER (sendCell k j c) 0 ∅ 0 ∗ atPos ER (recvCell k j c) 0 ∅ 0 ∗ cred (tallyAt (recvCell k j c) () (credit k j)))
  | 1 => iprop(cred (tallyAt (sendCell k j c) () (credit k j))
      ∗ atPos ER (sendCell k j c) 0 ∅ 0 ∗ atPos ER (recvCell k j c) 0 ∅ 0 ∗ cred (tallyAt (recvCell k j c) () (credit k j)))
  | 2 => iprop(semVal (sendCell k j c) 0 ∗ atPos ER (recvCell k j c) 0 ∅ 0 ∗ cred (tallyAt (recvCell k j c) () (credit k j)))
  | _ + 3 => iprop(semVal (sendCell k j c) 0 ∗ semVal (recvCell k j c) 0)

section State
variable (a0 : Dev nD → S1024x1024.Idx → Elt F .bf16)

/-- Which landing buffer of a reducing step the device holds: its neighbour's until it sends, its own from the landing on. -/
def land (c : Dev nD) (j : Fin 6) (k : Fin 3) (u : ℕ) : sProp 𝕄 := match u with
  | 0 => BufAny (pal j k.val c) k.val j
  | 1 => iprop(emp)
  | 2 => iprop(emp)
  | 3 => BufAt c k.val j (rowsOf (red a0 k.val (pal j k.val c)) (lo j (k.val + 1) c))
  | _ + 4 => BufAny c k.val j

/-- The rows of its neighbour's accumulator the device holds: those the neighbour sent it, until it sends them back finished. -/
def lent (c : Dev nD) (j : Fin 6) (k : Fin 3) (q : ℕ) : sProp 𝕄 :=
  if 4 * k.val + 4 ≤ q ∧ q ≤ 21 - 4 * k.val then AccAny (pal j k.val c) (lo j (k.val + 1) c) (len j (k.val + 1)) else iprop(emp)

/-- The rows of its own accumulator the device holds. -/
def own (c : Dev nD) (j : Fin 6) (q : ℕ) : sProp 𝕄 :=
  if q = 0 then AccAny c (base j) (size j)
  else if q ≤ 12 then
    (if (q - 1) % 4 = 0 then Acc c (lo j ((q - 1) / 4) c) (len j ((q - 1) / 4)) (red a0 ((q - 1) / 4) c)
    else Acc c (lo j ((q - 1) / 4 + 1) c) (len j ((q - 1) / 4 + 1)) (red a0 ((q - 1) / 4) c))
  else if (q - 1) % 4 = 1 then iprop(emp)
  else Acc c (lo j (6 - (q - 1) / 4) c) (len j (6 - (q - 1) / 4)) (fin a0)

/-- A part at a position. -/
def PS (c : Dev nD) (j : Fin 6) (q : ℕ) : sProp 𝕄 :=
  iprop(own a0 c j q ∗ (bigSep Finset.univ fun k : Fin 6 => tok c j k (q - 1 - 4 * k.val))
    ∗ (bigSep Finset.univ fun k : Fin 3 => land a0 c j k (q - 1 - 4 * k.val)) ∗ (bigSep Finset.univ fun k : Fin 3 => lent c j k q))

/-! ## What every device knows -/

/-- A cell is under the schedule and its only round is open. -/
def Rec (g : GSem nD τ sig) : sProp 𝕄 := iprop(∃ κ, cellInv ER (sched a0) κ g ∗ reached ER g 0)
instance Rec_persistent (g) : Persistent (Rec (F := F) a0 g) := by unfold Rec; infer_instance

/-- The kernel's semaphores: the barrier, then each transfer's two. -/
def osem (i : Fin 73) : SemLoc sig := if i.val = 0 then .reg barS else .dma ⟨i.val + 4, by have := i.isLt; show _ < 77; omega⟩
abbrev kcell (x : Dev nD × Fin 73) : GSem nD τ sig := ((x.1 : Thread nD τ), osem x.2)

def Know : sProp 𝕄 := iprop((bigSep Finset.univ fun x : Dev nD × Fin 73 => Rec a0 (kcell x)) ∗ levAts L lv)
instance Know_persistent : Persistent (Know (F := F) a0) := by unfold Know; infer_instance

theorem know_lev : Know a0 ⊢ (levAts L lv : sProp 𝕄) := by unfold Know; iintro ⟨-, H⟩; iexact H
theorem know_cell (x : Dev nD × Fin 73) : Know a0 ⊢ Rec (F := F) a0 (kcell x) := by
  unfold Know; rw [bigSep_univ_at (fun x : Dev nD × Fin 73 => Rec (F := F) a0 (kcell x)) x]
  iintro ⟨⟨H, -⟩, -⟩; iexact H
theorem know_bar (c : Dev nD) : Know a0 ⊢ Rec (F := F) a0 (barCell c) := know_cell a0 (c, 0)
theorem know_send (k j : Fin 6) (c : Dev nD) : Know a0 ⊢ Rec (F := F) a0 (sendCell k j c) := by
  have h : kcell (c, ⟨6 * k.val + j.val + 1, by have := k.isLt; have := j.isLt; omega⟩) = sendCell k j c := by
    unfold kcell osem sendCell sendS
    rw [if_neg (Nat.succ_ne_zero _)]; refine congrArg (fun s => ((c : Thread nD τ), SemLoc.dma s)) (Fin.ext ?_); dsimp only; omega
  rw [← h]; exact know_cell a0 _
theorem know_recv (k j : Fin 6) (c : Dev nD) : Know a0 ⊢ Rec (F := F) a0 (recvCell k j c) := by
  have h : kcell (c, ⟨6 * k.val + j.val + 37, by have := k.isLt; have := j.isLt; omega⟩) = recvCell k j c := by
    unfold kcell osem recvCell recvS
    rw [if_neg (Nat.succ_ne_zero _)]; refine congrArg (fun s => ((c : Thread nD τ), SemLoc.dma s)) (Fin.ext ?_); dsimp only; omega
  rw [← h]; exact know_cell a0 _

/-! ## The state -/

/-- A device that has issued the first `i` transfers, with each part at a position. -/
def St (c : Dev nD) (i : ℕ) (σ : Fin 6 → ℕ) : sProp 𝕄 :=
  iprop(Know a0 ∗ (∃ W, owes (c : Thread nD τ) (owed c i) W) ∗ bigSep Finset.univ fun j => PS a0 c j (σ j))

/-- One part taken out of the state, and put back at another position. -/
theorem St_part {c : Dev nD} {i : ℕ} {σ : Fin 6 → ℕ} (j : Fin 6) :
    St a0 c i σ ⊢ iprop(Know a0 ∗ (∃ W, owes (c : Thread nD τ) (owed c i) W) ∗ PS a0 c j (σ j)
      ∗ ∀ i' q', ((∃ W, owes (c : Thread nD τ) (owed c i') W) ∗ PS a0 c j q') -∗ St a0 c i' (Function.update σ j q')) := by
  have hup (q' : ℕ) : (bigSep Finset.univ fun j' => PS a0 c j' (Function.update σ j q' j'))
      = iprop(PS a0 c j q' ∗ bigSep (Finset.univ.erase j) fun j' => PS a0 c j' (σ j')) := by
    rw [bigSep_univ_at (fun j' => PS a0 c j' (Function.update σ j q' j')) j, Function.update_self,
      bigSep_congr (s := Finset.univ.erase j) (Φ := fun j' => PS a0 c j' (Function.update σ j q' j')) (Ψ := fun j' => PS a0 c j' (σ j'))
        (fun j' hj => by rw [Function.update_of_ne (Finset.ne_of_mem_erase hj)])]
  unfold St
  rw [bigSep_univ_at (fun j' => PS a0 c j' (σ j')) j]
  simp only [hup]
  iintro ⟨#HK, HO, HPj, HR⟩
  isplitr; · iexact HK
  isplitl [HO]; · iexact HO
  isplitl [HPj]; · iexact HPj
  iintro %i' %q' ⟨HO, HP⟩
  isplitr; · iexact HK
  isplitl [HO]; · iexact HO
  isplitl [HP]; · iexact HP
  iexact HR

/-! ## Steps of one part -/

theorem tok_after (c : Dev nD) (j k : Fin 6) {u v : ℕ} (hu : 3 ≤ u) (hv : 3 ≤ v) : tok (F := F) c j k u = tok c j k v := by
  obtain ⟨u', rfl⟩ := Nat.exists_eq_add_of_le' hu
  obtain ⟨v', rfl⟩ := Nat.exists_eq_add_of_le' hv
  rfl
theorem land_after (c : Dev nD) (j : Fin 6) (k : Fin 3) {u v : ℕ} (hu : 4 ≤ u) (hv : 4 ≤ v) : land a0 c j k u = land a0 c j k v := by
  obtain ⟨u', rfl⟩ := Nat.exists_eq_add_of_le' hu
  obtain ⟨v', rfl⟩ := Nat.exists_eq_add_of_le' hv
  rfl

/-- A transfer's tokens taken out while its part moves from position `t` to position `t'` of it. -/
theorem toks_step (c : Dev nD) (j k : Fin 6) {t t' : ℕ} (ht : t ≤ 4) (ht' : t' ≤ 4) :
    (bigSep Finset.univ fun k' : Fin 6 => tok (F := F) c j k' (1 + 4 * k.val + t - 1 - 4 * k'.val))
      ⊢ iprop(tok c j k t ∗ (tok c j k t' -∗ bigSep Finset.univ fun k' : Fin 6 => tok c j k' (1 + 4 * k.val + t' - 1 - 4 * k'.val))) := by
  refine (bigSep_univ_update (Ψ := fun k' : Fin 6 => tok (F := F) c j k' (1 + 4 * k.val + t' - 1 - 4 * k'.val)) k ?_).trans ?_
  · intro k' hk
    rcases Nat.lt_or_gt_of_ne (fun e => hk (Fin.ext e)) with h | h
    · exact tok_after c j k' (by omega) (by omega)
    · rw [show 1 + 4 * k.val + t' - 1 - 4 * k'.val = 0 by omega, show 1 + 4 * k.val + t - 1 - 4 * k'.val = 0 by omega]
  · rw [show 1 + 4 * k.val + t' - 1 - 4 * k.val = t' by omega, show 1 + 4 * k.val + t - 1 - 4 * k.val = t by omega]

/-- A landing buffer taken out while its part moves from position `t` to position `t'` of its transfer. -/
theorem lands_step (c : Dev nD) (j : Fin 6) (k : Fin 3) {t t' : ℕ} (ht : t ≤ 4) (ht' : t' ≤ 4) :
    (bigSep Finset.univ fun k' : Fin 3 => land a0 c j k' (1 + 4 * k.val + t - 1 - 4 * k'.val))
      ⊢ iprop(land a0 c j k t ∗ (land a0 c j k t' -∗ bigSep Finset.univ fun k' : Fin 3 => land a0 c j k' (1 + 4 * k.val + t' - 1 - 4 * k'.val))) := by
  refine (bigSep_univ_update (Ψ := fun k' : Fin 3 => land a0 c j k' (1 + 4 * k.val + t' - 1 - 4 * k'.val)) k ?_).trans ?_
  · intro k' hk
    rcases Nat.lt_or_gt_of_ne (fun e => hk (Fin.ext e)) with h | h
    · exact land_after a0 c j k' (by omega) (by omega)
    · rw [show 1 + 4 * k.val + t' - 1 - 4 * k'.val = 0 by omega, show 1 + 4 * k.val + t - 1 - 4 * k'.val = 0 by omega]
  · rw [show 1 + 4 * k.val + t' - 1 - 4 * k.val = t' by omega, show 1 + 4 * k.val + t - 1 - 4 * k.val = t by omega]

/-- The landing buffers do not change while a part gathers. -/
theorem lands_late (c : Dev nD) (j : Fin 6) {q q' : ℕ} (h : 13 ≤ q) (h' : 13 ≤ q') :
    (bigSep Finset.univ fun k' : Fin 3 => land a0 c j k' (q - 1 - 4 * k'.val)) = bigSep Finset.univ fun k' : Fin 3 => land a0 c j k' (q' - 1 - 4 * k'.val) :=
  bigSep_congr fun k' _ => land_after a0 c j k' (by have := k'.isLt; omega) (by have := k'.isLt; omega)

/-- The borrowed rows of one step taken out while its part moves from `q` to `q'`, the other steps' not changing. -/
theorem lents_step (c : Dev nD) (j : Fin 6) (k : Fin 3) {q q' : ℕ}
    (h : ∀ k' : Fin 3, k' ≠ k → (4 * k'.val + 4 ≤ q' ∧ q' ≤ 21 - 4 * k'.val ↔ 4 * k'.val + 4 ≤ q ∧ q ≤ 21 - 4 * k'.val)) :
    (bigSep Finset.univ fun k' : Fin 3 => lent (F := F) c j k' q)
      ⊢ iprop(lent c j k q ∗ (lent c j k q' -∗ bigSep Finset.univ fun k' : Fin 3 => lent c j k' q')) :=
  bigSep_univ_update (Ψ := fun k' : Fin 3 => lent (F := F) c j k' q') k fun k' hk => by unfold lent; rw [if_congr (h k' hk) rfl rfl]
theorem lents_same (c : Dev nD) (j : Fin 6) {q q' : ℕ}
    (h : ∀ k' : Fin 3, (4 * k'.val + 4 ≤ q' ∧ q' ≤ 21 - 4 * k'.val ↔ 4 * k'.val + 4 ≤ q ∧ q ≤ 21 - 4 * k'.val)) :
    (bigSep Finset.univ fun k' : Fin 3 => lent (F := F) c j k' q) = bigSep Finset.univ fun k' : Fin 3 => lent c j k' q' :=
  bigSep_congr fun k' _ => by unfold lent; rw [if_congr (h k').symm rfl rfl]

theorem own_start (c : Dev nD) (j : Fin 6) : own a0 c j 0 = AccAny c (base j) (size j) := rfl
theorem own_zero (c : Dev nD) (j : Fin 6) {k : ℕ} (hk : k < 3) : own a0 c j (1 + 4 * k) = Acc c (lo j k c) (len j k) (red a0 k c) := by
  unfold own; rw [if_neg (by omega), if_pos (by omega), if_pos (by omega), show (1 + 4 * k - 1) / 4 = k by omega]
theorem own_sent (c : Dev nD) (j : Fin 6) {k t : ℕ} (hk : k < 3) (h₁ : 1 ≤ t) (h₂ : t ≤ 3) :
    own a0 c j (1 + 4 * k + t) = Acc c (lo j (k + 1) c) (len j (k + 1)) (red a0 k c) := by
  unfold own; rw [if_neg (by omega), if_pos (by omega), if_neg (by omega), show (1 + 4 * k + t - 1) / 4 = k by omega]
theorem own_late (c : Dev nD) (j : Fin 6) {k t : ℕ} (hk : 3 ≤ k) (ht : t = 0 ∨ t = 2) :
    own a0 c j (1 + 4 * k + t) = Acc c (lo j (6 - k) c) (len j (6 - k)) (fin a0) := by
  unfold own; rw [if_neg (by omega), if_neg (by omega), if_neg (by omega), show (1 + 4 * k + t - 1) / 4 = k by omega]
theorem own_gone (c : Dev nD) (j : Fin 6) {k : ℕ} (hk : 3 ≤ k) : own a0 c j (1 + 4 * k + 1) = iprop(emp) := by
  unfold own; rw [if_neg (by omega), if_neg (by omega), if_pos (by omega)]

end State

end Cert.KProof
end
-- ==== Proof.Steps.lean ====
/-
What one operation of the kernel does to the state.
-/
module

public import proofs.«01_k».proof.Proof.State

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The weakest precondition of a device's program. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Rows of the accumulator through a rectangle -/

theorem acc_set {l n : ℕ} (inb : ∀ a, (![l, 0] : Fin 2 → ℕ) a + (![n, 1024] : Fin 2 → ℕ) a ≤ S1024x1024.size a) :
    (accM.access (Rect.unit (s := S1024x1024) ![l, 0] ![n, 1024] inb)).set = rowsIn l n :=
  (View.set_slice_whole _ _).trans (rows_set inb)

theorem acc_read {l n : ℕ} (inb : ∀ a, (![l, 0] : Fin 2 → ℕ) a + (![n, 1024] : Fin 2 → ℕ) a ≤ S1024x1024.size a) (f : S1024x1024.Idx → Elt F .bf16) :
    (accM.access (Rect.unit (s := S1024x1024) ![l, 0] ![n, 1024] inb)).read (Elt F) f = rowsOf (n := n) f l := by
  funext x
  show f ((Rect.unit (s := S1024x1024) ![l, 0] ![n, 1024] inb).emb x) = f (at2 _ _)
  rw [rows_emb]

theorem acc_write {l n : ℕ} (inb : ∀ a, (![l, 0] : Fin 2 → ℕ) a + (![n, 1024] : Fin 2 → ℕ) a ≤ S1024x1024.size a)
    (f g : S1024x1024.Idx → Elt F .bf16) (w : (⟨2, ![n, 1024]⟩ : Shape).Idx → Elt F .bf16) (h : rowsOf g l = w) :
    ∀ i ∈ rowsIn l n, (accM.access (Rect.unit (s := S1024x1024) ![l, 0] ![n, 1024] inb)).write (Elt F) f w Finset.univ i = g i := by
  intro i hi
  rw [← acc_set inb] at hi
  obtain ⟨x, -, rfl⟩ := Finset.mem_map.mp hi
  refine (View.write_emb_of_mem (v := accM.access (Rect.unit (s := S1024x1024) ![l, 0] ![n, 1024] inb)) (Val := Elt F) f w (Finset.mem_univ x)).trans ?_
  show w x = g ((Rect.unit (s := S1024x1024) ![l, 0] ![n, 1024] inb).emb x)
  rw [rows_emb, ← h]; rfl

theorem rowsIn_sub {l n l' n' : ℕ} (h : l' ≤ l) (h' : l + n ≤ l' + n') : rowsIn l n ⊆ rowsIn l' n' := by
  intro i; rw [mem_rowsIn, mem_rowsIn]; omega

section Mem
variable (c : Dev nD)

/-- A load of rows of the accumulator. -/
theorem ld_rows {l n l' n' : ℕ} {f : S1024x1024.Idx → Elt F .bf16} (off : Fin 2 → ℕ) (hoff : off = ![l, 0])
    (inb : ∀ a, off a + (![n, 1024] : Fin 2 → ℕ) a ≤ S1024x1024.size a)
    (h : l' ≤ l) (h' : l + n ≤ l' + n')
    {hl : accM.view.LoadsAt (Rect.unit (s := S1024x1024) off ![n, 1024] inb).toLoadRect}
    {α : Type} {Q : α → sProp 𝕄} {K : ((⟨2, ![n, 1024]⟩ : Shape).Idx → Elt F .bf16) → Prog (TpuEff nD τ sig (Elt F) Λ₀ .tc) α} :
    Acc c l' n' f ⊢ iprop((Acc c l' n' f -∗ WP c (K (rowsOf f l)) Q)
      -∗ WP c (.op (.load accM (Rect.unit (s := S1024x1024) off ![n, 1024] inb).toLoadRect hl) K) Q) := by
  subst hoff
  have e := acc_read (F := F) inb f
  unfold Acc
  rw [← e]
  exact wp_load_rect (c := (c : Thread nD τ)) (m := accM) (r := Rect.unit (s := S1024x1024) ![l, 0] ![n, 1024] inb) 𝒱₀ none Set.univ
    (by rw [acc_set]; exact rowsIn_sub h h')

/-- A store of rows of the accumulator. -/
theorem st_rows {l n : ℕ} {f : S1024x1024.Idx → Elt F .bf16} (g : S1024x1024.Idx → Elt F .bf16) (off : Fin 2 → ℕ) (hoff : off = ![l, 0])
    (inb : ∀ a, off a + (![n, 1024] : Fin 2 → ℕ) a ≤ S1024x1024.size a) (w : (⟨2, ![n, 1024]⟩ : Shape).Idx → Elt F .bf16) (h : rowsOf g l = w)
    {hx : (accM.access (Rect.unit (s := S1024x1024) off ![n, 1024] inb)).Stores Finset.univ}
    {hm : (Finset.univ : Finset (Rect.unit (s := S1024x1024) off ![n, 1024] inb).shape.Idx) = Finset.univ ∨ ∀ a, (Rect.unit (s := S1024x1024) off ![n, 1024] inb).stride a = 1}
    {α : Type} {Q : α → sProp 𝕄} {K : PUnit → Prog (TpuEff nD τ sig (Elt F) Λ₀ .tc) α} :
    Acc c l n f ⊢ iprop((Acc c l n g -∗ WP c (K ⟨⟩) Q)
      -∗ WP c (.op (.store accM (Rect.unit (s := S1024x1024) off ![n, 1024] inb) w Finset.univ hx hm) K) Q) := by
  subst hoff
  have e : (Acc c l n g : sProp 𝕄) = Acc c l n ((accM.access (Rect.unit (s := S1024x1024) ![l, 0] ![n, 1024] inb)).write (Elt F) f w Finset.univ) :=
    (pointsTo_congr (acc_write inb f g w h)).symm
  rw [e]
  unfold Acc
  exact wp_store (c := (c : Thread nD τ)) (m := accM) (r := Rect.unit (s := S1024x1024) ![l, 0] ![n, 1024] inb) 𝒱₀ none Set.univ
    (by rw [View.setOn_univ, acc_set])

end Mem

/-! ## Waits -/

section Steps
variable (a0 : Dev nD → S1024x1024.Idx → Elt F .bf16) (c : Dev nD)

/-- A wait for the one payload of a cell, which is closed with it. -/
theorem wait_dma {i : ℕ} (s : DmaSem sig) (N : ℕ) (Pay : sProp 𝕄)
    (hexp : (sched (F := F) a0).expect ((c : Thread nD τ), .dma s) 0 = N)
    (hrest : bigSep ((sched (F := F) a0).duties ((c : Thread nD τ), .dma s) 0 \ ∅) (fun d => (sched (F := F) a0).payload ((c : Thread nD τ), .dma s) 0 d) = Pay)
    (hlv : ∀ g u, 0 < owed c i g u → lv ((c : Thread nD τ), .dma s) () < lv g u)
    {sp sp' : Space} {S S' : Shape} {e e' : EltTy} {src : Memref sig .tc sp' S' e'} {dst : Memref sig .tc sp S e}
    {hsrc : src.view.WordExact} {hdst : dst.view.WordExact} (hN : dst.view.dmaCredit = N)
    {α : Type} {Q : α → sProp 𝕄} {K : PUnit → Prog (TpuEff nD τ sig (Elt F) Λ₀ .tc) α} :
    iprop(Rec a0 ((c : Thread nD τ), .dma s) ∗ levAts L lv ∗ (∃ W, owes (c : Thread nD τ) (owed c i) W)
        ∗ cred (tallyAt ((c : Thread nD τ), .dma s) () N) ∗ atPos ER ((c : Thread nD τ), .dma s) 0 ∅ 0)
      ⊢ iprop((((∃ W, owes (c : Thread nD τ) (owed c i) W) ∗ semVal ((c : Thread nD τ), .dma s) 0 ∗ Pay) -∗ WP c (K ⟨⟩) Q)
        -∗ WP c (.op (.waitDma2 s src dst hsrc hdst) K) Q) := by
  subst hN
  iintro ⟨HR, #Hlev, ⟨%W, HO⟩, Hc, Hat⟩
  iintro Hk
  unfold Rec
  icases HR with ⟨%κ, #HI, -⟩
  iapply (Rounds.wp_wait_rest_token 𝒱₀ ER (sched a0) (c : Thread nD τ) none (κ := κ)
      (wpE_waitDma2_eq 𝒱₀ (c : Thread nD τ) none Set.univ) (Set.mem_univ _) () (O := owed c i) (W := W) (R := 0) (m := 0) (T := ∅)
      (by rw [Nat.zero_add, hexp])) $$ [Hc HO Hat]
  · isplitr; · iexact HI
    isplitl [Hc]; · iexact Hc
    isplitl [HO]; · iexact HO
    isplitr
    · iapply (mayWait_of c (.dma s) (owed c i) (fun g u h => ⟨(owed_pos h).1, hlv g u h⟩)); iexact Hlev
    iexact Hat
  iintro ⟨HO, Hat, -, Hpay⟩
  ihave Hp := (Entails.of_eq hrest) $$ Hpay
  imod (Rounds.cell_close ER (sched a0) (Set.mem_univ κ) (fun h => h) (R := 0 + 1) (duties_later a0 _)) $$ [Hat] with Hz
  · isplitr; · iexact HI
    iexact Hat
  iapply Hk
  isplitl [HO]
  · iexists _; iexact HO
  isplitl [Hz]; · iexact Hz
  iexact Hp

/-- A reducing step as a transfer. -/
abbrev up (k : Fin 3) : Fin 6 := ⟨k.val, by omega⟩

theorem tpal_up (k : Fin 3) (j : Fin 6) (c : Dev nD) : tpal k.val j c = pal j k.val c := by
  unfold tpal tdim pal; rw [if_pos k.isLt]
theorem tpal_late {k : ℕ} (hk : 3 ≤ k) (j : Fin 6) (c : Dev nD) : tpal k j c = pal j (5 - k) c := by
  unfold tpal tdim pal; rw [if_neg (by omega)]

theorem PS_eq (j : Fin 6) (q : ℕ) : PS a0 c j q = iprop(own a0 c j q ∗ (bigSep Finset.univ fun k : Fin 6 => tok c j k (q - 1 - 4 * k.val))
    ∗ (bigSep Finset.univ fun k : Fin 3 => land a0 c j k (q - 1 - 4 * k.val)) ∗ (bigSep Finset.univ fun k : Fin 3 => lent c j k q)) := rfl
theorem tok_0 (j k : Fin 6) : tok (F := F) c j k 0 = iprop(dutyTok ER (sendCell k j c) 0 (0 : D) ∗ dutyTok ER (recvCell k j (tpal k.val j c)) 0 (0 : D)
    ∗ atPos ER (sendCell k j c) 0 ∅ 0 ∗ atPos ER (recvCell k j c) 0 ∅ 0 ∗ cred (tallyAt (recvCell k j c) () (credit k j))) := rfl
theorem tok_1 (j k : Fin 6) : tok (F := F) c j k 1 = iprop(cred (tallyAt (sendCell k j c) () (credit k j))
    ∗ atPos ER (sendCell k j c) 0 ∅ 0 ∗ atPos ER (recvCell k j c) 0 ∅ 0 ∗ cred (tallyAt (recvCell k j c) () (credit k j))) := rfl
theorem tok_2 (j k : Fin 6) : tok (F := F) c j k 2
    = iprop(semVal (sendCell k j c) 0 ∗ atPos ER (recvCell k j c) 0 ∅ 0 ∗ cred (tallyAt (recvCell k j c) () (credit k j))) := rfl
theorem tok_3 (j k : Fin 6) (u : ℕ) : tok (F := F) c j k (u + 3) = iprop(semVal (sendCell k j c) 0 ∗ semVal (recvCell k j c) 0) := rfl
theorem own_same (j : Fin 6) {k : ℕ} (hk : k < 3) : own a0 c j (1 + 4 * k + 2) = own (F := F) a0 c j (1 + 4 * k + 3) := by
  rw [own_sent a0 c j hk (by decide) (by decide), own_sent a0 c j hk (by decide) (by decide)]
theorem land_3 (j : Fin 6) (k : Fin 3) : land a0 c j k 3 = BufAt c k.val j (rowsOf (red a0 k.val (pal j k.val c)) (lo j (k.val + 1) c)) := rfl
theorem land_0 (j : Fin 6) (k : Fin 3) : land a0 c j k 0 = BufAny (pal j k.val c) k.val j := rfl
theorem recvPay_half (k : Fin 3) (j : Fin 6) (c : Dev nD) : recvPay (F := F) a0 (up k) j c
    = iprop(BufAt c k.val j (rowsOf (red a0 k.val (pal j k.val c)) (lo j (k.val + 1) c)) ∗ AccAny (pal j k.val c) (lo j (k.val + 1) c) (len j (k.val + 1))) := by
  unfold recvPay; rw [if_pos (show (up k).val < 3 from k.isLt)]

/-- Two neighbouring runs of rows held together. -/
theorem acc_join (k : Fin 3) (j : Fin 6) (f : S1024x1024.Idx → Elt F .bf16) :
    (Acc c (lo j k.val c) (len j k.val) f : sProp 𝕄)
      ⊣⊢ iprop(Acc c (lo j (k.val + 1) c) (len j (k.val + 1)) f ∗ Acc c (lo j (k.val + 1) (pal j k.val c)) (len j (k.val + 1)) f) := by
  unfold Acc; rw [rowsIn_halves k j c]; exact pointsTo_union (rowsIn_apart k j c)

/-- A gathering step ends with the device's rows and its neighbour's. -/
theorem own_join (k j : Fin 6) (hk : 3 ≤ k.val) : iprop(own a0 c j (1 + 4 * k.val + 2) ∗ recvPay a0 k j c) ⊢ own (F := F) a0 c j (1 + 4 * k.val + 4) := by
  have hk6 := k.isLt
  unfold recvPay
  rw [if_neg (by omega), own_late a0 c j hk (Or.inr rfl), show 1 + 4 * k.val + 4 = 1 + 4 * (k.val + 1) + 0 by omega,
    own_late a0 c j (by omega) (Or.inl rfl), tpal_late hk, show 6 - k.val = 5 - k.val + 1 by omega, show 6 - (k.val + 1) = 5 - k.val by omega]
  exact (acc_join c ⟨5 - k.val, by omega⟩ j (fin a0)).2

/-- What the source semaphore's payload does to the rows held. -/
theorem own_wait (k j : Fin 6) : iprop(own a0 c j (1 + 4 * k.val + 1) ∗ sendPay a0 k j c) ⊢ own (F := F) a0 c j (1 + 4 * k.val + 2) := by
  unfold sendPay
  by_cases hk : k.val < 3
  · rw [if_pos hk, own_sent a0 c j hk (by decide) (by decide), own_sent a0 c j hk (by decide) (by decide)]
    iintro ⟨H, -⟩; iexact H
  · rw [if_neg hk, own_gone a0 c j (by omega), own_late a0 c j (by omega) (Or.inr rfl)]
    iintro ⟨-, H⟩; iexact H

theorem lands_wait (k j : Fin 6) :
    (bigSep Finset.univ fun k' : Fin 3 => land a0 c j k' (1 + 4 * k.val + 1 - 1 - 4 * k'.val))
      = bigSep Finset.univ fun k' : Fin 3 => land a0 c j k' (1 + 4 * k.val + 2 - 1 - 4 * k'.val) :=
  bigSep_congr fun k' _ => by
    rcases lt_trichotomy k'.val k.val with h | h | h
    · exact land_after a0 c j k' (by omega) (by omega)
    · rw [show 1 + 4 * k.val + 1 - 1 - 4 * k'.val = 1 by omega, show 1 + 4 * k.val + 2 - 1 - 4 * k'.val = 2 by omega]; rfl
    · rw [show 1 + 4 * k.val + 1 - 1 - 4 * k'.val = 0 by omega, show 1 + 4 * k.val + 2 - 1 - 4 * k'.val = 0 by omega]

/-- The wait for a transfer's source semaphore. -/
theorem wait_send {i : ℕ} {σ : Fin 6 → ℕ} (k j : Fin 6) (hσ : σ j = 1 + 4 * k.val + 1) (s : DmaSem sig) (hs : s = sendS k j)
    {sp sp' : Space} {S S' : Shape} {e e' : EltTy} {src : Memref sig .tc sp' S' e'} {dst : Memref sig .tc sp S e}
    {hsrc : src.view.WordExact} {hdst : dst.view.WordExact} (hN : dst.view.dmaCredit = credit k j)
    {α : Type} {Q : α → sProp 𝕄} {K : PUnit → Prog (TpuEff nD τ sig (Elt F) Λ₀ .tc) α} :
    St a0 c i σ ⊢ iprop((St a0 c i (Function.update σ j (1 + 4 * k.val + 2)) -∗ WP c (K ⟨⟩) Q)
      -∗ WP c (.op (.waitDma2 s src dst hsrc hdst) K) Q) := by
  subst hs
  refine (St_part a0 j).trans ?_
  rw [hσ]
  iintro ⟨#HK, HO, HP, Hput⟩ Hk
  ihave HP' := (Entails.of_eq (PS_eq a0 c j _)) $$ HP
  icases HP' with ⟨Hown, Htok, Hland, Hlent⟩
  ihave Ht := (toks_step c j k (t := 1) (t' := 2) (by decide) (by decide)) $$ Htok
  icases Ht with ⟨Ht', Hput'⟩
  ihave Ht := (Entails.of_eq (tok_1 c j k)) $$ Ht'
  icases Ht with ⟨Hc, Has, Har, Hcr⟩
  iapply (wait_dma a0 c (i := i) (sendS k j) (credit k j) (sendPay a0 k j c) (expect_send a0 k j c) (rest_send a0 k j c)
      (fun g u h => by have := (owed_pos h).2; rw [lv_send]; omega) hN) $$ [HO Hc Has]
  · isplitr; · iapply (know_send a0 k j c); iexact HK
    isplitr; · iapply (know_lev a0); iexact HK
    isplitl [HO]; · iexact HO
    isplitl [Hc]; · iexact Hc
    iexact Has
  iintro ⟨HO, Hz, Hpay⟩
  iapply Hk
  iapply Hput
  isplitl [HO]; · iexact HO
  iapply (Entails.of_eq (PS_eq a0 c j _).symm)
  isplitl [Hown Hpay]
  · iapply (own_wait a0 c k j)
    isplitl [Hown]; · iexact Hown
    iexact Hpay
  isplitl [Hput' Hz Har Hcr]
  · iapply Hput'
    iapply (Entails.of_eq (tok_2 c j k).symm)
    isplitl [Hz]; · iexact Hz
    isplitl [Har]; · iexact Har
    iexact Hcr
  isplitl [Hland]
  · rw [← lands_wait]; iexact Hland
  iapply (Entails.of_eq (lents_same c j (q := 1 + 4 * k.val + 1) (q' := 1 + 4 * k.val + 2) (by intro k'; omega))); iexact Hlent

/-- The wait for a reducing transfer's destination semaphore: the landed rows and the neighbour's arrive. -/
theorem wait_half {i : ℕ} {σ : Fin 6 → ℕ} (k : Fin 3) (j : Fin 6) (hσ : σ j = 1 + 4 * k.val + 2) (hi : 6 * k.val + j.val + 1 ≤ i)
    (s : DmaSem sig) (hs : s = recvS (up k) j)
    {sp sp' : Space} {S S' : Shape} {e e' : EltTy} {src : Memref sig .tc sp' S' e'} {dst : Memref sig .tc sp S e}
    {hsrc : src.view.WordExact} {hdst : dst.view.WordExact} (hN : dst.view.dmaCredit = credit (up k) j)
    {α : Type} {Q : α → sProp 𝕄} {K : PUnit → Prog (TpuEff nD τ sig (Elt F) Λ₀ .tc) α} :
    St a0 c i σ ⊢ iprop((St a0 c i (Function.update σ j (1 + 4 * k.val + 3)) -∗ WP c (K ⟨⟩) Q)
      -∗ WP c (.op (.waitDma2 s src dst hsrc hdst) K) Q) := by
  subst hs
  have hk := k.isLt
  refine (St_part a0 j).trans ?_
  rw [hσ]
  iintro ⟨#HK, HO, HP, Hput⟩ Hk
  ihave HP' := (Entails.of_eq (PS_eq a0 c j _)) $$ HP
  icases HP' with ⟨Hown, Htok, Hland, Hlent⟩
  ihave Ht := (toks_step c j (up k) (t := 2) (t' := 3) (by decide) (by decide)) $$ Htok
  icases Ht with ⟨Ht', Hput'⟩
  ihave Ht := (Entails.of_eq (tok_2 c j _)) $$ Ht'
  icases Ht with ⟨Hz', Har, Hcr⟩
  iapply (wait_dma a0 c (i := i) (recvS (up k) j) (credit (up k) j) (recvPay a0 (up k) j c) (expect_recv a0 (up k) j c) (rest_recv a0 (up k) j c)
      (fun g u h => by have := (owed_pos h).2; rw [lv_recv]; show 6 * k.val + j.val + 2 < lv g u; omega) hN) $$ [HO Hcr Har]
  · isplitr; · iapply (know_recv a0 (up k) j c); iexact HK
    isplitr; · iapply (know_lev a0); iexact HK
    isplitl [HO]; · iexact HO
    isplitl [Hcr]; · iexact Hcr
    iexact Har
  iintro ⟨HO, Hz, Hpay⟩
  ihave Hpay' := (Entails.of_eq (recvPay_half a0 k j c)) $$ Hpay
  icases Hpay' with ⟨Hbuf, Hacc⟩
  ihave Hl := (lands_step a0 c j k (t := 2) (t' := 3) (by decide) (by decide)) $$ Hland
  icases Hl with ⟨-, Hputl⟩
  ihave Hn := (lents_step c j k (q := 1 + 4 * k.val + 2) (q' := 1 + 4 * k.val + 3) (by intro k' hk'; have := fun e => hk' (Fin.ext e); omega)) $$ Hlent
  icases Hn with ⟨-, Hputn⟩
  iapply Hk
  iapply Hput
  isplitl [HO]; · iexact HO
  iapply (Entails.of_eq (PS_eq a0 c j _).symm)
  isplitl [Hown]
  · iapply (Entails.of_eq (own_same a0 c j hk)); iexact Hown
  isplitl [Hput' Hz Hz']
  · iapply Hput'
    iapply (Entails.of_eq (tok_3 c j (up k) 0).symm)
    isplitl [Hz']; · iexact Hz'
    iexact Hz
  isplitl [Hputl Hbuf]
  · iapply Hputl; iapply (Entails.of_eq (land_3 a0 c j k).symm); iexact Hbuf
  iapply Hputn
  unfold lent; rw [if_pos (by omega)]; iexact Hacc

/-- The wait for a gathering transfer's destination semaphore: the neighbour's finished rows join the device's own. -/
theorem wait_rows {i : ℕ} {σ : Fin 6 → ℕ} (k j : Fin 6) (hk : 3 ≤ k.val) (hσ : σ j = 1 + 4 * k.val + 2) (hi : 6 * k.val + j.val + 1 ≤ i)
    (s : DmaSem sig) (hs : s = recvS k j)
    {sp sp' : Space} {S S' : Shape} {e e' : EltTy} {src : Memref sig .tc sp' S' e'} {dst : Memref sig .tc sp S e}
    {hsrc : src.view.WordExact} {hdst : dst.view.WordExact} (hN : dst.view.dmaCredit = credit k j)
    {α : Type} {Q : α → sProp 𝕄} {K : PUnit → Prog (TpuEff nD τ sig (Elt F) Λ₀ .tc) α} :
    St a0 c i σ ⊢ iprop((St a0 c i (Function.update σ j (1 + 4 * k.val + 4)) -∗ WP c (K ⟨⟩) Q)
      -∗ WP c (.op (.waitDma2 s src dst hsrc hdst) K) Q) := by
  subst hs
  have hk6 := k.isLt
  refine (St_part a0 j).trans ?_
  rw [hσ]
  iintro ⟨#HK, HO, HP, Hput⟩ Hk
  ihave HP' := (Entails.of_eq (PS_eq a0 c j _)) $$ HP
  icases HP' with ⟨Hown, Htok, Hland, Hlent⟩
  ihave Ht := (toks_step c j k (t := 2) (t' := 4) (by decide) (by decide)) $$ Htok
  icases Ht with ⟨Ht', Hput'⟩
  ihave Ht := (Entails.of_eq (tok_2 c j _)) $$ Ht'
  icases Ht with ⟨Hz', Har, Hcr⟩
  iapply (wait_dma a0 c (i := i) (recvS k j) (credit k j) (recvPay a0 k j c) (expect_recv a0 k j c) (rest_recv a0 k j c)
      (fun g u h => by have := (owed_pos h).2; rw [lv_recv]; omega) hN) $$ [HO Hcr Har]
  · isplitr; · iapply (know_recv a0 k j c); iexact HK
    isplitr; · iapply (know_lev a0); iexact HK
    isplitl [HO]; · iexact HO
    isplitl [Hcr]; · iexact Hcr
    iexact Har
  iintro ⟨HO, Hz, Hpay⟩
  iapply Hk
  iapply Hput
  isplitl [HO]; · iexact HO
  iapply (Entails.of_eq (PS_eq a0 c j _).symm)
  isplitl [Hown Hpay]
  · iapply (own_join a0 c k j hk)
    isplitl [Hown]; · iexact Hown
    iexact Hpay
  isplitl [Hput' Hz Hz']
  · iapply Hput'
    iapply (Entails.of_eq (tok_3 c j k 1).symm)
    isplitl [Hz']; · iexact Hz'
    iexact Hz
  isplitl [Hland]
  · iapply (Entails.of_eq (lands_late a0 c j (q := 1 + 4 * k.val + 2) (q' := 1 + 4 * k.val + 4) (by omega) (by omega))); iexact Hland
  iapply (Entails.of_eq (lents_same c j (q := 1 + 4 * k.val + 2) (q' := 1 + 4 * k.val + 4) (by intro k'; omega))); iexact Hlent

theorem acc_pts {l n : ℕ} (inb : ∀ a, (![l, 0] : Fin 2 → ℕ) a + (![n, 1024] : Fin 2 → ℕ) a ≤ S1024x1024.size a)
    (hr : ∀ a, (Rect.unit (s := S1024x1024) ![l, 0] ![n, 1024] inb).stride a = 1) (f : S1024x1024.Idx → Elt F .bf16) :
    (Acc c l n f : sProp 𝕄) = ((accM.slice (Rect.unit (s := S1024x1024) ![l, 0] ![n, 1024] inb) hr).view.loc (c : Thread nD τ)
      ↦[(accM.slice (Rect.unit (s := S1024x1024) ![l, 0] ![n, 1024] inb) hr).view.set]{fullShare} f) := by
  rw [show (accM.slice (Rect.unit (s := S1024x1024) ![l, 0] ![n, 1024] inb) hr).view.set = rowsIn l n from acc_set inb]; rfl

theorem buf_amount (k : Fin 3) (j : Fin 6) (s : DmaSem sig) :
    (buf k.val j).view.amount (.dma s) = RefSig.tileCredit ⟨2, ![len j (k.val + 1), 1024]⟩ .bf16 := by
  fin_cases k <;> fin_cases j <;> rfl

/-- A reducing transfer is issued: half of the device's rows go to the neighbour's landing buffer, to come back with the landing. -/
theorem send_half {i : ℕ} {σ : Fin 6 → ℕ} (k : Fin 3) (j : Fin 6) (hσ : σ j = 1 + 4 * k.val) (hi : i = 6 * k.val + j.val)
    (off : Fin 2 → ℕ) (hoff : off = ![lo j (k.val + 1) (pal j k.val c), 0]) (n : ℕ) (hn : n = len j (k.val + 1))
    (inb : ∀ a, off a + (![n, 1024] : Fin 2 → ℕ) a ≤ S1024x1024.size a)
    (b : Memref sig .tc .vmem ⟨2, ![n, 1024]⟩ .bf16) (hb : HEq b (buf k.val j))
    (p : Dev nD) (hp : p = pal j k.val c) (s s' : DmaSem sig) (hs : s = sendS (up k) j) (hs' : s' = recvS (up k) j)
    {hr : ∀ a, (Rect.unit (s := S1024x1024) off ![n, 1024] inb).stride a = 1}
    {hsc : (show Memref sig (Dev.tc p : Thread nD τ).2.kind .vmem ⟨2, ![n, 1024]⟩ .bf16 from b).view.ref.isScScratch = false}
    {hsrc : (accM.slice (Rect.unit (s := S1024x1024) off ![n, 1024] inb) hr).view.WordExact} {hdst : b.view.WordExact}
    {hsem : DmaTarget.Typed .vmem (.dma s') (.remote (Dev.tc p : Thread nD τ) b (.dma s) hsc)}
    {α : Type} {Q : α → sProp 𝕄} {K : PUnit → Prog (TpuEff nD τ sig (Elt F) Λ₀ .tc) α} :
    St a0 c i σ ⊢ iprop((St a0 c (i + 1) (Function.update σ j (1 + 4 * k.val + 1)) -∗ WP c (K ⟨⟩) Q)
      -∗ WP c (.op (.enqueueDma (accM.slice (Rect.unit (s := S1024x1024) off ![n, 1024] inb) hr)
          (.remote (Dev.tc p : Thread nD τ) b (.dma s) hsc) (.dma s') hsrc hdst hsem) K) Q) := by
  subst hoff hn hp hs hs'
  obtain rfl := eq_of_heq hb
  have hk := k.isLt
  have hlen : tlen (up k).val j = len j (k.val + 1) := by unfold tlen; rw [if_pos (show (up k).val < 3 from hk)]
  have hcr : (buf k.val j).view.amount (.dma (recvS (up k) j)) = credit (up k) j := by
    rw [buf_amount]; unfold credit; rw [hlen]
  have hO : owed c i = owed c (i + 1) + tallyAt ((Dev.tc (pal j k.val c) : Thread nD τ), .dma (recvS (up k) j)) () (credit (up k) j) := by
    rw [owed_step c (by have := j.isLt; omega), hi]
    unfold due; rw [show 6 * k.val + j.val = 6 * (up k).val + j.val from rfl, stepOf_eq, partOf_eq, tpal_up]
  have htr : (dutyTok ER (recvCell (up k) j (tpal (up k).val j c)) 0 (0 : D) : sProp 𝕄) = dutyTok ER (recvCell (up k) j (pal j k.val c)) 0 (0 : D) := by
    rw [tpal_up]
  have hp2 (fd : Buf (Elt F) ((buf k.val j).view.loc (pal j k.val c : Thread nD τ))) :
      iprop(((buf k.val j).view.loc (pal j k.val c : Thread nD τ) ↦[(buf k.val j).view.set]{fullShare}
          ((buf k.val j).view.write (Elt F) fd ((accM.slice (Rect.unit (s := S1024x1024) ![lo j (k.val + 1) (pal j k.val c), 0] ![len j (k.val + 1), 1024] inb) hr).view.read (Elt F) (red a0 k.val c)) Finset.univ))
        ∗ ((accM.slice (Rect.unit (s := S1024x1024) ![lo j (k.val + 1) (pal j k.val c), 0] ![len j (k.val + 1), 1024] inb) hr).view.loc (c : Thread nD τ)
          ↦[(accM.slice (Rect.unit (s := S1024x1024) ![lo j (k.val + 1) (pal j k.val c), 0] ![len j (k.val + 1), 1024] inb) hr).view.set]{fullShare} (red a0 k.val c)))
      ⊢ (sched (F := F) a0).payload (recvCell (up k) j (pal j k.val c)) 0 (0 : D) := by
    rw [payload_recv, recvPay_half, pal_pal, ← acc_pts c inb hr]
    unfold BufAt AccAny
    iintro ⟨H₁, H₂⟩
    isplitl [H₁]
    · iexists _
      isplitr
      rotate_left
      · iexact H₁
      · ipureintro; exact (View.read_write_univ _ _).trans (acc_read inb _)
    iexists _; iexact H₂
  have hp1 : (emp : sProp 𝕄) ⊢ (sched a0).payload (sendCell (up k) j c) 0 (0 : D) := by
    rw [payload_send]; unfold sendPay; rw [if_pos (show (up k).val < 3 from hk)]
  refine (St_part a0 j).trans ?_
  rw [hσ]
  iintro ⟨#HK, HO, HP, Hput⟩ Hk
  ihave HP' := (Entails.of_eq (PS_eq a0 c j _)) $$ HP
  icases HP' with ⟨Hown, Htok, Hland, Hlent⟩
  ihave Ht := (toks_step c j (up k) (t := 0) (t' := 1) (by decide) (by decide)) $$ Htok
  icases Ht with ⟨Ht, Hput'⟩
  ihave Hl := (lands_step a0 c j k (t := 0) (t' := 1) (by decide) (by decide)) $$ Hland
  icases Hl with ⟨Hl, Hputl⟩
  ihave Hown' := (Entails.of_eq (own_zero a0 c j hk)) $$ Hown
  ihave Hsp := (acc_join c k j (red a0 k.val c)).1 $$ Hown'
  icases Hsp with ⟨Hkeep, Hsend⟩
  ihave Ht0 := (Entails.of_eq (tok_0 c j _)) $$ Ht
  ihave Hl0 := (Entails.of_eq (land_0 a0 c j k)) $$ Hl
  icases Ht0 with ⟨Hts, Htr, Has, Har, Hcr⟩
  unfold BufAny
  icases Hl0 with ⟨%fd, Hbuf⟩
  icases HO with ⟨%W, HO⟩
  ihave HRs := (know_send a0 (up k) j c) $$ HK
  ihave HRr := (know_recv a0 (up k) j (pal j k.val c)) $$ HK
  unfold Rec
  icases HRs with ⟨%κ₁, #HIs, #Hrs⟩
  icases HRr with ⟨%κ₂, #HIr, #Hrr⟩
  iapply (Rounds.wp_send_landing_pointsTo 𝒱₀ ER (sched a0) (c : Thread nD τ) none (κ₁ := κ₁) (κ₂ := κ₂) (r₁ := 0) (r₂ := 0) (d₁ := (0 : D)) (d₂ := (0 : D))
      (c' := (Dev.tc (pal j k.val c) : Thread nD τ))
      (src := accM.slice (Rect.unit (s := S1024x1024) ![lo j (k.val + 1) (pal j k.val c), 0] ![len j (k.val + 1), 1024] inb) hr) (dst := buf k.val j)
      (q := fullShare) (fs := red a0 k.val c) (fd := fd)
      (by rw [duties_send]; exact Finset.mem_singleton_self _) (by rw [duties_recv]; exact Finset.mem_singleton_self _)
      () () (credit (up k) j) hcr (amount_send a0 (up k) j c _) (amount_recv a0 (up k) j _ _) (owed c (i + 1)) hO (W := W) hp1 (hp2 fd)) $$ [Hsend Hbuf HO Hts Htr]
  · isplitr; · iexact HIs
    isplitr; · iexact HIr
    isplitl [Hsend]; · iapply (Entails.of_eq (acc_pts c inb hr _)); iexact Hsend
    isplitl [Hbuf]; · iexact Hbuf
    isplitl [HO]; · iexact HO
    isplitl [Hts]; · iexact Hts
    isplitr; · iexact Hrs
    isplitl [Htr]; · iapply (Entails.of_eq htr); iexact Htr
    iexact Hrr
  iintro ⟨Hcs, HO⟩
  iapply Hk
  iapply Hput
  isplitl [HO]; · iexists W; iexact HO
  iapply (Entails.of_eq (PS_eq a0 c j _).symm)
  isplitl [Hkeep]
  · iapply (Entails.of_eq (own_sent a0 c j hk (t := 1) (by decide) (by decide)).symm); iexact Hkeep
  isplitl [Hput' Hcs Has Har Hcr]
  · iapply Hput'
    iapply (Entails.of_eq (tok_1 c j _).symm)
    isplitl [Hcs]; · iexact Hcs
    isplitl [Has]; · iexact Has
    isplitl [Har]; · iexact Har
    iexact Hcr
  isplitl [Hputl]
  · iapply Hputl; unfold land; iempintro
  iapply (Entails.of_eq (lents_same c j (q := 1 + 4 * k.val) (q' := 1 + 4 * k.val + 1) (by intro k'; omega))); iexact Hlent

theorem lent_late (k j : Fin 6) (hk : 3 ≤ k.val) :
    lent (F := F) c j ⟨5 - k.val, by omega⟩ (1 + 4 * k.val) = AccAny (tpal k.val j c) (lo j (6 - k.val) c) (len j (6 - k.val)) := by
  have hk6 := k.isLt
  unfold lent; rw [if_pos (by dsimp only; omega), tpal_late hk]; dsimp only; rw [show 5 - k.val + 1 = 6 - k.val by omega]
theorem lent_sent (k j : Fin 6) (hk : 3 ≤ k.val) : lent (F := F) c j ⟨5 - k.val, by omega⟩ (1 + 4 * k.val + 1) = iprop(emp) := by
  unfold lent; exact if_neg (by dsimp only; omega)

/-- A gathering transfer is issued: the device's finished rows go to the same rows of the neighbour's accumulator. -/
theorem send_rows {i : ℕ} {σ : Fin 6 → ℕ} (k j : Fin 6) (hk : 3 ≤ k.val) (hσ : σ j = 1 + 4 * k.val) (hi : i = 6 * k.val + j.val)
    (off : Fin 2 → ℕ) (hoff : off = ![lo j (6 - k.val) c, 0]) (n : ℕ) (hn : n = len j (6 - k.val))
    (inb : ∀ a, off a + (![n, 1024] : Fin 2 → ℕ) a ≤ S1024x1024.size a)
    (p : Dev nD) (hp : p = tpal k.val j c) (s s' : DmaSem sig) (hs : s = sendS k j) (hs' : s' = recvS k j)
    {hr hr' : ∀ a, (Rect.unit (s := S1024x1024) off ![n, 1024] inb).stride a = 1}
    {hsc : (show Memref sig (Dev.tc p : Thread nD τ).2.kind .vmem ⟨2, ![n, 1024]⟩ .bf16 from accM.slice (Rect.unit (s := S1024x1024) off ![n, 1024] inb) hr').view.ref.isScScratch = false}
    {hsrc : (accM.slice (Rect.unit (s := S1024x1024) off ![n, 1024] inb) hr).view.WordExact}
    {hdst : (accM.slice (Rect.unit (s := S1024x1024) off ![n, 1024] inb) hr').view.WordExact}
    {hsem : DmaTarget.Typed .vmem (.dma s') (.remote (Dev.tc p : Thread nD τ) (accM.slice (Rect.unit (s := S1024x1024) off ![n, 1024] inb) hr') (.dma s) hsc)}
    {α : Type} {Q : α → sProp 𝕄} {K : PUnit → Prog (TpuEff nD τ sig (Elt F) Λ₀ .tc) α} :
    St a0 c i σ ⊢ iprop((St a0 c (i + 1) (Function.update σ j (1 + 4 * k.val + 1)) -∗ WP c (K ⟨⟩) Q)
      -∗ WP c (.op (.enqueueDma (accM.slice (Rect.unit (s := S1024x1024) off ![n, 1024] inb) hr)
          (.remote (Dev.tc p : Thread nD τ) (accM.slice (Rect.unit (s := S1024x1024) off ![n, 1024] inb) hr') (.dma s) hsc) (.dma s') hsrc hdst hsem) K) Q) := by
  subst hoff hn hp hs hs'
  have hk6 := k.isLt
  have hlen : tlen k.val j = len j (6 - k.val) := by unfold tlen; rw [if_neg (by omega)]
  have hO : owed c i = owed c (i + 1) + tallyAt ((Dev.tc (tpal k.val j c) : Thread nD τ), .dma (recvS k j)) () (credit k j) := by
    rw [owed_step c (by have := j.isLt; omega), hi]
    unfold due; rw [stepOf_eq, partOf_eq]
  have hcr : (accM.slice (Rect.unit (s := S1024x1024) ![lo j (6 - k.val) c, 0] ![len j (6 - k.val), 1024] inb) hr').view.amount (.dma (recvS k j)) = credit k j := by
    unfold credit; rw [hlen]; rfl
  have hp1 : ((accM.slice (Rect.unit (s := S1024x1024) ![lo j (6 - k.val) c, 0] ![len j (6 - k.val), 1024] inb) hr).view.loc (c : Thread nD τ)
          ↦[(accM.slice (Rect.unit (s := S1024x1024) ![lo j (6 - k.val) c, 0] ![len j (6 - k.val), 1024] inb) hr).view.set]{fullShare} (fin a0))
      ⊢ (sched (F := F) a0).payload (sendCell k j c) 0 (0 : D) := by
    rw [payload_send, ← acc_pts c inb hr]; unfold sendPay; rw [if_neg (by omega)]
  have hp2 (fd : S1024x1024.Idx → Elt F .bf16) :
      ((accM.slice (Rect.unit (s := S1024x1024) ![lo j (6 - k.val) c, 0] ![len j (6 - k.val), 1024] inb) hr').view.loc (tpal k.val j c : Thread nD τ)
          ↦[(accM.slice (Rect.unit (s := S1024x1024) ![lo j (6 - k.val) c, 0] ![len j (6 - k.val), 1024] inb) hr').view.set]{fullShare}
        ((accM.slice (Rect.unit (s := S1024x1024) ![lo j (6 - k.val) c, 0] ![len j (6 - k.val), 1024] inb) hr').view.write (Elt F) fd
          ((accM.slice (Rect.unit (s := S1024x1024) ![lo j (6 - k.val) c, 0] ![len j (6 - k.val), 1024] inb) hr).view.read (Elt F) (fin a0)) Finset.univ))
      ⊢ (sched (F := F) a0).payload (recvCell k j (tpal k.val j c)) 0 (0 : D) := by
    rw [payload_recv]; unfold recvPay; rw [if_neg (by omega), tpal_tpal, ← acc_pts (tpal k.val j c) inb hr']
    exact Entails.of_eq (pointsTo_congr (acc_write inb fd (fin a0) _ (acc_read inb _).symm))
  refine (St_part a0 j).trans ?_
  rw [hσ]
  iintro ⟨#HK, HO, HP, Hput⟩ Hk
  ihave HP' := (Entails.of_eq (PS_eq a0 c j _)) $$ HP
  icases HP' with ⟨Hown, Htok, Hland, Hlent⟩
  ihave Ht := (toks_step c j k (t := 0) (t' := 1) (by decide) (by decide)) $$ Htok
  icases Ht with ⟨Ht, Hput'⟩
  ihave Hn := (lents_step c j ⟨5 - k.val, by omega⟩ (q := 1 + 4 * k.val) (q' := 1 + 4 * k.val + 1)
    (by intro k' hk'; have h5 : k'.val ≠ 5 - k.val := fun e => hk' (Fin.ext e); omega)) $$ Hlent
  icases Hn with ⟨Hn, Hputn⟩
  ihave Hdst := (Entails.of_eq (lent_late c k j hk)) $$ Hn
  ihave Hown' := (Entails.of_eq (own_late a0 c j hk (t := 0) (Or.inl rfl))) $$ Hown
  ihave Ht0 := (Entails.of_eq (tok_0 c j _)) $$ Ht
  icases Ht0 with ⟨Hts, Htr, Has, Har, Hcr⟩
  unfold AccAny
  icases Hdst with ⟨%fd, Hdst⟩
  icases HO with ⟨%W, HO⟩
  ihave HRs := (know_send a0 k j c) $$ HK
  ihave HRr := (know_recv a0 k j (tpal k.val j c)) $$ HK
  unfold Rec
  icases HRs with ⟨%κ₁, #HIs, #Hrs⟩
  icases HRr with ⟨%κ₂, #HIr, #Hrr⟩
  iapply (Rounds.wp_send_pointsTo 𝒱₀ ER (sched a0) (c : Thread nD τ) none (κ₁ := κ₁) (κ₂ := κ₂) (r₁ := 0) (r₂ := 0) (d₁ := (0 : D)) (d₂ := (0 : D))
      (c' := (Dev.tc (tpal k.val j c) : Thread nD τ))
      (src := accM.slice (Rect.unit (s := S1024x1024) ![lo j (6 - k.val) c, 0] ![len j (6 - k.val), 1024] inb) hr)
      (dst := accM.slice (Rect.unit (s := S1024x1024) ![lo j (6 - k.val) c, 0] ![len j (6 - k.val), 1024] inb) hr')
      (q := fullShare) (fs := fin a0) (fd := fd)
      (by rw [duties_send]; exact Finset.mem_singleton_self _) (by rw [duties_recv]; exact Finset.mem_singleton_self _)
      () () (credit k j) hcr (amount_send a0 k j c _) (amount_recv a0 k j _ _) (owed c (i + 1)) hO (W := W) hp1 (hp2 fd)) $$ [Hown' Hdst HO Hts Htr]
  · isplitr; · iexact HIs
    isplitr; · iexact HIr
    isplitl [Hown']; · iapply (Entails.of_eq (acc_pts c inb hr _)); iexact Hown'
    isplitl [Hdst]; · iapply (Entails.of_eq (acc_pts (tpal k.val j c) inb hr' _)); iexact Hdst
    isplitl [HO]; · iexact HO
    isplitl [Hts]; · iexact Hts
    isplitr; · iexact Hrs
    isplitl [Htr]; · iexact Htr
    iexact Hrr
  iintro ⟨Hcs, HO⟩
  iapply Hk
  iapply Hput
  isplitl [HO]; · iexists W; iexact HO
  iapply (Entails.of_eq (PS_eq a0 c j _).symm)
  isplitr
  · iapply (Entails.of_eq (own_gone a0 c j hk).symm); iempintro
  isplitl [Hput' Hcs Has Har Hcr]
  · iapply Hput'
    iapply (Entails.of_eq (tok_1 c j _).symm)
    isplitl [Hcs]; · iexact Hcs
    isplitl [Has]; · iexact Has
    isplitl [Har]; · iexact Har
    iexact Hcr
  isplitl [Hland]
  · iapply (Entails.of_eq (lands_late a0 c j (q := 1 + 4 * k.val) (q' := 1 + 4 * k.val + 1) (by omega) (by omega))); iexact Hland
  iapply Hputn
  iapply (Entails.of_eq (lent_sent c k j hk).symm); iempintro

/-! ## Loads and stores -/

theorem land_4 (j : Fin 6) (k : Fin 3) : land a0 c j k 4 = BufAny c k.val j := rfl

theorem toks_same (j k : Fin 6) :
    (bigSep Finset.univ fun k' : Fin 6 => tok (F := F) c j k' (1 + 4 * k.val + 3 - 1 - 4 * k'.val))
      = bigSep Finset.univ fun k' : Fin 6 => tok (F := F) c j k' (1 + 4 * k.val + 4 - 1 - 4 * k'.val) :=
  bigSep_congr fun k' _ => by
    rcases Nat.lt_or_ge k.val k'.val with h | h
    · rw [show 1 + 4 * k.val + 3 - 1 - 4 * k'.val = 0 by omega, show 1 + 4 * k.val + 4 - 1 - 4 * k'.val = 0 by omega]
    · exact tok_after c j k' (by omega) (by omega)

/-- The rows a reducing step ends with. -/
theorem red_rows (k : Fin 3) (j : Fin 6) {n : ℕ} (hn : n = len j (k.val + 1)) :
    rowsOf (n := n) (red a0 (k.val + 1) c) (lo j (k.val + 1) c)
      = fun x => FloatOps.addf (rowsOf (red a0 k.val c) (lo j (k.val + 1) c) x) (rowsOf (red a0 k.val (pal j k.val c)) (lo j (k.val + 1) c) x) := by
  subst hn
  funext x
  have h0 : (x 0).val < len j (k.val + 1) := (x 0).isLt
  have h1 := lo_ge ⟨k.val + 1, by omega⟩ j c
  have h2 := lo_le ⟨k.val + 1, by omega⟩ j c
  have h3 := base_le j
  dsimp only at h1 h2
  have hp : part ((at2 (lo j (k.val + 1) c + (x 0).val) (x 1)) 0).val = j := by
    show part ((lo j (k.val + 1) c + (x 0).val) % 1024) = j
    rw [Nat.mod_eq_of_lt (by omega)]; exact part_eq (by omega) (by omega)
  show FloatOps.addf (red a0 k.val c _) (red a0 k.val (pal (part ((at2 (lo j (k.val + 1) c + (x 0).val) (x 1)) 0).val) k.val c) _) = _
  rw [hp]; rfl

/-- A merged part is at the next step's start; after the last step its rows are finished. -/
theorem own_merged (k : Fin 3) (j : Fin 6) :
    (Acc c (lo j (k.val + 1) c) (len j (k.val + 1)) (red a0 (k.val + 1) c) : sProp 𝕄) = own a0 c j (1 + 4 * k.val + 4) := by
  have hk := k.isLt
  rw [show 1 + 4 * k.val + 4 = 1 + 4 * (k.val + 1) + 0 by omega]
  by_cases h : k.val + 1 < 3
  · exact (own_zero a0 c j h).symm
  · rw [own_late a0 c j (by omega) (Or.inl rfl), show 6 - (k.val + 1) = k.val + 1 by omega, show k.val + 1 = 3 by omega]
    refine pointsTo_congr fun i hi => ?_
    rw [mem_rowsIn] at hi
    show red a0 3 c i = red a0 3 (owner (i 0).val) i
    rw [owner_eq hi.1 hi.2]

/-- A load of the device's own rows before a merge. -/
theorem ld_keep {i : ℕ} {σ : Fin 6 → ℕ} (k : Fin 3) (j : Fin 6) (hσ : σ j = 1 + 4 * k.val + 3)
    (off : Fin 2 → ℕ) (hoff : off = ![lo j (k.val + 1) c, 0]) (n : ℕ) (hn : n = len j (k.val + 1))
    (inb : ∀ a, off a + (![n, 1024] : Fin 2 → ℕ) a ≤ S1024x1024.size a)
    {hl : accM.view.LoadsAt (Rect.unit (s := S1024x1024) off ![n, 1024] inb).toLoadRect}
    {α : Type} {Q : α → sProp 𝕄} {K : ((⟨2, ![n, 1024]⟩ : Shape).Idx → Elt F .bf16) → Prog (TpuEff nD τ sig (Elt F) Λ₀ .tc) α} :
    St a0 c i σ ⊢ iprop((St a0 c i σ -∗ WP c (K (rowsOf (red a0 k.val c) (lo j (k.val + 1) c))) Q)
      -∗ WP c (.op (.load accM (Rect.unit (s := S1024x1024) off ![n, 1024] inb).toLoadRect hl) K) Q) := by
  subst hn
  refine (St_part a0 j).trans ?_
  iintro ⟨#HK, HO, HP, Hput⟩ Hk
  ihave HP' := (Entails.of_eq (PS_eq a0 c j _)) $$ HP
  icases HP' with ⟨Hown, Hrest⟩
  ihave Hacc := (Entails.of_eq ((congrArg (own a0 c j) hσ).trans (own_sent a0 c j k.isLt (t := 3) (by decide) (by decide)))) $$ Hown
  iapply (ld_rows c off hoff inb (le_refl _) (le_refl _)) $$ Hacc
  iintro Hacc
  iapply Hk
  iapply (Entails.of_eq (congrArg (St a0 c i) (Function.update_eq_self j σ)))
  iapply Hput
  isplitl [HO]; · iexact HO
  iapply (Entails.of_eq (PS_eq a0 c j _).symm)
  isplitl [Hacc]
  · iapply (Entails.of_eq ((congrArg (own a0 c j) hσ).trans (own_sent a0 c j k.isLt (t := 3) (by decide) (by decide))).symm); iexact Hacc
  iexact Hrest

/-- A load of a finished part. -/
theorem ld_done {i : ℕ} {σ : Fin 6 → ℕ} (j : Fin 6) (hσ : σ j = 25) (off : Fin 2 → ℕ) (hoff : off = ![base j, 0]) (n : ℕ) (hn : n = size j)
    (inb : ∀ a, off a + (![n, 1024] : Fin 2 → ℕ) a ≤ S1024x1024.size a)
    {hl : accM.view.LoadsAt (Rect.unit (s := S1024x1024) off ![n, 1024] inb).toLoadRect}
    {α : Type} {Q : α → sProp 𝕄} {K : ((⟨2, ![n, 1024]⟩ : Shape).Idx → Elt F .bf16) → Prog (TpuEff nD τ sig (Elt F) Λ₀ .tc) α} :
    St a0 c i σ ⊢ iprop((St a0 c i σ -∗ WP c (K (rowsOf (fin a0) (base j))) Q)
      -∗ WP c (.op (.load accM (Rect.unit (s := S1024x1024) off ![n, 1024] inb).toLoadRect hl) K) Q) := by
  subst hn
  have e : own a0 c j (σ j) = Acc c (base j) (size j) (fin a0) := (congrArg (own a0 c j) hσ).trans rfl
  refine (St_part a0 j).trans ?_
  iintro ⟨#HK, HO, HP, Hput⟩ Hk
  ihave HP' := (Entails.of_eq (PS_eq a0 c j _)) $$ HP
  icases HP' with ⟨Hown, Hrest⟩
  ihave Hacc := (Entails.of_eq e) $$ Hown
  iapply (ld_rows c off hoff inb (le_refl _) (le_refl _)) $$ Hacc
  iintro Hacc
  iapply Hk
  iapply (Entails.of_eq (congrArg (St a0 c i) (Function.update_eq_self j σ)))
  iapply Hput
  isplitl [HO]; · iexact HO
  iapply (Entails.of_eq (PS_eq a0 c j _).symm)
  isplitl [Hacc]
  · iapply (Entails.of_eq e.symm); iexact Hacc
  iexact Hrest

/-- A load of a part nothing is stored in yet: whatever it reads. -/
theorem ld_any {i : ℕ} {σ : Fin 6 → ℕ} (j : Fin 6) (hσ : σ j = 0) (off : Fin 2 → ℕ) (hoff : off = ![base j, 0]) (n : ℕ) (hn : n = size j)
    (inb : ∀ a, off a + (![n, 1024] : Fin 2 → ℕ) a ≤ S1024x1024.size a)
    {hl : accM.view.LoadsAt (Rect.unit (s := S1024x1024) off ![n, 1024] inb).toLoadRect}
    {α : Type} {Q : α → sProp 𝕄} {K : ((⟨2, ![n, 1024]⟩ : Shape).Idx → Elt F .bf16) → Prog (TpuEff nD τ sig (Elt F) Λ₀ .tc) α} :
    St a0 c i σ ⊢ iprop((∀ v, St a0 c i σ -∗ WP c (K v) Q)
      -∗ WP c (.op (.load accM (Rect.unit (s := S1024x1024) off ![n, 1024] inb).toLoadRect hl) K) Q) := by
  subst hn
  have e : own a0 c j (σ j) = AccAny c (base j) (size j) := (congrArg (own a0 c j) hσ).trans rfl
  refine (St_part a0 j).trans ?_
  iintro ⟨#HK, HO, HP, Hput⟩ Hk
  ihave HP' := (Entails.of_eq (PS_eq a0 c j _)) $$ HP
  icases HP' with ⟨Hown, Hrest⟩
  ihave Hacc := (Entails.of_eq e) $$ Hown
  unfold AccAny
  icases Hacc with ⟨%f, Hacc⟩
  iapply (ld_rows c off hoff inb (le_refl _) (le_refl _)) $$ Hacc
  iintro Hacc
  iapply Hk
  iapply (Entails.of_eq (congrArg (St a0 c i) (Function.update_eq_self j σ)))
  iapply Hput
  isplitl [HO]; · iexact HO
  iapply (Entails.of_eq (PS_eq a0 c j _).symm)
  isplitl [Hacc]
  · iapply (Entails.of_eq e.symm); unfold AccAny; iexists f; iexact Hacc
  iexact Hrest

/-- The store of a part's partial product. -/
theorem st_part {i : ℕ} {σ : Fin 6 → ℕ} (j : Fin 6) (hσ : σ j = 0) (off : Fin 2 → ℕ) (hoff : off = ![base j, 0]) (n : ℕ) (hn : n = size j)
    (inb : ∀ a, off a + (![n, 1024] : Fin 2 → ℕ) a ≤ S1024x1024.size a)
    (w : (⟨2, ![n, 1024]⟩ : Shape).Idx → Elt F .bf16) (hw : rowsOf (a0 c) (base j) = w)
    {hx : (accM.access (Rect.unit (s := S1024x1024) off ![n, 1024] inb)).Stores Finset.univ}
    {hm : (Finset.univ : Finset (Rect.unit (s := S1024x1024) off ![n, 1024] inb).shape.Idx) = Finset.univ ∨ ∀ a, (Rect.unit (s := S1024x1024) off ![n, 1024] inb).stride a = 1}
    {α : Type} {Q : α → sProp 𝕄} {K : PUnit → Prog (TpuEff nD τ sig (Elt F) Λ₀ .tc) α} :
    St a0 c i σ ⊢ iprop((St a0 c i (Function.update σ j 1) -∗ WP c (K ⟨⟩) Q)
      -∗ WP c (.op (.store accM (Rect.unit (s := S1024x1024) off ![n, 1024] inb) w Finset.univ hx hm) K) Q) := by
  subst hn
  refine (St_part a0 j).trans ?_
  rw [hσ]
  iintro ⟨#HK, HO, HP, Hput⟩ Hk
  ihave HP' := (Entails.of_eq (PS_eq a0 c j _)) $$ HP
  icases HP' with ⟨Hown, Htok, Hland, Hlent⟩
  ihave Hacc := (Entails.of_eq (own_start a0 c j)) $$ Hown
  unfold AccAny
  icases Hacc with ⟨%f, Hacc⟩
  iapply (st_rows c (a0 c) off hoff inb w hw) $$ Hacc
  iintro Hacc
  iapply Hk
  iapply Hput
  isplitl [HO]; · iexact HO
  iapply (Entails.of_eq (PS_eq a0 c j _).symm)
  isplitl [Hacc]
  · iapply (Entails.of_eq (own_zero a0 c j (k := 0) (by decide)).symm); iexact Hacc
  isplitl [Htok]; · iexact Htok
  isplitl [Hland]; · iexact Hland
  iapply (Entails.of_eq (lents_same c j (q := 0) (q' := 1) (by intro k'; omega))); iexact Hlent

/-- A load of a landing buffer before a merge. -/
theorem ld_land {i : ℕ} {σ : Fin 6 → ℕ} (k : Fin 3) (j : Fin 6) (hσ : σ j = 1 + 4 * k.val + 3) (n : ℕ) (hn : n = len j (k.val + 1))
    (b : Memref sig .tc .vmem ⟨2, ![n, 1024]⟩ .bf16) (hb : HEq b (buf k.val j))
    (inb : ∀ a, (![0, 0] : Fin 2 → ℕ) a + (![n, 1024] : Fin 2 → ℕ) a ≤ (⟨2, ![n, 1024]⟩ : Shape).size a)
    {hl : b.view.LoadsAt (Rect.unit (s := ⟨2, ![n, 1024]⟩) ![0, 0] ![n, 1024] inb).toLoadRect}
    {α : Type} {Q : α → sProp 𝕄} {K : ((⟨2, ![n, 1024]⟩ : Shape).Idx → Elt F .bf16) → Prog (TpuEff nD τ sig (Elt F) Λ₀ .tc) α} :
    St a0 c i σ ⊢ iprop((St a0 c i σ -∗ WP c (K (rowsOf (red a0 k.val (pal j k.val c)) (lo j (k.val + 1) c))) Q)
      -∗ WP c (.op (.load b (Rect.unit (s := ⟨2, ![n, 1024]⟩) ![0, 0] ![n, 1024] inb).toLoadRect hl) K) Q) := by
  subst hn
  obtain rfl := eq_of_heq hb
  refine (St_part a0 j).trans ?_
  iintro ⟨#HK, HO, HP, Hput⟩ Hk
  ihave HP1 := (Entails.of_eq ((congrArg (PS a0 c j) hσ).trans (PS_eq a0 c j _))) $$ HP
  icases HP1 with ⟨Hown, Htok, Hland, Hlent⟩
  ihave Hl := (lands_step a0 c j k (t := 3) (t' := 3) (by decide) (by decide)) $$ Hland
  icases Hl with ⟨Hl, Hputl⟩
  ihave Hl3 := (Entails.of_eq (land_3 a0 c j k)) $$ Hl
  unfold BufAt
  icases Hl3 with ⟨%f, %hf, Hbuf⟩
  have hv : (buf k.val j).view.readAt (Elt F) (Rect.unit (s := ⟨2, ![len j (k.val + 1), 1024]⟩) ![0, 0] ![len j (k.val + 1), 1024] inb).toLoadRect f
      = rowsOf (red a0 k.val (pal j k.val c)) (lo j (k.val + 1) c) := by
    rw [← hf]; funext x; rw [View.readAt_apply]
    refine congrArg _ (funext fun a => Fin.ext ?_)
    fin_cases a <;> exact (Nat.zero_add _).trans (Nat.one_mul _)
  iapply (wp_load (c := (c : Thread nD τ)) (m := buf k.val j) (r := (Rect.unit (s := ⟨2, ![len j (k.val + 1), 1024]⟩) ![0, 0] ![len j (k.val + 1), 1024] inb).toLoadRect)
    𝒱₀ none Set.univ (View.setOn_subset_set _ _)) $$ Hbuf
  iintro Hbuf
  rw [hv]
  iapply Hk
  iapply (Entails.of_eq (congrArg (St a0 c i) (Function.update_eq_self j σ)))
  iapply Hput
  isplitl [HO]; · iexact HO
  iapply (Entails.of_eq ((congrArg (PS a0 c j) hσ).trans (PS_eq a0 c j _)).symm)
  isplitl [Hown]; · iexact Hown
  isplitl [Htok]; · iexact Htok
  isplitl [Hputl Hbuf]
  · iapply Hputl
    iapply (Entails.of_eq (land_3 a0 c j k).symm)
    unfold BufAt
    iexists f
    isplitr; · ipureintro; exact hf
    iexact Hbuf
  iexact Hlent

/-- The store of a merge. -/
theorem st_merge {i : ℕ} {σ : Fin 6 → ℕ} (k : Fin 3) (j : Fin 6) (hσ : σ j = 1 + 4 * k.val + 3)
    (off : Fin 2 → ℕ) (hoff : off = ![lo j (k.val + 1) c, 0]) (n : ℕ) (hn : n = len j (k.val + 1))
    (inb : ∀ a, off a + (![n, 1024] : Fin 2 → ℕ) a ≤ S1024x1024.size a)
    (w : (⟨2, ![n, 1024]⟩ : Shape).Idx → Elt F .bf16)
    (hw : w = fun x => FloatOps.addf (rowsOf (red a0 k.val c) (lo j (k.val + 1) c) x) (rowsOf (red a0 k.val (pal j k.val c)) (lo j (k.val + 1) c) x))
    {hx : (accM.access (Rect.unit (s := S1024x1024) off ![n, 1024] inb)).Stores Finset.univ}
    {hm : (Finset.univ : Finset (Rect.unit (s := S1024x1024) off ![n, 1024] inb).shape.Idx) = Finset.univ ∨ ∀ a, (Rect.unit (s := S1024x1024) off ![n, 1024] inb).stride a = 1}
    {α : Type} {Q : α → sProp 𝕄} {K : PUnit → Prog (TpuEff nD τ sig (Elt F) Λ₀ .tc) α} :
    St a0 c i σ ⊢ iprop((St a0 c i (Function.update σ j (1 + 4 * k.val + 4)) -∗ WP c (K ⟨⟩) Q)
      -∗ WP c (.op (.store accM (Rect.unit (s := S1024x1024) off ![n, 1024] inb) w Finset.univ hx hm) K) Q) := by
  subst hn
  have hk := k.isLt
  refine (St_part a0 j).trans ?_
  rw [hσ]
  iintro ⟨#HK, HO, HP, Hput⟩ Hk
  ihave HP' := (Entails.of_eq (PS_eq a0 c j _)) $$ HP
  icases HP' with ⟨Hown, Htok, Hland, Hlent⟩
  ihave Hacc := (Entails.of_eq (own_sent a0 c j k.isLt (t := 3) (by decide) (by decide))) $$ Hown
  iapply (st_rows c (red a0 (k.val + 1) c) off hoff inb w ((red_rows a0 c k j rfl).trans hw.symm)) $$ Hacc
  iintro Hacc
  iapply Hk
  iapply Hput
  isplitl [HO]; · iexact HO
  iapply (Entails.of_eq (PS_eq a0 c j _).symm)
  isplitl [Hacc]
  · iapply (Entails.of_eq (own_merged a0 c k j)); iexact Hacc
  isplitl [Htok]
  · iapply (Entails.of_eq (toks_same c j (up k))); iexact Htok
  isplitl [Hland]
  · ihave Hl := (lands_step a0 c j k (t := 3) (t' := 4) (by decide) (by decide)) $$ Hland
    icases Hl with ⟨Hl, Hputl⟩
    iapply Hputl
    ihave Hl3 := (Entails.of_eq (land_3 a0 c j k)) $$ Hl
    iapply (Entails.of_eq (land_4 a0 c j k).symm)
    unfold BufAt BufAny
    icases Hl3 with ⟨%f, -, Hbuf⟩
    iexists f; iexact Hbuf
  iapply (Entails.of_eq (lents_same c j (q := 1 + 4 * k.val + 3) (q' := 1 + 4 * k.val + 4) (by intro k'; omega))); iexact Hlent

end Steps

end Cert.KProof
end
-- ==== Proof.Offsets.lean ====
/-
The rows the kernel's transfers and merges address and the devices they go to, in closed form.
-/
module

public import proofs.«01_k».proof.Proof.Steps

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- A part of the kernel at the buffers and semaphores of the launch. -/
abbrev onArgs {β : Sort*} (f : ∀
    (arg0 : Memref sig .tc .vmem S1024x512 .f32) (harg0 : arg0.IsWhole) (arg1 : Memref sig .tc .vmem S512x32 .f32) (harg1 : arg1.IsWhole)
    (arg2 : Memref sig .tc .vmem S1024x2 .i32) (harg2 : arg2.IsWhole) (arg3 : Memref sig .tc .vmem S4x512x1024 .f32) (harg3 : arg3.IsWhole)
    (arg4 : Memref sig .tc .vmem S1024x1024 .f32) (harg4 : arg4.IsWhole) (arg5 : Memref sig .tc .vmem S96x1024 .bf16) (harg5 : arg5.IsWhole)
    (arg6 : Memref sig .tc .vmem S48x1024 .bf16) (harg6 : arg6.IsWhole) (arg7 : Memref sig .tc .vmem S24x1024 .bf16) (harg7 : arg7.IsWhole)
    (arg8 : Memref sig .tc .vmem S96x1024 .bf16) (harg8 : arg8.IsWhole) (arg9 : Memref sig .tc .vmem S48x1024 .bf16) (harg9 : arg9.IsWhole)
    (arg10 : Memref sig .tc .vmem S24x1024 .bf16) (harg10 : arg10.IsWhole) (arg11 : Memref sig .tc .vmem S96x1024 .bf16) (harg11 : arg11.IsWhole)
    (arg12 : Memref sig .tc .vmem S48x1024 .bf16) (harg12 : arg12.IsWhole) (arg13 : Memref sig .tc .vmem S24x1024 .bf16) (harg13 : arg13.IsWhole)
    (arg14 : Memref sig .tc .vmem S96x1024 .bf16) (harg14 : arg14.IsWhole) (arg15 : Memref sig .tc .vmem S48x1024 .bf16) (harg15 : arg15.IsWhole)
    (arg16 : Memref sig .tc .vmem S24x1024 .bf16) (harg16 : arg16.IsWhole) (arg17 : Memref sig .tc .vmem S64x1024 .bf16) (harg17 : arg17.IsWhole)
    (arg18 : Memref sig .tc .vmem S32x1024 .bf16) (harg18 : arg18.IsWhole) (arg19 : Memref sig .tc .vmem S16x1024 .bf16) (harg19 : arg19.IsWhole)
    (arg20 : Memref sig .tc .vmem S64x1024 .bf16) (harg20 : arg20.IsWhole) (arg21 : Memref sig .tc .vmem S32x1024 .bf16) (harg21 : arg21.IsWhole)
    (arg22 : Memref sig .tc .vmem S16x1024 .bf16) (harg22 : arg22.IsWhole) (arg23 : Memref sig .tc .vmem S1024x1024 .bf16) (harg23 : arg23.IsWhole)
    (arg24 : DmaSems sig S36) (arg25 : DmaSems sig S36), β) : β :=
  f (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) (Memref.whole cc0_scratch6) (Memref.isWhole_whole _)
    (Memref.whole cc0_scratch7) (Memref.isWhole_whole _) (Memref.whole cc0_scratch8) (Memref.isWhole_whole _)
    (Memref.whole cc0_scratch9) (Memref.isWhole_whole _) (Memref.whole cc0_scratch10) (Memref.isWhole_whole _)
    (Memref.whole cc0_scratch11) (Memref.isWhole_whole _) (Memref.whole cc0_scratch12) (Memref.isWhole_whole _)
    (Memref.whole cc0_scratch13) (Memref.isWhole_whole _) (Memref.whole cc0_scratch14) (Memref.isWhole_whole _)
    (Memref.whole cc0_scratch15) (Memref.isWhole_whole _) (Memref.whole cc0_scratch16) (Memref.isWhole_whole _)
    (Memref.whole cc0_scratch17) (Memref.isWhole_whole _) (Memref.whole cc0_scratch18) (Memref.isWhole_whole _) cc0_scratch19 cc0_scratch20

/-! ## The rows each transfer carries: half of what the device holds, then what it has finished. -/

theorem sent0 : ∀ c : Dev nD, k0_off1 c 0#32 2#32 = ![lo 0 1 (pal 0 0 c), 0] := by decide +kernel
theorem sent1 : ∀ c : Dev nD, k0_off1 c 192#32 1#32 = ![lo 1 1 (pal 1 0 c), 0] := by decide +kernel
theorem sent2 : ∀ c : Dev nD, k0_off2 c = ![lo 2 1 (pal 2 0 c), 0] := by decide +kernel
theorem sent3 : ∀ c : Dev nD, k0_off1 c 576#32 2#32 = ![lo 3 1 (pal 3 0 c), 0] := by decide +kernel
theorem sent4 : ∀ c : Dev nD, k0_off3 c = ![lo 4 1 (pal 4 0 c), 0] := by decide +kernel
theorem sent5 : ∀ c : Dev nD, k0_off4 c = ![lo 5 1 (pal 5 0 c), 0] := by decide +kernel
theorem sent6 : ∀ c : Dev nD, k0_off6 c = ![lo 0 2 (pal 0 1 c), 0] := by decide +kernel
theorem sent7 : ∀ c : Dev nD, k0_off7 c 192#32 1#32 = ![lo 1 2 (pal 1 1 c), 0] := by decide +kernel
theorem sent8 : ∀ c : Dev nD, k0_off9 c = ![lo 2 2 (pal 2 1 c), 0] := by decide +kernel
theorem sent9 : ∀ c : Dev nD, k0_off7 c 576#32 2#32 = ![lo 3 2 (pal 3 1 c), 0] := by decide +kernel
theorem sent10 : ∀ c : Dev nD, k0_off11 c = ![lo 4 2 (pal 4 1 c), 0] := by decide +kernel
theorem sent11 : ∀ c : Dev nD, k0_off13 c = ![lo 5 2 (pal 5 1 c), 0] := by decide +kernel
theorem sent12 : ∀ c : Dev nD, k0_off15 c = ![lo 0 3 (pal 0 2 c), 0] := by decide +kernel
theorem sent13 : ∀ c : Dev nD, k0_off17 c 192#32 1#32 2#32 = ![lo 1 3 (pal 1 2 c), 0] := by decide +kernel
theorem sent14 : ∀ c : Dev nD, k0_off19 c = ![lo 2 3 (pal 2 2 c), 0] := by decide +kernel
theorem sent15 : ∀ c : Dev nD, k0_off17 c 576#32 2#32 1#32 = ![lo 3 3 (pal 3 2 c), 0] := by decide +kernel
theorem sent16 : ∀ c : Dev nD, k0_off21 c = ![lo 4 3 (pal 4 2 c), 0] := by decide +kernel
theorem sent17 : ∀ c : Dev nD, k0_off23 c = ![lo 5 3 (pal 5 2 c), 0] := by decide +kernel
theorem sent18 : ∀ c : Dev nD, k0_off25 c = ![lo 0 3 c, 0] := by decide +kernel
theorem sent19 : ∀ c : Dev nD, k0_off27 c 192#32 1#32 2#32 = ![lo 1 3 c, 0] := by decide +kernel
theorem sent20 : ∀ c : Dev nD, k0_off29 c = ![lo 2 3 c, 0] := by decide +kernel
theorem sent21 : ∀ c : Dev nD, k0_off27 c 576#32 2#32 1#32 = ![lo 3 3 c, 0] := by decide +kernel
theorem sent22 : ∀ c : Dev nD, k0_off31 c = ![lo 4 3 c, 0] := by decide +kernel
theorem sent23 : ∀ c : Dev nD, k0_off33 c = ![lo 5 3 c, 0] := by decide +kernel
theorem sent24 : ∀ c : Dev nD, k0_off34 c = ![lo 0 2 c, 0] := by decide +kernel
theorem sent25 : ∀ c : Dev nD, k0_off35 c 192#32 1#32 2#32 = ![lo 1 2 c, 0] := by decide +kernel
theorem sent26 : ∀ c : Dev nD, k0_off36 c = ![lo 2 2 c, 0] := by decide +kernel
theorem sent27 : ∀ c : Dev nD, k0_off35 c 576#32 2#32 1#32 = ![lo 3 2 c, 0] := by decide +kernel
theorem sent28 : ∀ c : Dev nD, k0_off37 c = ![lo 4 2 c, 0] := by decide +kernel
theorem sent29 : ∀ c : Dev nD, k0_off38 c = ![lo 5 2 c, 0] := by decide +kernel
theorem sent30 : ∀ c : Dev nD, k0_off39 c = ![lo 0 1 c, 0] := by decide +kernel
theorem sent31 : ∀ c : Dev nD, k0_off40 c 192#32 1#32 2#32 = ![lo 1 1 c, 0] := by decide +kernel
theorem sent32 : ∀ c : Dev nD, k0_off41 c = ![lo 2 1 c, 0] := by decide +kernel
theorem sent33 : ∀ c : Dev nD, k0_off40 c 576#32 2#32 1#32 = ![lo 3 1 c, 0] := by decide +kernel
theorem sent34 : ∀ c : Dev nD, k0_off42 c = ![lo 4 1 c, 0] := by decide +kernel
theorem sent35 : ∀ c : Dev nD, k0_off43 c = ![lo 5 1 c, 0] := by decide +kernel

/-! ## The rows each merge adds to. -/

theorem kept0 : ∀ c : Dev nD, k0_off5 c 0#32 2#32 = ![lo 0 1 c, 0] := by decide +kernel
theorem kept1 : ∀ c : Dev nD, k0_off5 c 192#32 1#32 = ![lo 1 1 c, 0] := by decide +kernel
theorem kept2 : ∀ c : Dev nD, k0_off8 c = ![lo 2 1 c, 0] := by decide +kernel
theorem kept3 : ∀ c : Dev nD, k0_off5 c 576#32 2#32 = ![lo 3 1 c, 0] := by decide +kernel
theorem kept4 : ∀ c : Dev nD, k0_off10 c = ![lo 4 1 c, 0] := by decide +kernel
theorem kept5 : ∀ c : Dev nD, k0_off12 c = ![lo 5 1 c, 0] := by decide +kernel
theorem kept6 : ∀ c : Dev nD, k0_off14 c = ![lo 0 2 c, 0] := by decide +kernel
theorem kept7 : ∀ c : Dev nD, k0_off16 c 192#32 1#32 = ![lo 1 2 c, 0] := by decide +kernel
theorem kept8 : ∀ c : Dev nD, k0_off18 c = ![lo 2 2 c, 0] := by decide +kernel
theorem kept9 : ∀ c : Dev nD, k0_off16 c 576#32 2#32 = ![lo 3 2 c, 0] := by decide +kernel
theorem kept10 : ∀ c : Dev nD, k0_off20 c = ![lo 4 2 c, 0] := by decide +kernel
theorem kept11 : ∀ c : Dev nD, k0_off22 c = ![lo 5 2 c, 0] := by decide +kernel
theorem kept12 : ∀ c : Dev nD, k0_off24 c = ![lo 0 3 c, 0] := by decide +kernel
theorem kept13 : ∀ c : Dev nD, k0_off26 c 192#32 1#32 2#32 = ![lo 1 3 c, 0] := by decide +kernel
theorem kept14 : ∀ c : Dev nD, k0_off28 c = ![lo 2 3 c, 0] := by decide +kernel
theorem kept15 : ∀ c : Dev nD, k0_off26 c 576#32 2#32 1#32 = ![lo 3 3 c, 0] := by decide +kernel
theorem kept16 : ∀ c : Dev nD, k0_off30 c = ![lo 4 3 c, 0] := by decide +kernel
theorem kept17 : ∀ c : Dev nD, k0_off32 c = ![lo 5 3 c, 0] := by decide +kernel

/-! ## The device each transfer goes to. -/

theorem dest0 : ∀ c : Dev nD, (⟨k0_dev4 c, k0_dev4_lt c⟩ : Dev nD) = pal 0 0 c := by decide +kernel
theorem dest1 : ∀ c : Dev nD, (⟨k0_dev5 c, k0_dev5_lt c⟩ : Dev nD) = pal 1 0 c := by decide +kernel
theorem dest2 : ∀ c : Dev nD, (⟨k0_dev6 c, k0_dev6_lt c⟩ : Dev nD) = pal 2 0 c := by decide +kernel
theorem dest3 : ∀ c : Dev nD, (⟨k0_dev7 c, k0_dev7_lt c⟩ : Dev nD) = pal 3 0 c := by decide +kernel
theorem dest4 : ∀ c : Dev nD, (⟨k0_dev8 c, k0_dev8_lt c⟩ : Dev nD) = pal 4 0 c := by decide +kernel
theorem dest5 : ∀ c : Dev nD, (⟨k0_dev9 c, k0_dev9_lt c⟩ : Dev nD) = pal 5 0 c := by decide +kernel
theorem dest6 : ∀ c : Dev nD, (⟨k0_dev10 c, k0_dev10_lt c⟩ : Dev nD) = pal 0 1 c := by decide +kernel
theorem dest7 : ∀ c : Dev nD, (⟨k0_dev11 c, k0_dev11_lt c⟩ : Dev nD) = pal 1 1 c := by decide +kernel
theorem dest8 : ∀ c : Dev nD, (⟨k0_dev12 c, k0_dev12_lt c⟩ : Dev nD) = pal 2 1 c := by decide +kernel
theorem dest9 : ∀ c : Dev nD, (⟨k0_dev13 c, k0_dev13_lt c⟩ : Dev nD) = pal 3 1 c := by decide +kernel
theorem dest10 : ∀ c : Dev nD, (⟨k0_dev14 c, k0_dev14_lt c⟩ : Dev nD) = pal 4 1 c := by decide +kernel
theorem dest11 : ∀ c : Dev nD, (⟨k0_dev15 c, k0_dev15_lt c⟩ : Dev nD) = pal 5 1 c := by decide +kernel
theorem dest12 : ∀ c : Dev nD, (⟨k0_dev16 c, k0_dev16_lt c⟩ : Dev nD) = pal 0 2 c := by decide +kernel
theorem dest13 : ∀ c : Dev nD, (⟨k0_dev17 c, k0_dev17_lt c⟩ : Dev nD) = pal 1 2 c := by decide +kernel
theorem dest14 : ∀ c : Dev nD, (⟨k0_dev18 c, k0_dev18_lt c⟩ : Dev nD) = pal 2 2 c := by decide +kernel
theorem dest15 : ∀ c : Dev nD, (⟨k0_dev19 c, k0_dev19_lt c⟩ : Dev nD) = pal 3 2 c := by decide +kernel
theorem dest16 : ∀ c : Dev nD, (⟨k0_dev20 c, k0_dev20_lt c⟩ : Dev nD) = pal 4 2 c := by decide +kernel
theorem dest17 : ∀ c : Dev nD, (⟨k0_dev21 c, k0_dev21_lt c⟩ : Dev nD) = pal 5 2 c := by decide +kernel
theorem dest18 : ∀ c : Dev nD, (⟨k0_dev22 c, k0_dev22_lt c⟩ : Dev nD) = tpal 3 0 c := by decide +kernel
theorem dest19 : ∀ c : Dev nD, (⟨k0_dev23 c, k0_dev23_lt c⟩ : Dev nD) = tpal 3 1 c := by decide +kernel
theorem dest20 : ∀ c : Dev nD, (⟨k0_dev24 c, k0_dev24_lt c⟩ : Dev nD) = tpal 3 2 c := by decide +kernel
theorem dest21 : ∀ c : Dev nD, (⟨k0_dev25 c, k0_dev25_lt c⟩ : Dev nD) = tpal 3 3 c := by decide +kernel
theorem dest22 : ∀ c : Dev nD, (⟨k0_dev26 c, k0_dev26_lt c⟩ : Dev nD) = tpal 3 4 c := by decide +kernel
theorem dest23 : ∀ c : Dev nD, (⟨k0_dev27 c, k0_dev27_lt c⟩ : Dev nD) = tpal 3 5 c := by decide +kernel
theorem dest24 : ∀ c : Dev nD, (⟨k0_dev28 c, k0_dev28_lt c⟩ : Dev nD) = tpal 4 0 c := by decide +kernel
theorem dest25 : ∀ c : Dev nD, (⟨k0_dev29 c, k0_dev29_lt c⟩ : Dev nD) = tpal 4 1 c := by decide +kernel
theorem dest26 : ∀ c : Dev nD, (⟨k0_dev30 c, k0_dev30_lt c⟩ : Dev nD) = tpal 4 2 c := by decide +kernel
theorem dest27 : ∀ c : Dev nD, (⟨k0_dev31 c, k0_dev31_lt c⟩ : Dev nD) = tpal 4 3 c := by decide +kernel
theorem dest28 : ∀ c : Dev nD, (⟨k0_dev32 c, k0_dev32_lt c⟩ : Dev nD) = tpal 4 4 c := by decide +kernel
theorem dest29 : ∀ c : Dev nD, (⟨k0_dev33 c, k0_dev33_lt c⟩ : Dev nD) = tpal 4 5 c := by decide +kernel
theorem dest30 : ∀ c : Dev nD, (⟨k0_dev34 c, k0_dev34_lt c⟩ : Dev nD) = tpal 5 0 c := by decide +kernel
theorem dest31 : ∀ c : Dev nD, (⟨k0_dev35 c, k0_dev35_lt c⟩ : Dev nD) = tpal 5 1 c := by decide +kernel
theorem dest32 : ∀ c : Dev nD, (⟨k0_dev36 c, k0_dev36_lt c⟩ : Dev nD) = tpal 5 2 c := by decide +kernel
theorem dest33 : ∀ c : Dev nD, (⟨k0_dev37 c, k0_dev37_lt c⟩ : Dev nD) = tpal 5 3 c := by decide +kernel
theorem dest34 : ∀ c : Dev nD, (⟨k0_dev38 c, k0_dev38_lt c⟩ : Dev nD) = tpal 5 4 c := by decide +kernel
theorem dest35 : ∀ c : Dev nD, (⟨k0_dev39 c, k0_dev39_lt c⟩ : Dev nD) = tpal 5 5 c := by decide +kernel
theorem called0 : ∀ c : Dev nD, (⟨k0_dev1 c, k0_dev1_lt c⟩ : Dev nD) = nbr 0 c := by decide +kernel
theorem called1 : ∀ c : Dev nD, (⟨k0_dev2 c, k0_dev2_lt c⟩ : Dev nD) = nbr 1 c := by decide +kernel
theorem called2 : ∀ c : Dev nD, (⟨k0_dev3 c, k0_dev3_lt c⟩ : Dev nD) = nbr 2 c := by decide +kernel

end Cert.KProof
-- ==== Proof.Exchange.lean ====
/-
The parts of the kernel in which rows are exchanged: each runs from one state to the next.
-/
module

public import Idealize.ShloMosaic.Lib.Pipeline.Value
public import proofs.«01_k».proof.Proof.Offsets

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A reshape of a sum to its own shape is the sum. -/
theorem cast_add {s : Shape} (a b : FVec F s .bf16) (h : s.ShapeCasts s) :
    shapeCast s (addf a b) h = fun x => FloatOps.addf (a x) (b x) := shapeCast_self _ h

theorem St_to (a0 : Dev nD → S1024x1024.Idx → Elt F .bf16) (c : Dev nD) {i : ℕ} {σ σ' : Fin 6 → ℕ} (h : ∀ j, σ j = σ' j) : St a0 c i σ ⊢ St a0 c i σ' := by
  rw [funext h]

theorem St_ret (a0 : Dev nD → S1024x1024.Idx → Elt F .bf16) (c : Dev nD) {i : ℕ} {σ σ' : Fin 6 → ℕ} {α : Type} {v : α} (h : ∀ j, σ j = σ' j) :
    St a0 c i σ ⊢ WP c (Prog.ret v) fun _ => St a0 c i σ' := by
  rw [funext h]; unfold WP; rw [wp_ret]
  iintro HS; imodintro; iexact HS

theorem St_ret_at (a0 : Dev nD → S1024x1024.Idx → Elt F .bf16) (c : Dev nD) {i : ℕ} {σ σ' : Fin 6 → ℕ} {α : Type} {v : α} {φ : α → Prop} (hφ : φ v)
    (h : ∀ j, σ j = σ' j) : St a0 c i σ ⊢ WP c (Prog.ret v) fun r => iprop(⌜φ r⌝ ∗ St a0 c i σ') := by
  rw [funext h]; unfold WP; rw [wp_ret]
  iintro HS; imodintro
  isplitr; · ipureintro; exact hφ
  iexact HS

/-- A part of a program, and then the rest of it. -/
theorem run_then {α β : Type} {c : Dev nD} {P : sProp 𝕄} {R : α → sProp 𝕄} {Q : β → sProp 𝕄} {p : Prog (TpuEff nD τ sig (Elt F) Λ₀ .tc) α}
    {K : α → Prog (TpuEff nD τ sig (Elt F) Λ₀ .tc) β} (h : P ⊢ WP c p R) :
    P ⊢ iprop((∀ r, R r -∗ WP c (K r) Q) -∗ WP c (p.bind K) Q) := by
  unfold WP at h ⊢
  rw [show p.bind K = (p >>= K) from rfl, wp_bind_eq]
  exact h.trans (wp_wand _ _ _)

/-! ## The output buffer -/

/-- The result: the finished rows widened. -/
def res (a0 : Dev nD → S1024x1024.Idx → Elt F .bf16) : S1024x1024.Idx → Elt F .f32 := fun i => FloatOps.extf .f32 bitsLt_bf16_f32 (fin a0 i)

def outM : Memref sig .tc .vmem S1024x1024 .f32 := Memref.whole cc0_stg4_0

/-- The output buffer with its first `m` rows written. -/
def Out (a0 : Dev nD → S1024x1024.Idx → Elt F .bf16) (c : Dev nD) (m : ℕ) : sProp 𝕄 :=
  iprop(∃ f : S1024x1024.Idx → Elt F .f32, ⌜∀ i : S1024x1024.Idx, (i 0).val < m → f i = res a0 i⌝
    ∗ (outM.view.loc (c : Thread nD τ) ↦[Finset.univ]{fullShare} (f : Buf (Elt F) (outM.view.loc (c : Thread nD τ)))))

variable (a0 : Dev nD → S1024x1024.Idx → Elt F .bf16) (c : Dev nD)

theorem ld_out {m : ℕ} {r : LoadRect S1024x1024} {hl : outM.view.LoadsAt r}
    {α : Type} {Q : α → sProp 𝕄} {K : (r.shape.Idx → Elt F .f32) → Prog (TpuEff nD τ sig (Elt F) Λ₀ .tc) α} :
    Out a0 c m ⊢ iprop((∀ v, Out a0 c m -∗ WP c (K v) Q) -∗ WP c (.op (.load outM r hl) K) Q) := by
  unfold Out
  iintro ⟨%f, %hf, Hf⟩ Hk
  iapply (wp_load 𝒱₀ (c : Thread nD τ) none Set.univ (m := outM) (r := r) (q := fullShare) (f := f) (S := Finset.univ) (Finset.subset_univ _)) $$ Hf
  iintro Hf
  iapply Hk
  iexists f
  isplitr; · ipureintro; exact hf
  iexact Hf

theorem st_out {m n : ℕ} (inb : ∀ a, (![m, 0] : Fin 2 → ℕ) a + (![n, 1024] : Fin 2 → ℕ) a ≤ S1024x1024.size a)
    (w : (⟨2, ![n, 1024]⟩ : Shape).Idx → Elt F .f32) (hw : w = fun x => FloatOps.extf .f32 bitsLt_bf16_f32 (rowsOf (n := n) (fin a0) m x))
    {hx : (outM.access (Rect.unit (s := S1024x1024) ![m, 0] ![n, 1024] inb)).Stores Finset.univ}
    {hm : (Finset.univ : Finset (Rect.unit (s := S1024x1024) ![m, 0] ![n, 1024] inb).shape.Idx) = Finset.univ ∨ ∀ a, (Rect.unit (s := S1024x1024) ![m, 0] ![n, 1024] inb).stride a = 1}
    {α : Type} {Q : α → sProp 𝕄} {K : PUnit → Prog (TpuEff nD τ sig (Elt F) Λ₀ .tc) α} :
    Out a0 c m ⊢ iprop((Out a0 c (m + n) -∗ WP c (K ⟨⟩) Q)
      -∗ WP c (.op (.store outM (Rect.unit (s := S1024x1024) ![m, 0] ![n, 1024] inb) w Finset.univ hx hm) K) Q) := by
  unfold Out
  iintro ⟨%f, %hf, Hf⟩ Hk
  iapply (wp_store 𝒱₀ (c : Thread nD τ) none Set.univ (m := outM) (r := Rect.unit (s := S1024x1024) ![m, 0] ![n, 1024] inb) (f := f) (S := Finset.univ) (Finset.subset_univ _)) $$ Hf
  iintro Hf
  iapply Hk
  iexists _
  isplitr
  rotate_left
  · iexact Hf
  ipureintro
  intro i hi
  have hs : (outM.access (Rect.unit (s := S1024x1024) ![m, 0] ![n, 1024] inb)).set = rowsIn m n := (View.set_slice_whole _ _).trans (rows_set inb)
  by_cases hr : i ∈ rowsIn m n
  · rw [← hs] at hr
    obtain ⟨x, -, rfl⟩ := Finset.mem_map.mp hr
    refine (View.write_emb_of_mem (v := outM.access (Rect.unit (s := S1024x1024) ![m, 0] ![n, 1024] inb)) (Val := Elt F) f w (Finset.mem_univ x)).trans ?_
    show w x = res a0 ((Rect.unit (s := S1024x1024) ![m, 0] ![n, 1024] inb).emb x)
    rw [rows_emb, hw]; rfl
  · refine (View.write_of_not_mem (v := outM.access (Rect.unit (s := S1024x1024) ![m, 0] ![n, 1024] inb)) (Val := Elt F) f w Finset.univ ?_).trans (hf i ?_)
    · rw [View.setOn_univ, hs]; exact hr
    · rw [mem_rowsIn] at hr; omega

theorem St_ret_out {i m : ℕ} {σ σ' : Fin 6 → ℕ} {α : Type} {v : α} (h : ∀ j, σ j = σ' j) :
    St a0 c i σ ⊢ iprop(Out a0 c m -∗ WP c (Prog.ret v) fun _ => iprop(St a0 c i σ' ∗ Out a0 c m)) := by
  rw [funext h]; unfold WP; rw [wp_ret]
  iintro HS HO; imodintro
  isplitl [HS]; · iexact HS
  iexact HO

/-! ## A merge -/

/-- A merge: the device's own rows and the landed ones are loaded, and their sum stored over the former. -/
theorem merge {i : ℕ} {σ : Fin 6 → ℕ} (k : Fin 3) (j : Fin 6) (hσ : σ j = 1 + 4 * k.val + 3)
    (off : Fin 2 → ℕ) (hoff : off = ![lo j (k.val + 1) c, 0]) (n : ℕ) (hn : n = len j (k.val + 1))
    (b : Memref sig .tc .vmem ⟨2, ![n, 1024]⟩ .bf16) (hb : HEq b (buf k.val j))
    (inb : ∀ a, off a + (![n, 1024] : Fin 2 → ℕ) a ≤ S1024x1024.size a)
    (inb' : ∀ a, (![0, 0] : Fin 2 → ℕ) a + (![n, 1024] : Fin 2 → ℕ) a ≤ (⟨2, ![n, 1024]⟩ : Shape).size a)
    {hl hl' : accM.view.LoadsAt (Rect.unit (s := S1024x1024) off ![n, 1024] inb).toLoadRect}
    {hb' : b.view.LoadsAt (Rect.unit (s := ⟨2, ![n, 1024]⟩) ![0, 0] ![n, 1024] inb').toLoadRect}
    (pay : Vec F ⟨2, ![n, 1024]⟩ .bf16 → Vec F ⟨2, ![n, 1024]⟩ .bf16 → Vec F ⟨2, ![n, 1024]⟩ .bf16)
    (hp : ∀ v w, pay v w = fun x => FloatOps.addf (v x) (w x))
    {hx : (accM.access (Rect.unit (s := S1024x1024) off ![n, 1024] inb)).Stores Finset.univ}
    {hm : (Finset.univ : Finset (Rect.unit (s := S1024x1024) off ![n, 1024] inb).shape.Idx) = Finset.univ ∨ ∀ a, (Rect.unit (s := S1024x1024) off ![n, 1024] inb).stride a = 1}
    {α : Type} {Q : α → sProp 𝕄} {K : PUnit → Prog (TpuEff nD τ sig (Elt F) Λ₀ .tc) α} :
    St a0 c i σ ⊢ iprop((St a0 c i (Function.update σ j (1 + 4 * k.val + 4)) -∗ WP c (K ⟨⟩) Q)
      -∗ WP c (.op (.load accM (Rect.unit (s := S1024x1024) off ![n, 1024] inb).toLoadRect hl) fun v =>
        .op (.load b (Rect.unit (s := ⟨2, ![n, 1024]⟩) ![0, 0] ![n, 1024] inb').toLoadRect hb') fun w =>
        .op (.load accM (Rect.unit (s := S1024x1024) off ![n, 1024] inb).toLoadRect hl') fun _ =>
        .op (.store accM (Rect.unit (s := S1024x1024) off ![n, 1024] inb) (pay v w) Finset.univ hx hm) K) Q) := by
  iintro HS Hk
  iapply (ld_keep a0 c k j hσ off hoff n hn inb) $$ HS; iintro HS
  iapply (ld_land a0 c k j hσ n hn b hb inb') $$ HS; iintro HS
  iapply (ld_keep a0 c k j hσ off hoff n hn inb) $$ HS; iintro HS
  iapply (st_merge a0 c k j hσ off hoff n hn inb _ (hp _ _)) $$ HS
  iexact Hk

/-! ## The parts -/

theorem run12 (w3 w4 w9 w144 w1 : BitVec 32) :
    St a0 c 5 ![2, 2, 2, 2, 2, 1] ⊢ WP c (onArgs (k0_part12 (F := F)) c w3 w4 w9 w144 w1)
      fun _ => St a0 c 6 ![5, 2, 2, 2, 2, 2] := by
  unfold onArgs
  simp only [k0_part12_eq_skeleton]
  unfold k0_part12_skel
  simp only [Prog.lift, Prog.bind_op, Prog.bind_ret, Prog.pure_eq_ret]
  iintro HS
  iapply (send_half a0 c 0 5 rfl rfl _ (sent5 c) _ rfl _ _ HEq.rfl _ (dest5 c) _ _ rfl rfl) $$ HS; iintro HS
  iapply (wait_send a0 c 0 0 rfl _ rfl rfl) $$ HS; iintro HS
  iapply (wait_half a0 c 0 0 rfl (by decide) _ rfl rfl) $$ HS; iintro HS
  iapply (merge a0 c 0 0 rfl _ (kept0 c) _ rfl _ HEq.rfl _ _ _ (fun _ _ => cast_add _ _ _)) $$ HS; iintro HS
  iapply (St_ret a0 c (by decide)) $$ HS

theorem run13 (w4 w5 w13 w198 : BitVec 32) :
    St a0 c 6 ![5, 2, 2, 2, 2, 2] ⊢ WP c (onArgs (k0_part13 (F := F)) c w4 w5 w13 w198)
      fun _ => St a0 c 8 ![6, 6, 2, 2, 2, 2] := by
  unfold onArgs
  simp only [k0_part13_eq_skeleton]
  unfold k0_part13_skel
  simp only [Prog.lift, Prog.bind_op, Prog.bind_ret, Prog.pure_eq_ret]
  iintro HS
  iapply (send_half a0 c 1 0 rfl rfl _ (sent6 c) _ rfl _ _ HEq.rfl _ (dest6 c) _ _ rfl rfl) $$ HS; iintro HS
  iapply (wait_send a0 c 0 1 rfl _ rfl rfl) $$ HS; iintro HS
  iapply (wait_half a0 c 0 1 rfl (by decide) _ rfl rfl) $$ HS; iintro HS
  iapply (merge a0 c 0 1 rfl _ (kept1 c) _ rfl _ HEq.rfl _ _ _ (fun _ _ => cast_add _ _ _)) $$ HS; iintro HS
  iapply (send_half a0 c 1 1 rfl rfl _ (sent7 c) _ rfl _ _ HEq.rfl _ (dest7 c) _ _ rfl rfl) $$ HS; iintro HS
  iapply (St_ret a0 c (by decide)) $$ HS

theorem run14 (w3 w5 w7 w252 : BitVec 32) :
    St a0 c 8 ![6, 6, 2, 2, 2, 2] ⊢ WP c (onArgs (k0_part14 (F := F)) c w3 w5 w7 w252)
      fun _ => St a0 c 9 ![6, 6, 6, 3, 2, 2] := by
  unfold onArgs
  simp only [k0_part14_eq_skeleton]
  unfold k0_part14_skel
  simp only [Prog.lift, Prog.bind_op, Prog.bind_ret, Prog.pure_eq_ret]
  iintro HS
  iapply (wait_send a0 c 0 2 rfl _ rfl rfl) $$ HS; iintro HS
  iapply (wait_half a0 c 0 2 rfl (by decide) _ rfl rfl) $$ HS; iintro HS
  iapply (merge a0 c 0 2 rfl _ (kept2 c) _ rfl _ HEq.rfl _ _ _ (fun _ _ => cast_add _ _ _)) $$ HS; iintro HS
  iapply (send_half a0 c 1 2 rfl rfl _ (sent8 c) _ rfl _ _ HEq.rfl _ (dest8 c) _ _ rfl rfl) $$ HS; iintro HS
  iapply (wait_send a0 c 0 3 rfl _ rfl rfl) $$ HS; iintro HS
  iapply (St_ret a0 c (by decide)) $$ HS

theorem run15 (w3 w5 w13 w306 w1 : BitVec 32) :
    St a0 c 9 ![6, 6, 6, 3, 2, 2] ⊢ WP c (onArgs (k0_part15 (F := F)) c w3 w5 w13 w306 w1)
      fun _ => St a0 c 10 ![6, 6, 6, 6, 3, 2] := by
  unfold onArgs
  simp only [k0_part15_eq_skeleton]
  unfold k0_part15_skel
  simp only [Prog.lift, Prog.bind_op, Prog.bind_ret, Prog.pure_eq_ret]
  iintro HS
  iapply (wait_half a0 c 0 3 rfl (by decide) _ rfl rfl) $$ HS; iintro HS
  iapply (merge a0 c 0 3 rfl _ (kept3 c) _ rfl _ HEq.rfl _ _ _ (fun _ _ => cast_add _ _ _)) $$ HS; iintro HS
  iapply (send_half a0 c 1 3 rfl rfl _ (sent9 c) _ rfl _ _ HEq.rfl _ (dest9 c) _ _ rfl rfl) $$ HS; iintro HS
  iapply (wait_send a0 c 0 4 rfl _ rfl rfl) $$ HS; iintro HS
  iapply (St_ret a0 c (by decide)) $$ HS

theorem run16 (w4 w9 w360 w414 : BitVec 32) :
    St a0 c 10 ![6, 6, 6, 6, 3, 2] ⊢ WP c (onArgs (k0_part16 (F := F)) c w4 w9 w360 w414)
      fun r => iprop(⌜r.2.1 = rowsOf (red a0 0 c) (lo 5 1 c) ∧ r.2.2 = rowsOf (red a0 0 (pal 5 0 c)) (lo 5 1 c)⌝ ∗ St a0 c 11 ![6, 6, 6, 6, 6, 4]) := by
  unfold onArgs
  simp only [k0_part16_eq_skeleton]
  unfold k0_part16_skel
  simp only [Prog.lift, Prog.bind_op, Prog.bind_ret, Prog.pure_eq_ret]
  iintro HS
  iapply (wait_half a0 c 0 4 rfl (by decide) _ rfl rfl) $$ HS; iintro HS
  iapply (merge a0 c 0 4 rfl _ (kept4 c) _ rfl _ HEq.rfl _ _ _ (fun _ _ => cast_add _ _ _)) $$ HS; iintro HS
  iapply (send_half a0 c 1 4 rfl rfl _ (sent10 c) _ rfl _ _ HEq.rfl _ (dest10 c) _ _ rfl rfl) $$ HS; iintro HS
  iapply (wait_send a0 c 0 5 rfl _ rfl rfl) $$ HS; iintro HS
  iapply (wait_half a0 c 0 5 rfl (by decide) _ rfl rfl) $$ HS; iintro HS
  iapply (ld_keep a0 c 0 5 rfl _ (kept5 c) _ rfl _) $$ HS; iintro HS
  iapply (ld_land a0 c 0 5 rfl _ rfl _ HEq.rfl _) $$ HS; iintro HS
  iapply (St_ret_at a0 c ⟨rfl, rfl⟩ (by decide)) $$ HS

theorem run17 (w3 w4 w7 w414 w442 : BitVec 32) :
    St a0 c 11 ![6, 6, 6, 6, 6, 4] ⊢ WP c (onArgs (k0_part17 (F := F)) c w3 w4 w7 w414 w442
      (rowsOf (red a0 0 c) (lo 5 1 c)) (rowsOf (red a0 0 (pal 5 0 c)) (lo 5 1 c)))
      fun _ => St a0 c 12 ![9, 6, 6, 6, 6, 6] := by
  unfold onArgs
  simp only [k0_part17_eq_skeleton]
  unfold k0_part17_skel
  simp only [Prog.lift, Prog.bind_op, Prog.bind_ret, Prog.pure_eq_ret]
  iintro HS
  iapply (ld_keep a0 c 0 5 rfl _ (kept5 c) _ rfl _) $$ HS; iintro HS
  iapply (st_merge a0 c 0 5 rfl _ (kept5 c) _ rfl _ _ (cast_add _ _ _)) $$ HS; iintro HS
  iapply (send_half a0 c 1 5 rfl rfl _ (sent11 c) _ rfl _ _ HEq.rfl _ (dest11 c) _ _ rfl rfl) $$ HS; iintro HS
  iapply (wait_send a0 c 1 0 rfl _ rfl rfl) $$ HS; iintro HS
  iapply (wait_half a0 c 1 0 rfl (by decide) _ rfl rfl) $$ HS; iintro HS
  iapply (merge a0 c 1 0 rfl _ (kept6 c) _ rfl _ HEq.rfl _ _ _ (fun _ _ => cast_add _ _ _)) $$ HS; iintro HS
  iapply (St_ret a0 c (by decide)) $$ HS

theorem run18 (w5 w7 w13 w442 w470 : BitVec 32) :
    St a0 c 12 ![9, 6, 6, 6, 6, 6] ⊢ WP c (onArgs (k0_part18 (F := F)) c w5 w7 w13 w442 w470)
      fun _ => St a0 c 13 ![10, 9, 6, 6, 6, 6] := by
  unfold onArgs
  simp only [k0_part18_eq_skeleton]
  unfold k0_part18_skel
  simp only [Prog.lift, Prog.bind_op, Prog.bind_ret, Prog.pure_eq_ret]
  iintro HS
  iapply (send_half a0 c 2 0 rfl rfl _ (sent12 c) _ rfl _ _ HEq.rfl _ (dest12 c) _ _ rfl rfl) $$ HS; iintro HS
  iapply (wait_send a0 c 1 1 rfl _ rfl rfl) $$ HS; iintro HS
  iapply (wait_half a0 c 1 1 rfl (by decide) _ rfl rfl) $$ HS; iintro HS
  iapply (merge a0 c 1 1 rfl _ (kept7 c) _ rfl _ HEq.rfl _ _ _ (fun _ _ => cast_add _ _ _)) $$ HS; iintro HS
  iapply (St_ret a0 c (by decide)) $$ HS

theorem run19 (w3 w4 w9 w470 w498 w640 : BitVec 32) :
    St a0 c 13 ![10, 9, 6, 6, 6, 6] ⊢ WP c (onArgs (k0_part19 (F := F)) c w3 w4 w9 w470 w498 w640)
      fun _ => St a0 c 14 ![10, 10, 9, 6, 6, 6] := by
  unfold onArgs
  simp only [k0_part19_eq_skeleton]
  unfold k0_part19_skel
  simp only [Prog.lift, Prog.bind_op, Prog.bind_ret, Prog.pure_eq_ret]
  iintro HS
  iapply (send_half a0 c 2 1 rfl rfl _ (sent13 c) _ rfl _ _ HEq.rfl _ (dest13 c) _ _ rfl rfl) $$ HS; iintro HS
  iapply (wait_send a0 c 1 2 rfl _ rfl rfl) $$ HS; iintro HS
  iapply (wait_half a0 c 1 2 rfl (by decide) _ rfl rfl) $$ HS; iintro HS
  iapply (merge a0 c 1 2 rfl _ (kept8 c) _ rfl _ HEq.rfl _ _ _ (fun _ _ => cast_add _ _ _)) $$ HS; iintro HS
  iapply (St_ret a0 c (by decide)) $$ HS

theorem run20 (w4 w5 w9 w526 : BitVec 32) :
    St a0 c 14 ![10, 10, 9, 6, 6, 6] ⊢ WP c (onArgs (k0_part20 (F := F)) c w4 w5 w9 w526)
      fun _ => St a0 c 16 ![10, 10, 10, 10, 6, 6] := by
  unfold onArgs
  simp only [k0_part20_eq_skeleton]
  unfold k0_part20_skel
  simp only [Prog.lift, Prog.bind_op, Prog.bind_ret, Prog.pure_eq_ret]
  iintro HS
  iapply (send_half a0 c 2 2 rfl rfl _ (sent14 c) _ rfl _ _ HEq.rfl _ (dest14 c) _ _ rfl rfl) $$ HS; iintro HS
  iapply (wait_send a0 c 1 3 rfl _ rfl rfl) $$ HS; iintro HS
  iapply (wait_half a0 c 1 3 rfl (by decide) _ rfl rfl) $$ HS; iintro HS
  iapply (merge a0 c 1 3 rfl _ (kept9 c) _ rfl _ HEq.rfl _ _ _ (fun _ _ => cast_add _ _ _)) $$ HS; iintro HS
  iapply (send_half a0 c 2 3 rfl rfl _ (sent15 c) _ rfl _ _ HEq.rfl _ (dest15 c) _ _ rfl rfl) $$ HS; iintro HS
  iapply (St_ret a0 c (by decide)) $$ HS

theorem run21 (w3 w4 w7 w554 : BitVec 32) :
    St a0 c 16 ![10, 10, 10, 10, 6, 6] ⊢ WP c (onArgs (k0_part21 (F := F)) c w3 w4 w7 w554)
      fun _ => St a0 c 17 ![10, 10, 10, 10, 10, 6] := by
  unfold onArgs
  simp only [k0_part21_eq_skeleton]
  unfold k0_part21_skel
  simp only [Prog.lift, Prog.bind_op, Prog.bind_ret, Prog.pure_eq_ret]
  iintro HS
  iapply (wait_send a0 c 1 4 rfl _ rfl rfl) $$ HS; iintro HS
  iapply (wait_half a0 c 1 4 rfl (by decide) _ rfl rfl) $$ HS; iintro HS
  iapply (merge a0 c 1 4 rfl _ (kept10 c) _ rfl _ HEq.rfl _ _ _ (fun _ _ => cast_add _ _ _)) $$ HS; iintro HS
  iapply (send_half a0 c 2 4 rfl rfl _ (sent16 c) _ rfl _ _ HEq.rfl _ (dest16 c) _ _ rfl rfl) $$ HS; iintro HS
  iapply (St_ret a0 c (by decide)) $$ HS

theorem run22 (w3 w5 w13 w582 : BitVec 32) :
    St a0 c 17 ![10, 10, 10, 10, 10, 6] ⊢ WP c (onArgs (k0_part22 (F := F)) c w3 w5 w13 w582)
      fun _ => St a0 c 18 ![11, 10, 10, 10, 10, 10] := by
  unfold onArgs
  simp only [k0_part22_eq_skeleton]
  unfold k0_part22_skel
  simp only [Prog.lift, Prog.bind_op, Prog.bind_ret, Prog.pure_eq_ret]
  iintro HS
  iapply (wait_send a0 c 1 5 rfl _ rfl rfl) $$ HS; iintro HS
  iapply (wait_half a0 c 1 5 rfl (by decide) _ rfl rfl) $$ HS; iintro HS
  iapply (merge a0 c 1 5 rfl _ (kept11 c) _ rfl _ HEq.rfl _ _ _ (fun _ _ => cast_add _ _ _)) $$ HS; iintro HS
  iapply (send_half a0 c 2 5 rfl rfl _ (sent17 c) _ rfl _ _ HEq.rfl _ (dest17 c) _ _ rfl rfl) $$ HS; iintro HS
  iapply (wait_send a0 c 2 0 rfl _ rfl rfl) $$ HS; iintro HS
  iapply (St_ret a0 c (by decide)) $$ HS

theorem run23 (w3 w5 w610 w638 : BitVec 32) :
    St a0 c 18 ![11, 10, 10, 10, 10, 10] ⊢ WP c (onArgs (k0_part23 (F := F)) c w3 w5 w610 w638)
      fun r => iprop(⌜r = fun x => FloatOps.addf (rowsOf (red a0 2 c) (lo 1 3 c) x) (rowsOf (red a0 2 (pal 1 2 c)) (lo 1 3 c) x)⌝ ∗ St a0 c 19 ![14, 12, 10, 10, 10, 10]) := by
  unfold onArgs
  simp only [k0_part23_eq_skeleton]
  unfold k0_part23_skel
  simp only [Prog.lift, Prog.bind_op, Prog.bind_ret, Prog.pure_eq_ret]
  iintro HS
  iapply (wait_half a0 c 2 0 rfl (by decide) _ rfl rfl) $$ HS; iintro HS
  iapply (merge a0 c 2 0 rfl _ (kept12 c) _ rfl _ HEq.rfl _ _ _ (fun _ _ => cast_add _ _ _)) $$ HS; iintro HS
  iapply (send_rows a0 c 3 0 (by decide) rfl rfl _ (sent18 c) _ rfl _ _ (dest18 c) _ _ rfl rfl) $$ HS; iintro HS
  iapply (wait_send a0 c 2 1 rfl _ rfl rfl) $$ HS; iintro HS
  iapply (wait_half a0 c 2 1 rfl (by decide) _ rfl rfl) $$ HS; iintro HS
  iapply (ld_keep a0 c 2 1 rfl _ (kept13 c) _ rfl _) $$ HS; iintro HS
  iapply (ld_land a0 c 2 1 rfl _ rfl _ HEq.rfl _) $$ HS; iintro HS
  iapply (St_ret_at a0 c rfl (by decide)) $$ HS

theorem run24 (w3 w4 w666 : BitVec 32) :
    St a0 c 19 ![14, 12, 10, 10, 10, 10] ⊢ WP c (onArgs (k0_part24 (F := F)) c w3 w4 w666
      (fun x => FloatOps.addf (rowsOf (red a0 2 c) (lo 1 3 c) x) (rowsOf (red a0 2 (pal 1 2 c)) (lo 1 3 c) x)))
      fun _ => St a0 c 20 ![14, 14, 13, 10, 10, 10] := by
  unfold onArgs
  simp only [k0_part24_eq_skeleton]
  unfold k0_part24_skel
  simp only [Prog.lift, Prog.bind_op, Prog.bind_ret, Prog.pure_eq_ret]
  iintro HS
  iapply (ld_keep a0 c 2 1 rfl _ (kept13 c) _ rfl _) $$ HS; iintro HS
  iapply (st_merge a0 c 2 1 rfl _ (kept13 c) _ rfl _ _ (cast_add _ _ _)) $$ HS; iintro HS
  iapply (send_rows a0 c 3 1 (by decide) rfl rfl _ (sent19 c) _ rfl _ _ (dest19 c) _ _ rfl rfl) $$ HS; iintro HS
  iapply (wait_send a0 c 2 2 rfl _ rfl rfl) $$ HS; iintro HS
  iapply (wait_half a0 c 2 2 rfl (by decide) _ rfl rfl) $$ HS; iintro HS
  iapply (merge a0 c 2 2 rfl _ (kept14 c) _ rfl _ HEq.rfl _ _ _ (fun _ _ => cast_add _ _ _)) $$ HS; iintro HS
  iapply (St_ret a0 c (by decide)) $$ HS

theorem run25 (w4 w694 : BitVec 32) :
    St a0 c 20 ![14, 14, 13, 10, 10, 10] ⊢ WP c (onArgs (k0_part25 (F := F)) c w4 w694)
      fun _ => St a0 c 22 ![14, 14, 14, 14, 10, 10] := by
  unfold onArgs
  simp only [k0_part25_eq_skeleton]
  unfold k0_part25_skel
  simp only [Prog.lift, Prog.bind_op, Prog.bind_ret, Prog.pure_eq_ret]
  iintro HS
  iapply (send_rows a0 c 3 2 (by decide) rfl rfl _ (sent20 c) _ rfl _ _ (dest20 c) _ _ rfl rfl) $$ HS; iintro HS
  iapply (wait_send a0 c 2 3 rfl _ rfl rfl) $$ HS; iintro HS
  iapply (wait_half a0 c 2 3 rfl (by decide) _ rfl rfl) $$ HS; iintro HS
  iapply (merge a0 c 2 3 rfl _ (kept15 c) _ rfl _ HEq.rfl _ _ _ (fun _ _ => cast_add _ _ _)) $$ HS; iintro HS
  iapply (send_rows a0 c 3 3 (by decide) rfl rfl _ (sent21 c) _ rfl _ _ (dest21 c) _ _ rfl rfl) $$ HS; iintro HS
  iapply (St_ret a0 c (by decide)) $$ HS

theorem run26 (w3 w5 w722 : BitVec 32) :
    St a0 c 22 ![14, 14, 14, 14, 10, 10] ⊢ WP c (onArgs (k0_part26 (F := F)) c w3 w5 w722)
      fun _ => St a0 c 23 ![14, 14, 14, 14, 14, 12] := by
  unfold onArgs
  simp only [k0_part26_eq_skeleton]
  unfold k0_part26_skel
  simp only [Prog.lift, Prog.bind_op, Prog.bind_ret, Prog.pure_eq_ret]
  iintro HS
  iapply (wait_send a0 c 2 4 rfl _ rfl rfl) $$ HS; iintro HS
  iapply (wait_half a0 c 2 4 rfl (by decide) _ rfl rfl) $$ HS; iintro HS
  iapply (merge a0 c 2 4 rfl _ (kept16 c) _ rfl _ HEq.rfl _ _ _ (fun _ _ => cast_add _ _ _)) $$ HS; iintro HS
  iapply (send_rows a0 c 3 4 (by decide) rfl rfl _ (sent22 c) _ rfl _ _ (dest22 c) _ _ rfl rfl) $$ HS; iintro HS
  iapply (wait_send a0 c 2 5 rfl _ rfl rfl) $$ HS; iintro HS
  iapply (wait_half a0 c 2 5 rfl (by decide) _ rfl rfl) $$ HS; iintro HS
  iapply (St_ret a0 c (by decide)) $$ HS

theorem run27 (w4 w5 w13 w610 w750 : BitVec 32) :
    St a0 c 23 ![14, 14, 14, 14, 14, 12] ⊢ WP c (onArgs (k0_part27 (F := F)) c w4 w5 w13 w610 w750)
      fun _ => St a0 c 24 ![17, 14, 14, 14, 14, 14] := by
  unfold onArgs
  simp only [k0_part27_eq_skeleton]
  unfold k0_part27_skel
  simp only [Prog.lift, Prog.bind_op, Prog.bind_ret, Prog.pure_eq_ret]
  iintro HS
  iapply (merge a0 c 2 5 rfl _ (kept17 c) _ rfl _ HEq.rfl _ _ _ (fun _ _ => cast_add _ _ _)) $$ HS; iintro HS
  iapply (send_rows a0 c 3 5 (by decide) rfl rfl _ (sent23 c) _ rfl _ _ (dest23 c) _ _ rfl rfl) $$ HS; iintro HS
  iapply (wait_send a0 c 3 0 rfl _ rfl rfl) $$ HS; iintro HS
  iapply (wait_rows a0 c 3 0 (by decide) rfl (by decide) _ rfl rfl) $$ HS; iintro HS
  iapply (St_ret a0 c (by decide)) $$ HS

theorem run28 (w3 w5 w7 w638 : BitVec 32) :
    St a0 c 24 ![17, 14, 14, 14, 14, 14] ⊢ WP c (onArgs (k0_part28 (F := F)) c w3 w5 w7 w638)
      fun _ => St a0 c 26 ![18, 18, 15, 14, 14, 14] := by
  unfold onArgs
  simp only [k0_part28_eq_skeleton]
  unfold k0_part28_skel
  simp only [Prog.lift, Prog.bind_op, Prog.bind_ret, Prog.pure_eq_ret]
  iintro HS
  iapply (send_rows a0 c 4 0 (by decide) rfl rfl _ (sent24 c) _ rfl _ _ (dest24 c) _ _ rfl rfl) $$ HS; iintro HS
  iapply (wait_send a0 c 3 1 rfl _ rfl rfl) $$ HS; iintro HS
  iapply (wait_rows a0 c 3 1 (by decide) rfl (by decide) _ rfl rfl) $$ HS; iintro HS
  iapply (send_rows a0 c 4 1 (by decide) rfl rfl _ (sent25 c) _ rfl _ _ (dest25 c) _ _ rfl rfl) $$ HS; iintro HS
  iapply (wait_send a0 c 3 2 rfl _ rfl rfl) $$ HS; iintro HS
  iapply (St_ret a0 c (by decide)) $$ HS

theorem run29 (w3 w4 w9 w666 w694 : BitVec 32) :
    St a0 c 26 ![18, 18, 15, 14, 14, 14] ⊢ WP c (onArgs (k0_part29 (F := F)) c w3 w4 w9 w666 w694)
      fun _ => St a0 c 27 ![18, 18, 18, 17, 14, 14] := by
  unfold onArgs
  simp only [k0_part29_eq_skeleton]
  unfold k0_part29_skel
  simp only [Prog.lift, Prog.bind_op, Prog.bind_ret, Prog.pure_eq_ret]
  iintro HS
  iapply (wait_rows a0 c 3 2 (by decide) rfl (by decide) _ rfl rfl) $$ HS; iintro HS
  iapply (send_rows a0 c 4 2 (by decide) rfl rfl _ (sent26 c) _ rfl _ _ (dest26 c) _ _ rfl rfl) $$ HS; iintro HS
  iapply (wait_send a0 c 3 3 rfl _ rfl rfl) $$ HS; iintro HS
  iapply (wait_rows a0 c 3 3 (by decide) rfl (by decide) _ rfl rfl) $$ HS; iintro HS
  iapply (St_ret a0 c (by decide)) $$ HS

theorem run30 (w3 w4 w5 w7 w722 w1 : BitVec 32) :
    St a0 c 27 ![18, 18, 18, 17, 14, 14] ⊢ WP c (onArgs (k0_part30 (F := F)) c w3 w4 w5 w7 w722 w1)
      fun _ => St a0 c 29 ![18, 18, 18, 18, 18, 14] := by
  unfold onArgs
  simp only [k0_part30_eq_skeleton]
  unfold k0_part30_skel
  simp only [Prog.lift, Prog.bind_op, Prog.bind_ret, Prog.pure_eq_ret]
  iintro HS
  iapply (send_rows a0 c 4 3 (by decide) rfl rfl _ (sent27 c) _ rfl _ _ (dest27 c) _ _ rfl rfl) $$ HS; iintro HS
  iapply (wait_send a0 c 3 4 rfl _ rfl rfl) $$ HS; iintro HS
  iapply (wait_rows a0 c 3 4 (by decide) rfl (by decide) _ rfl rfl) $$ HS; iintro HS
  iapply (send_rows a0 c 4 4 (by decide) rfl rfl _ (sent28 c) _ rfl _ _ (dest28 c) _ _ rfl rfl) $$ HS; iintro HS
  iapply (St_ret a0 c (by decide)) $$ HS

theorem run31 (w3 w4 w5 w9 w13 w750 w916 : BitVec 32) :
    St a0 c 29 ![18, 18, 18, 18, 18, 14] ⊢ WP c (onArgs (k0_part31 (F := F)) c w3 w4 w5 w9 w13 w750 w916)
      fun _ => St a0 c 30 ![21, 18, 18, 18, 18, 18] := by
  unfold onArgs
  simp only [k0_part31_eq_skeleton]
  unfold k0_part31_skel
  simp only [Prog.lift, Prog.bind_op, Prog.bind_ret, Prog.pure_eq_ret]
  iintro HS
  iapply (wait_send a0 c 3 5 rfl _ rfl rfl) $$ HS; iintro HS
  iapply (wait_rows a0 c 3 5 (by decide) rfl (by decide) _ rfl rfl) $$ HS; iintro HS
  iapply (send_rows a0 c 4 5 (by decide) rfl rfl _ (sent29 c) _ rfl _ _ (dest29 c) _ _ rfl rfl) $$ HS; iintro HS
  iapply (wait_send a0 c 4 0 rfl _ rfl rfl) $$ HS; iintro HS
  iapply (wait_rows a0 c 4 0 (by decide) rfl (by decide) _ rfl rfl) $$ HS; iintro HS
  iapply (St_ret a0 c (by decide)) $$ HS

theorem run32 (w3 w4 w5 w13 w936 : BitVec 32) :
    St a0 c 30 ![21, 18, 18, 18, 18, 18] ⊢ WP c (onArgs (k0_part32 (F := F)) c w3 w4 w5 w13 w936)
      fun _ => St a0 c 32 ![22, 22, 18, 18, 18, 18] := by
  unfold onArgs
  simp only [k0_part32_eq_skeleton]
  unfold k0_part32_skel
  simp only [Prog.lift, Prog.bind_op, Prog.bind_ret, Prog.pure_eq_ret]
  iintro HS
  iapply (send_rows a0 c 5 0 (by decide) rfl rfl _ (sent30 c) _ rfl _ _ (dest30 c) _ _ rfl rfl) $$ HS; iintro HS
  iapply (wait_send a0 c 4 1 rfl _ rfl rfl) $$ HS; iintro HS
  iapply (wait_rows a0 c 4 1 (by decide) rfl (by decide) _ rfl rfl) $$ HS; iintro HS
  iapply (send_rows a0 c 5 1 (by decide) rfl rfl _ (sent31 c) _ rfl _ _ (dest31 c) _ _ rfl rfl) $$ HS; iintro HS
  iapply (St_ret a0 c (by decide)) $$ HS

theorem run33 (w3 w5 w7 w956 : BitVec 32) :
    St a0 c 32 ![22, 22, 18, 18, 18, 18] ⊢ WP c (onArgs (k0_part33 (F := F)) c w3 w5 w7 w956)
      fun _ => St a0 c 33 ![22, 22, 22, 21, 18, 18] := by
  unfold onArgs
  simp only [k0_part33_eq_skeleton]
  unfold k0_part33_skel
  simp only [Prog.lift, Prog.bind_op, Prog.bind_ret, Prog.pure_eq_ret]
  iintro HS
  iapply (wait_send a0 c 4 2 rfl _ rfl rfl) $$ HS; iintro HS
  iapply (wait_rows a0 c 4 2 (by decide) rfl (by decide) _ rfl rfl) $$ HS; iintro HS
  iapply (send_rows a0 c 5 2 (by decide) rfl rfl _ (sent32 c) _ rfl _ _ (dest32 c) _ _ rfl rfl) $$ HS; iintro HS
  iapply (wait_send a0 c 4 3 rfl _ rfl rfl) $$ HS; iintro HS
  iapply (wait_rows a0 c 4 3 (by decide) rfl (by decide) _ rfl rfl) $$ HS; iintro HS
  iapply (St_ret a0 c (by decide)) $$ HS

theorem run34 (w3 w4 w5 w9 w13 w976 w996 : BitVec 32) :
    St a0 c 33 ![22, 22, 22, 21, 18, 18] ⊢ WP c (onArgs (k0_part34 (F := F)) c w3 w4 w5 w9 w13 w976 w996)
      fun _ => St a0 c 35 ![22, 22, 22, 22, 22, 18] := by
  unfold onArgs
  simp only [k0_part34_eq_skeleton]
  unfold k0_part34_skel
  simp only [Prog.lift, Prog.bind_op, Prog.bind_ret, Prog.pure_eq_ret]
  iintro HS
  iapply (send_rows a0 c 5 3 (by decide) rfl rfl _ (sent33 c) _ rfl _ _ (dest33 c) _ _ rfl rfl) $$ HS; iintro HS
  iapply (wait_send a0 c 4 4 rfl _ rfl rfl) $$ HS; iintro HS
  iapply (wait_rows a0 c 4 4 (by decide) rfl (by decide) _ rfl rfl) $$ HS; iintro HS
  iapply (send_rows a0 c 5 4 (by decide) rfl rfl _ (sent34 c) _ rfl _ _ (dest34 c) _ _ rfl rfl) $$ HS; iintro HS
  iapply (St_ret a0 c (by decide)) $$ HS

theorem run35 (w3 w4 w7 w1016 : BitVec 32) :
    St a0 c 35 ![22, 22, 22, 22, 22, 18] ⊢ WP c (onArgs (k0_part35 (F := F)) c w3 w4 w7 w1016)
      fun _ => St a0 c 36 ![23, 22, 22, 22, 22, 22] := by
  unfold onArgs
  simp only [k0_part35_eq_skeleton]
  unfold k0_part35_skel
  simp only [Prog.lift, Prog.bind_op, Prog.bind_ret, Prog.pure_eq_ret]
  iintro HS
  iapply (wait_send a0 c 4 5 rfl _ rfl rfl) $$ HS; iintro HS
  iapply (wait_rows a0 c 4 5 (by decide) rfl (by decide) _ rfl rfl) $$ HS; iintro HS
  iapply (send_rows a0 c 5 5 (by decide) rfl rfl _ (sent35 c) _ rfl _ _ (dest35 c) _ _ rfl rfl) $$ HS; iintro HS
  iapply (wait_send a0 c 5 0 rfl _ rfl rfl) $$ HS; iintro HS
  iapply (St_ret a0 c (by decide)) $$ HS

theorem run36 (w4 w5 : BitVec 32) :
    iprop(St a0 c 36 ![23, 22, 22, 22, 22, 22] ∗ Out a0 c 0) ⊢ WP c (onArgs (k0_part36 (F := F)) c w4 w5)
      fun _ => iprop(St a0 c 36 ![25, 25, 23, 22, 22, 22] ∗ Out a0 c 384) := by
  unfold onArgs
  simp only [k0_part36_eq_skeleton]
  unfold k0_part36_skel
  simp only [Prog.lift, Prog.bind_op, Prog.bind_ret, Prog.pure_eq_ret]
  iintro ⟨HS, HO⟩
  iapply (wait_rows a0 c 5 0 (by decide) rfl (by decide) _ rfl rfl) $$ HS; iintro HS
  iapply (ld_done a0 c 0 rfl _ rfl _ rfl _) $$ HS; iintro HS
  iapply (ld_out a0 c) $$ HO; iintro %_ HO
  iapply (st_out a0 c _ _ rfl) $$ HO; iintro HO
  iapply (wait_send a0 c 5 1 rfl _ rfl rfl) $$ HS; iintro HS
  iapply (wait_rows a0 c 5 1 (by decide) rfl (by decide) _ rfl rfl) $$ HS; iintro HS
  iapply (ld_done a0 c 1 rfl _ rfl _ rfl _) $$ HS; iintro HS
  iapply (ld_out a0 c) $$ HO; iintro %_ HO
  iapply (st_out a0 c _ _ rfl) $$ HO; iintro HO
  iapply (wait_send a0 c 5 2 rfl _ rfl rfl) $$ HS; iintro HS
  iapply (St_ret_out a0 c (by decide)) $$ HS HO

theorem run37 (w3 w5 : BitVec 32) :
    iprop(St a0 c 36 ![25, 25, 23, 22, 22, 22] ∗ Out a0 c 384) ⊢ WP c (onArgs (k0_part37 (F := F)) c w3 w5)
      fun _ => iprop(St a0 c 36 ![25, 25, 25, 25, 23, 22] ∗ Out a0 c 768) := by
  unfold onArgs
  simp only [k0_part37_eq_skeleton]
  unfold k0_part37_skel
  simp only [Prog.lift, Prog.bind_op, Prog.bind_ret, Prog.pure_eq_ret]
  iintro ⟨HS, HO⟩
  iapply (wait_rows a0 c 5 2 (by decide) rfl (by decide) _ rfl rfl) $$ HS; iintro HS
  iapply (ld_done a0 c 2 rfl _ rfl _ rfl _) $$ HS; iintro HS
  iapply (ld_out a0 c) $$ HO; iintro %_ HO
  iapply (st_out a0 c _ _ rfl) $$ HO; iintro HO
  iapply (wait_send a0 c 5 3 rfl _ rfl rfl) $$ HS; iintro HS
  iapply (wait_rows a0 c 5 3 (by decide) rfl (by decide) _ rfl rfl) $$ HS; iintro HS
  iapply (ld_done a0 c 3 rfl _ rfl _ rfl _) $$ HS; iintro HS
  iapply (ld_out a0 c) $$ HO; iintro %_ HO
  iapply (st_out a0 c _ _ rfl) $$ HO; iintro HO
  iapply (wait_send a0 c 5 4 rfl _ rfl rfl) $$ HS; iintro HS
  iapply (St_ret_out a0 c (by decide)) $$ HS HO

end Cert.KProof
-- ==== Proof.Barrier.lean ====
/-
The barrier: each device lends its landing buffers to its neighbours and gets theirs.
-/
module

public import proofs.«01_k».proof.Proof.Exchange

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sorting by direction -/

theorem by_dir {I : Type} [Fintype I] (g : I → Fin 3) (Φ : I → sProp 𝕄) :
    (bigSep Finset.univ fun d : Fin 3 => bigSep Finset.univ fun x => if g x = d then Φ x else iprop(emp)) = bigSep Finset.univ Φ := by
  rw [BI.bigSep_univ_comm]
  refine bigSep_congr fun x _ => ?_
  refine (bigSep_filter Finset.univ (fun a => g x = a) (fun _ => Φ x)).symm.trans ?_
  rw [Finset.filter_eq Finset.univ (g x), if_pos (Finset.mem_univ _), bigSep_singleton]

variable (a0 : Dev nD → S1024x1024.Idx → Elt F .bf16) (c : Dev nD)

/-- What a device hands over along a direction: the right to call the neighbour, and its landing buffers for that direction. -/
def Call (d : Fin 3) : sProp 𝕄 :=
  iprop(dutyTok ER (barCell (nbr d c)) 0 d
    ∗ bigSep Finset.univ fun x : Fin 3 × Fin 6 => if ord x.2 x.1.val = d then BufAny c x.1.val x.2 else iprop(emp))

/-- A call to a neighbour. -/
theorem call (d : Fin 3) (O : CellTallies nD τ sig Unit) (p : Dev nD) (hp : p = nbr d c) {N : ℤ} (hN : N = ((1 : ℕ) : ℤ))
    {α : Type} {Q : α → sProp 𝕄} {K : PUnit → Prog (TpuEff nD τ sig (Elt F) Λ₀ .tc) α} :
    iprop(Know a0 ∗ (∃ W, owes (c : Thread nD τ) (O + tallyAt (barCell (nbr d c)) () 1) W) ∗ Call c d)
      ⊢ iprop(((∃ W, owes (c : Thread nD τ) O W) -∗ WP c (K ⟨⟩) Q) -∗ WP c (.op (.semSignal (p : Thread nD τ) barS N) K) Q) := by
  subst hp hN
  unfold Call
  iintro ⟨#HK, ⟨%W, HO⟩, Ht, Hb⟩ Hk
  ihave HR := (know_bar a0 (nbr d c)) $$ HK
  unfold Rec
  icases HR with ⟨%κ, #HI, #Hr⟩
  iapply (Rounds.wp_signal 𝒱₀ ER (sched a0) (c : Thread nD τ) none (dst := (nbr d c : Thread nD τ)) (κ := κ)
      (d := d) (by rw [duties_bar]; exact Finset.mem_univ _) (amount_bar a0 (nbr d c) d) () O rfl) $$ [HO Ht Hb]
  · isplitr; · iexact HI
    isplitl [HO]; · iexact HO
    isplitl [Ht]; · iexact Ht
    isplitl [Hb]
    · rw [payload_bar]; unfold barPay; rw [nbr_nbr]; iexact Hb
    iexact Hr
  iintro HO
  iapply Hk
  iexists W; iexact HO

/-- The part of the state a device has from the start. -/
def Mine : sProp 𝕄 := bigSep Finset.univ fun j : Fin 6 => iprop(AccAny c (base j) (size j) ∗ bigSep Finset.univ fun k : Fin 6 => tok (F := F) c j k 0)

/-- Its own landing buffers lent and its neighbours' received, the state is the exchange's first. -/
theorem state_start (W : Waits sig Unit) :
    iprop(Know a0 ∗ owes (c : Thread nD τ) (owed c 0) W ∗ Mine c ∗ bigSep Finset.univ fun d => barPay c d) ⊢ St (F := F) a0 c 0 fun _ => 0 := by
  have hb : (bigSep Finset.univ fun d => barPay (F := F) c d)
      = bigSep Finset.univ fun j : Fin 6 => bigSep Finset.univ fun k : Fin 3 => land a0 c j k 0 := by
    have h : (bigSep Finset.univ fun d => barPay (F := F) c d)
        = bigSep Finset.univ fun d : Fin 3 => bigSep Finset.univ fun x : Fin 3 × Fin 6 =>
            if ord x.2 x.1.val = d then BufAny (F := F) (pal x.2 x.1.val c) x.1.val x.2 else iprop(emp) :=
      bigSep_congr fun d _ => by
        unfold barPay
        refine bigSep_congr fun x _ => ?_
        by_cases e : ord x.2 x.1.val = d
        · rw [if_pos e, if_pos e, ← e]; rfl
        · rw [if_neg e, if_neg e]
    rw [h, by_dir (fun x : Fin 3 × Fin 6 => ord x.2 x.1.val) (fun x => BufAny (F := F) (pal x.2 x.1.val c) x.1.val x.2),
      bigSep_univ_equiv (Equiv.prodComm (Fin 6) (Fin 3)), bigSep_univ_prod]
    rfl
  have hp (j : Fin 6) : iprop((AccAny c (base j) (size j) ∗ bigSep Finset.univ fun k : Fin 6 => tok (F := F) c j k 0)
      ∗ bigSep Finset.univ fun k : Fin 3 => land a0 c j k 0) ⊢ PS (F := F) a0 c j 0 := by
    have hl : (bigSep Finset.univ fun k : Fin 3 => lent (F := F) c j k 0) = iprop(emp) := by
      rw [bigSep_congr (Ψ := fun _ => iprop(emp)) fun k _ => by unfold lent; exact if_neg (by omega)]; exact bigSep_emp_const _
    have ht : (bigSep Finset.univ fun k : Fin 6 => tok (F := F) c j k (0 - 1 - 4 * k.val)) = bigSep Finset.univ fun k : Fin 6 => tok (F := F) c j k 0 :=
      bigSep_congr fun k _ => by rw [show 0 - 1 - 4 * k.val = 0 by omega]
    have hd : (bigSep Finset.univ fun k : Fin 3 => land a0 c j k (0 - 1 - 4 * k.val)) = bigSep Finset.univ fun k : Fin 3 => land a0 c j k 0 :=
      bigSep_congr fun k _ => by rw [show 0 - 1 - 4 * k.val = 0 by omega]
    unfold PS
    rw [hl, ht, hd]
    iintro ⟨⟨H₁, H₂⟩, H₃⟩
    isplitl [H₁]; · iapply (Entails.of_eq (show AccAny (F := F) c (base j) (size j) = own a0 c j 0 from rfl)); iexact H₁
    isplitl [H₂]; · iexact H₂
    isplitl [H₃]; · iexact H₃
    iempintro
  unfold St Mine
  rw [hb]
  iintro ⟨HK, HO, HM, HB⟩
  isplitl [HK]; · iexact HK
  isplitl [HO]; · iexists W; iexact HO
  iapply (show _ ⊢ _ from bigSep_mono (s := Finset.univ) fun j _ => hp j)
  iapply (Entails.of_eq (bigSep_sep' _ _ _).symm)
  isplitl [HM] <;> iassumption

/-- The wait for the three neighbours. -/
theorem wait_bar {N : ℤ} (hN : N = ((3 : ℕ) : ℤ)) {α : Type} {Q : α → sProp 𝕄} {K : PUnit → Prog (TpuEff nD τ sig (Elt F) Λ₀ .tc) α} :
    iprop(Know a0 ∗ (∃ W, owes (c : Thread nD τ) (owed c 0) W) ∗ cred (tallyAt (barCell c) () 3) ∗ atPos ER (barCell c) 0 ∅ 0 ∗ Mine c)
      ⊢ iprop(((St a0 c 0 (fun _ => 0) ∗ semVal (barCell c) 0) -∗ WP c (K ⟨⟩) Q) -∗ WP c (.op (.semWait barS N) K) Q) := by
  subst hN
  iintro ⟨#HK, ⟨%W, HO⟩, Hc, Hat, HM⟩ Hk
  ihave HR := (know_bar a0 c) $$ HK
  unfold Rec
  icases HR with ⟨%κ, #HI, -⟩
  iapply (Rounds.wp_wait_rest_token 𝒱₀ ER (sched a0) (c : Thread nD τ) none (κ := κ)
      (wpE_semWait_eq 𝒱₀ (c : Thread nD τ) none Set.univ) (Set.mem_univ _) () (O := owed c 0) (W := W) (R := 0) (m := 0) (T := ∅)
      (by rw [Nat.zero_add, expect_bar])) $$ [Hc HO Hat]
  · isplitr; · iexact HI
    isplitl [Hc]; · iexact Hc
    isplitl [HO]; · iexact HO
    isplitr
    · iapply (mayWait_of c (.reg barS) (owed c 0) (fun g u h => ⟨(owed_pos h).1, by have := (owed_pos h).2; show 1 < lv g u; omega⟩))
      iapply (know_lev a0); iexact HK
    iexact Hat
  iintro ⟨HO, Hat, -, Hpay⟩
  ihave Hp := (Entails.of_eq (rest_bar a0 c)) $$ Hpay
  imod (Rounds.cell_close ER (sched a0) (Set.mem_univ κ) (fun h => h) (R := 0 + 1) (duties_later a0 _)) $$ [Hat] with Hz
  · isplitr; · iexact HI
    iexact Hat
  iapply Hk
  isplitr [Hz]
  · iapply (state_start a0 c _)
    isplitr; · iexact HK
    isplitl [HO]; · iexact HO
    isplitl [HM] <;> iassumption
  iexact Hz

end Cert.KProof
-- ==== Proof.Inputs.lean ====
/-
The inputs staged on a device, and its partial products: what the first parts of the body compute, store and send.
-/
module

public import Idealize.ShloMosaic.Lib.ValueIdxCoords
public import proofs.«01_k».proof.Proof.Barrier

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The staged inputs -/

def xM : Memref sig .tc .vmem S1024x512 .f32 := Memref.whole cc0_stg0_0
def rM : Memref sig .tc .vmem S512x32 .f32 := Memref.whole cc0_stg1_0
def eM : Memref sig .tc .vmem S1024x2 .i32 := Memref.whole cc0_stg2_0
def wM : Memref sig .tc .vmem S4x512x1024 .f32 := Memref.whole cc0_stg3_0

variable (X : S1024x512.Idx → Elt F .f32) (R : S512x32.Idx → Elt F .f32) (E : S1024x2.Idx → Elt F .i32) (W : S4x512x1024.Idx → Elt F .f32)

/-- The inputs, as loads read them: the tokens, the router, a column of the expert numbers, one expert's weights. -/
def tokens : S1024x512.Idx → Elt F .f32 := xM.view.readAt (Elt F) (Rect.unit (s := S1024x512) ![0, 0] S1024x512.size inb_S1024x512_S1024x512_0_0).toLoadRect X
def router : S512x32.Idx → Elt F .f32 := rM.view.readAt (Elt F) (Rect.unit (s := S512x32) ![0, 0] S512x32.size inb_S512x32_S512x32_0_0).toLoadRect R
def first : S1024x1.Idx → Elt F .i32 := eM.view.readAt (Elt F) (Rect.unit (s := S1024x2) ![0, 0] S1024x1.size inb_S1024x2_S1024x1_0_0).toLoadRect E
def second : S1024x1.Idx → Elt F .i32 := eM.view.readAt (Elt F) (Rect.unit (s := S1024x2) ![0, 1] S1024x1.size inb_S1024x2_S1024x1_0_1).toLoadRect E
def slab0 : S1x512x1024.Idx → Elt F .f32 := wM.view.readAt (Elt F) (Rect.unit (s := S4x512x1024) ![0, 0, 0] S1x512x1024.size inb_S4x512x1024_S1x512x1024_0_0_0).toLoadRect W
def slab1 : S1x512x1024.Idx → Elt F .f32 := wM.view.readAt (Elt F) (Rect.unit (s := S4x512x1024) ![1, 0, 0] S1x512x1024.size inb_S4x512x1024_S1x512x1024_1_0_0).toLoadRect W
def slab2 : S1x512x1024.Idx → Elt F .f32 := wM.view.readAt (Elt F) (Rect.unit (s := S4x512x1024) ![2, 0, 0] S1x512x1024.size inb_S4x512x1024_S1x512x1024_2_0_0).toLoadRect W
def slab3 : S1x512x1024.Idx → Elt F .f32 := wM.view.readAt (Elt F) (Rect.unit (s := S4x512x1024) ![3, 0, 0] S1x512x1024.size inb_S4x512x1024_S1x512x1024_3_0_0).toLoadRect W

variable (c : Dev nD)

/-- The device's number, as the kernel computes it. -/
def number : BitVec 32 := Scalar.remsi (Scalar.divsi (Dev.word c) 1#32) 8#32

/-- The scores, and their row maxima spread over the rows. -/
def scores : FVec F S1024x32 .f32 := k0_pay3 (tokens X) (router R)
def tops : FVec F S1024x32 .f32 := k0_pay4 (tokens X) (router R)
/-- The two chosen experts' weights, and their sum. -/
def gate0 : FVec F S1024x1 .f32 := k0_pay8 (scores X R) (tops X R) (first E)
def gate1 : FVec F S1024x1 .f32 := k0_pay9 (scores X R) (tops X R) (second E)
def gates : FVec F S1024x1 .f32 := k0_pay10 (scores X R) (tops X R) (first E) (second E)
/-- A token's share for each of the device's four experts. -/
def share0 : FVec F S1024x1 .f32 := k0_pay11 (number c) (scores X R) (tops X R) (first E) (second E)
def half1 : FVec F S1024x1 .f32 := k0_pay12 (number c) (scores X R) (tops X R) (first E)
def hit1 : IVec S1024x1 1 := k0_pay13 (F := F) (number c) (second E)
def share1 : FVec F S1024x1 .f32 := k0_pay14 (gate1 X R E) (gates X R E) (half1 X R E c) (hit1 E c)
def share2 : FVec F S1024x1 .f32 := k0_pay15 (number c) (k0_pay6 (first E)) (k0_pay7 (second E)) (gate0 X R E) (gate1 X R E) (gates X R E)
def share3 : FVec F S1024x1 .f32 := k0_pay16 (number c) (k0_pay6 (first E)) (k0_pay7 (second E)) (gate0 X R E) (gate1 X R E) (gates X R E)
def toks : FVec F S1024x512 .f32 := k0_pay2 (tokens X)

/-- The six parts of the device's partial result, as stored. -/
def product0 : FVec F S192x1024 .bf16 :=
  k0_pay20 (share2 X R E c) (share3 X R E c) (k0_pay17 (toks X)) (k0_pay18 (toks X) (share0 X R E c) (slab0 W))
    (k0_pay19 (toks X) (gate1 X R E) (gates X R E) (half1 X R E c) (hit1 E c)) (slab1 W) (slab2 W) (slab3 W)
def product1 : FVec F S192x1024 .bf16 :=
  k0_pay22 (k0_pay21 (toks X) (share0 X R E c) (share1 X R E c) (share2 X R E c) (share3 X R E c) (slab0 W) (slab1 W) (slab2 W) (slab3 W))
def product2 : FVec F S192x1024 .bf16 :=
  k0_pay26 (share3 X R E c) (k0_pay23 (toks X)) (k0_pay24 (toks X) (share0 X R E c) (share1 X R E c) (slab0 W) (slab1 W)) (k0_pay25 (share2 X R E c)) (slab2 W) (slab3 W)
def product3 : FVec F S192x1024 .bf16 :=
  k0_pay30 (share1 X R E c) (share2 X R E c) (share3 X R E c) (k0_pay27 (toks X)) k0_pay28 (k0_pay29 (share0 X R E c)) (slab0 W) (slab1 W) (slab2 W) (slab3 W)
def product4 : FVec F S128x1024 .bf16 :=
  k0_pay35 (share3 X R E c) (k0_pay31 (toks X)) (k0_pay32 (toks X) (share0 X R E c) (share1 X R E c) (slab0 W) (slab1 W)) (k0_pay33 (toks X) (share2 X R E c)) (k0_pay34 (slab2 W))
    (constant S128x1024 .f32 0x00000000#32) (slab3 W)
def product5 : FVec F S128x1024 .bf16 :=
  k0_pay39 (share1 X R E c) (share2 X R E c) (share3 X R E c) (k0_pay36 (toks X)) k0_pay37 (k0_pay38 (toks X) (share0 X R E c) (slab0 W)) (slab1 W) (slab2 W) (slab3 W)

/-- The device's partial result. -/
def partials (i : S1024x1024.Idx) : Elt F .bf16 :=
  if h : (i 0).val < 192 then product0 X R E W c (ValueIdx.ix2 ⟨(i 0).val, h⟩ (i 1))
  else if h : (i 0).val < 384 then product1 X R E W c (ValueIdx.ix2 ⟨(i 0).val - 192, by omega⟩ (i 1))
  else if h : (i 0).val < 576 then product2 X R E W c (ValueIdx.ix2 ⟨(i 0).val - 384, by omega⟩ (i 1))
  else if h : (i 0).val < 768 then product3 X R E W c (ValueIdx.ix2 ⟨(i 0).val - 576, by omega⟩ (i 1))
  else if h : (i 0).val < 896 then product4 X R E W c (ValueIdx.ix2 ⟨(i 0).val - 768, by omega⟩ (i 1))
  else product5 X R E W c (ValueIdx.ix2 ⟨(i 0).val - 896, by have := (i 0).isLt; change (i 0).val < 1024 at this; omega⟩ (i 1))

theorem rows_product0 : rowsOf (partials X R E W c) 0 = product0 X R E W c := by
  funext i
  have hi : (i 0).val < 192 := (i 0).isLt
  unfold rowsOf partials
  have e : ((at2 (0 + (i 0).val) (i 1)) 0).val = 0 + (i 0).val := Nat.mod_eq_of_lt (by omega)
  rw [dif_pos (by rw [e]; omega)]
  exact congrArg _ (funext fun a => by match a with | ⟨0, _⟩ => exact Fin.ext (by show (at2 (0 + (i 0).val) (i 1) 0).val = (i 0).val; rw [e]; omega) | ⟨1, _⟩ => rfl)

theorem rows_product1 : rowsOf (partials X R E W c) 192 = product1 X R E W c := by
  funext i
  have hi : (i 0).val < 192 := (i 0).isLt
  unfold rowsOf partials
  have e : ((at2 (192 + (i 0).val) (i 1)) 0).val = 192 + (i 0).val := Nat.mod_eq_of_lt (by omega)
  rw [dif_neg (by rw [e]; omega), dif_pos (by rw [e]; omega)]
  exact congrArg _ (funext fun a => by match a with | ⟨0, _⟩ => exact Fin.ext (by show (at2 (192 + (i 0).val) (i 1) 0).val - 192 = (i 0).val; rw [e]; omega) | ⟨1, _⟩ => rfl)

theorem rows_product2 : rowsOf (partials X R E W c) 384 = product2 X R E W c := by
  funext i
  have hi : (i 0).val < 192 := (i 0).isLt
  unfold rowsOf partials
  have e : ((at2 (384 + (i 0).val) (i 1)) 0).val = 384 + (i 0).val := Nat.mod_eq_of_lt (by omega)
  rw [dif_neg (by rw [e]; omega), dif_neg (by rw [e]; omega), dif_pos (by rw [e]; omega)]
  exact congrArg _ (funext fun a => by match a with | ⟨0, _⟩ => exact Fin.ext (by show (at2 (384 + (i 0).val) (i 1) 0).val - 384 = (i 0).val; rw [e]; omega) | ⟨1, _⟩ => rfl)

theorem rows_product3 : rowsOf (partials X R E W c) 576 = product3 X R E W c := by
  funext i
  have hi : (i 0).val < 192 := (i 0).isLt
  unfold rowsOf partials
  have e : ((at2 (576 + (i 0).val) (i 1)) 0).val = 576 + (i 0).val := Nat.mod_eq_of_lt (by omega)
  rw [dif_neg (by rw [e]; omega), dif_neg (by rw [e]; omega), dif_neg (by rw [e]; omega), dif_pos (by rw [e]; omega)]
  exact congrArg _ (funext fun a => by match a with | ⟨0, _⟩ => exact Fin.ext (by show (at2 (576 + (i 0).val) (i 1) 0).val - 576 = (i 0).val; rw [e]; omega) | ⟨1, _⟩ => rfl)

theorem rows_product4 : rowsOf (partials X R E W c) 768 = product4 X R E W c := by
  funext i
  have hi : (i 0).val < 128 := (i 0).isLt
  unfold rowsOf partials
  have e : ((at2 (768 + (i 0).val) (i 1)) 0).val = 768 + (i 0).val := Nat.mod_eq_of_lt (by omega)
  rw [dif_neg (by rw [e]; omega), dif_neg (by rw [e]; omega), dif_neg (by rw [e]; omega), dif_neg (by rw [e]; omega), dif_pos (by rw [e]; omega)]
  exact congrArg _ (funext fun a => by match a with | ⟨0, _⟩ => exact Fin.ext (by show (at2 (768 + (i 0).val) (i 1) 0).val - 768 = (i 0).val; rw [e]; omega) | ⟨1, _⟩ => rfl)

theorem rows_product5 : rowsOf (partials X R E W c) 896 = product5 X R E W c := by
  funext i
  have hi : (i 0).val < 128 := (i 0).isLt
  unfold rowsOf partials
  have e : ((at2 (896 + (i 0).val) (i 1)) 0).val = 896 + (i 0).val := Nat.mod_eq_of_lt (by omega)
  rw [dif_neg (by rw [e]; omega), dif_neg (by rw [e]; omega), dif_neg (by rw [e]; omega), dif_neg (by rw [e]; omega), dif_neg (by rw [e]; omega)]
  exact congrArg _ (funext fun a => by match a with | ⟨0, _⟩ => exact Fin.ext (by show (at2 (896 + (i 0).val) (i 1) 0).val - 896 = (i 0).val; rw [e]; omega) | ⟨1, _⟩ => rfl)

end Cert.KProof
-- ==== Proof.Front.lean ====
/-
The first parts of the body: the barrier, the partial products stored, and the first five transfers.
-/
module

public import proofs.«01_k».proof.Proof.Inputs

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : S1024x512.Idx → Elt F .f32) (R : S512x32.Idx → Elt F .f32) (E : S1024x2.Idx → Elt F .i32) (W : S4x512x1024.Idx → Elt F .f32)
variable (a0 : Dev nD → S1024x1024.Idx → Elt F .bf16) (c : Dev nD)

/-- The staged inputs in memory. -/
def Staged : sProp 𝕄 :=
  iprop((xM.view.loc (c : Thread nD τ) ↦[Finset.univ]{fullShare} X) ∗ (rM.view.loc (c : Thread nD τ) ↦[Finset.univ]{fullShare} R)
    ∗ (eM.view.loc (c : Thread nD τ) ↦[Finset.univ]{fullShare} E) ∗ (wM.view.loc (c : Thread nD τ) ↦[Finset.univ]{fullShare} W))

theorem ld_x {r : LoadRect S1024x512} {hl : xM.view.LoadsAt r}
    {α : Type} {Q : α → sProp 𝕄} {K : (r.shape.Idx → Elt F .f32) → Prog (TpuEff nD τ sig (Elt F) Λ₀ .tc) α} :
    Staged X R E W c ⊢ iprop((Staged X R E W c -∗ WP c (K (xM.view.readAt (Elt F) r X)) Q) -∗ WP c (.op (.load xM r hl) K) Q) := by
  unfold Staged
  iintro ⟨H₁, H₂, H₃, H₄⟩ Hk
  iapply (wp_load 𝒱₀ (c : Thread nD τ) none Set.univ (m := xM) (r := r) (q := fullShare) (f := X) (S := Finset.univ) (Finset.subset_univ _)) $$ H₁
  iintro H₁
  iapply Hk
  isplitl [H₁]; · iexact H₁
  isplitl [H₂]; · iexact H₂
  isplitl [H₃] <;> iassumption

theorem ld_r {r : LoadRect S512x32} {hl : rM.view.LoadsAt r}
    {α : Type} {Q : α → sProp 𝕄} {K : (r.shape.Idx → Elt F .f32) → Prog (TpuEff nD τ sig (Elt F) Λ₀ .tc) α} :
    Staged X R E W c ⊢ iprop((Staged X R E W c -∗ WP c (K (rM.view.readAt (Elt F) r R)) Q) -∗ WP c (.op (.load rM r hl) K) Q) := by
  unfold Staged
  iintro ⟨H₁, H₂, H₃, H₄⟩ Hk
  iapply (wp_load 𝒱₀ (c : Thread nD τ) none Set.univ (m := rM) (r := r) (q := fullShare) (f := R) (S := Finset.univ) (Finset.subset_univ _)) $$ H₂
  iintro H₂
  iapply Hk
  isplitl [H₁]; · iexact H₁
  isplitl [H₂]; · iexact H₂
  isplitl [H₃] <;> iassumption

theorem ld_e {r : LoadRect S1024x2} {hl : eM.view.LoadsAt r}
    {α : Type} {Q : α → sProp 𝕄} {K : (r.shape.Idx → Elt F .i32) → Prog (TpuEff nD τ sig (Elt F) Λ₀ .tc) α} :
    Staged X R E W c ⊢ iprop((Staged X R E W c -∗ WP c (K (eM.view.readAt (Elt F) r E)) Q) -∗ WP c (.op (.load eM r hl) K) Q) := by
  unfold Staged
  iintro ⟨H₁, H₂, H₃, H₄⟩ Hk
  iapply (wp_load 𝒱₀ (c : Thread nD τ) none Set.univ (m := eM) (r := r) (q := fullShare) (f := E) (S := Finset.univ) (Finset.subset_univ _)) $$ H₃
  iintro H₃
  iapply Hk
  isplitl [H₁]; · iexact H₁
  isplitl [H₂]; · iexact H₂
  isplitl [H₃] <;> iassumption

theorem ld_w {r : LoadRect S4x512x1024} {hl : wM.view.LoadsAt r}
    {α : Type} {Q : α → sProp 𝕄} {K : (r.shape.Idx → Elt F .f32) → Prog (TpuEff nD τ sig (Elt F) Λ₀ .tc) α} :
    Staged X R E W c ⊢ iprop((Staged X R E W c -∗ WP c (K (wM.view.readAt (Elt F) r W)) Q) -∗ WP c (.op (.load wM r hl) K) Q) := by
  unfold Staged
  iintro ⟨H₁, H₂, H₃, H₄⟩ Hk
  iapply (wp_load 𝒱₀ (c : Thread nD τ) none Set.univ (m := wM) (r := r) (q := fullShare) (f := W) (S := Finset.univ) (Finset.subset_univ _)) $$ H₄
  iintro H₄
  iapply Hk
  isplitl [H₁]; · iexact H₁
  isplitl [H₂]; · iexact H₂
  isplitl [H₃] <;> iassumption

/-- A part's end: a fact about what it returns, the state, the inputs. -/
theorem front_ret {i : ℕ} {σ σ' : Fin 6 → ℕ} {α : Type} {v : α} {φ : α → Prop} (hφ : φ v) (h : ∀ j, σ j = σ' j) :
    St a0 c i σ ⊢ iprop(Staged X R E W c -∗ WP c (.ret v) fun r => iprop(⌜φ r⌝ ∗ St a0 c i σ' ∗ Staged X R E W c)) := by
  cases (funext h : σ = σ')
  unfold WP
  rw [wp_ret]
  iintro HS HI
  imodintro
  isplitr; · ipureintro; exact hφ
  isplitl [HS] <;> iassumption

/-- Before the barrier's calls, after them, and after its wait. -/
def Start : sProp 𝕄 :=
  iprop(Know a0 ∗ (∃ W, owes (c : Thread nD τ) (owed₀ c) W) ∗ (Call c 0 ∗ Call c 1 ∗ Call c 2)
    ∗ cred (tallyAt (barCell c) () 3) ∗ atPos ER (barCell c) 0 ∅ 0 ∗ Mine c)
def Called : sProp 𝕄 :=
  iprop(Know a0 ∗ (∃ W, owes (c : Thread nD τ) (owed c 0) W) ∗ cred (tallyAt (barCell c) () 3) ∗ atPos ER (barCell c) 0 ∅ 0 ∗ Mine c)

set_option maxHeartbeats 1600000

theorem run1 :
    iprop(Start a0 c ∗ Staged X R E W c) ⊢ WP c (onArgs (k0_part1 (F := F))) fun r => iprop(⌜∃ b3 b4 b5 b7 b9 b13, r = ⟨c, number c, b3, b4, b5, b7, b9, b13, SemArray.scalar (sig.barrier 0 rfl), toks X, scores X R, tops X R⟩⌝ ∗ Called a0 c ∗ Staged X R E W c) := by
  unfold onArgs
  simp only [k0_part1_eq_skeleton]
  unfold k0_part1_skel
  simp only [semSignalWord, semWaitWord, Prog.lift, Prog.bind_op, Prog.bind_ret, Prog.pure_eq_ret, wp_deviceId]
  unfold Start Called owed₀
  iintro ⟨⟨#HK, HO, ⟨HC₀, HC₁, HC₂⟩, Hrest⟩, HI⟩
  iapply (call a0 c 0 (owed c 0 + tallyAt (barCell (nbr 2 c)) () 1 + tallyAt (barCell (nbr 1 c)) () 1) _ (called0 c) rfl) $$ [HO HC₀]
  · isplitr; · iexact HK
    isplitl [HO] <;> iassumption
  iintro HO
  iapply (call a0 c 1 (owed c 0 + tallyAt (barCell (nbr 2 c)) () 1) _ (called1 c) rfl) $$ [HO HC₁]
  · isplitr; · iexact HK
    isplitl [HO] <;> iassumption
  iintro HO
  iapply (call a0 c 2 (owed c 0) _ (called2 c) rfl) $$ [HO HC₂]
  · isplitr; · iexact HK
    isplitl [HO] <;> iassumption
  iintro HO
  iapply (ld_x X R E W c) $$ HI; iintro HI
  iapply (ld_r X R E W c) $$ HI; iintro HI
  unfold WP
  rw [wp_ret]
  imodintro
  isplitr; · ipureintro; exact ⟨_, _, _, _, _, _, rfl⟩
  isplitr [HI]
  · isplitr; · iexact HK
    isplitl [HO] <;> iassumption
  iexact HI

theorem run2 :
    Staged X R E W c ⊢ WP c (onArgs (k0_part2 (F := F)) (number c) (scores X R) (tops X R)) fun r => iprop(⌜r = ⟨k0_pay6 (first E), k0_pay7 (second E), gate0 X R E, gate1 X R E, gates X R E, share0 X R E c, half1 X R E c, hit1 E c⟩⌝ ∗ Staged X R E W c) := by
  unfold onArgs
  simp only [k0_part2_eq_skeleton]
  unfold k0_part2_skel
  simp only [semSignalWord, semWaitWord, Prog.lift, Prog.bind_op, Prog.bind_ret, Prog.pure_eq_ret, wp_deviceId]
  iintro HI
  iapply (ld_e X R E W c) $$ HI; iintro HI
  iapply (ld_e X R E W c) $$ HI; iintro HI
  unfold WP
  rw [wp_ret]
  imodintro
  isplitr; · ipureintro; rfl
  iexact HI

theorem run3 :
    iprop(Called a0 c ∗ Staged X R E W c) ⊢ WP c (onArgs (k0_part3 (F := F)) (number c) (SemArray.scalar (sig.barrier 0 rfl)) (toks X) (k0_pay6 (first E)) (k0_pay7 (second E)) (gate0 X R E) (gate1 X R E) (gates X R E) (share0 X R E c) (half1 X R E c) (hit1 E c)) fun r => iprop(⌜r = ⟨share1 X R E c, share2 X R E c, share3 X R E c, k0_pay17 (toks X), k0_pay18 (toks X) (share0 X R E c) (slab0 W), k0_pay19 (toks X) (gate1 X R E) (gates X R E) (half1 X R E c) (hit1 E c)⟩⌝ ∗ (St a0 c 0 ![0, 0, 0, 0, 0, 0] ∗ Staged X R E W c) ∗ semVal (barCell c) 0) := by
  unfold onArgs
  simp only [k0_part3_eq_skeleton]
  unfold k0_part3_skel
  simp only [semSignalWord, semWaitWord, Prog.lift, Prog.bind_op, Prog.bind_ret, Prog.pure_eq_ret, wp_deviceId]
  unfold Called
  iintro ⟨HC, HI⟩
  iapply (wait_bar a0 c rfl) $$ HC
  iintro ⟨HS, HB⟩
  iapply (ld_w X R E W c) $$ HI; iintro HI
  unfold WP
  rw [wp_ret]
  imodintro
  isplitr; · ipureintro; rfl
  isplitr [HB]
  · isplitl [HS]
    · iapply (Entails.of_eq (congrArg (St a0 c 0) (funext (by decide : ∀ j : Fin 6, (fun _ => 0 : Fin 6 → ℕ) j = (![0, 0, 0, 0, 0, 0] : Fin 6 → ℕ) j)))); iexact HS
    iexact HI
  iexact HB

theorem run4 (b3 b7 : BitVec 32) (hw : rowsOf (a0 c) (base 0) = product0 X R E W c) :
    iprop(St a0 c 0 ![0, 0, 0, 0, 0, 0] ∗ Staged X R E W c) ⊢ WP c (onArgs (k0_part4 (F := F)) b3 b7 (share2 X R E c) (share3 X R E c) (k0_pay17 (toks X)) (k0_pay18 (toks X) (share0 X R E c) (slab0 W)) (k0_pay19 (toks X) (gate1 X R E) (gates X R E) (half1 X R E c) (hit1 E c))) fun r => iprop(⌜True⌝ ∗ St a0 c 0 ![1, 0, 0, 0, 0, 0] ∗ Staged X R E W c) := by
  unfold onArgs
  simp only [k0_part4_eq_skeleton]
  unfold k0_part4_skel
  simp only [semSignalWord, semWaitWord, Prog.lift, Prog.bind_op, Prog.bind_ret, Prog.pure_eq_ret, wp_deviceId]
  iintro ⟨HS, HI⟩
  iapply (ld_w X R E W c) $$ HI; iintro HI
  iapply (ld_w X R E W c) $$ HI; iintro HI
  iapply (ld_w X R E W c) $$ HI; iintro HI
  iapply (ld_any a0 c 0 rfl _ rfl _ rfl _) $$ HS; iintro %_ HS
  iapply (st_part a0 c 0 rfl _ rfl _ rfl _ _ hw) $$ HS; iintro HS
  iapply (front_ret X R E W a0 c (φ := fun _ => True) trivial (by decide)) $$ HS HI

theorem run5 :
    iprop(St a0 c 0 ![1, 0, 0, 0, 0, 0] ∗ Staged X R E W c) ⊢ WP c (onArgs (k0_part5 (F := F)) c (toks X) (share0 X R E c) (share1 X R E c) (share2 X R E c) (share3 X R E c)) fun r => iprop(⌜r = k0_pay21 (toks X) (share0 X R E c) (share1 X R E c) (share2 X R E c) (share3 X R E c) (slab0 W) (slab1 W) (slab2 W) (slab3 W)⌝ ∗ St a0 c 1 ![2, 0, 0, 0, 0, 0] ∗ Staged X R E W c) := by
  unfold onArgs
  simp only [k0_part5_eq_skeleton]
  unfold k0_part5_skel
  simp only [semSignalWord, semWaitWord, Prog.lift, Prog.bind_op, Prog.bind_ret, Prog.pure_eq_ret, wp_deviceId]
  iintro ⟨HS, HI⟩
  iapply (send_half a0 c 0 0 rfl rfl _ (sent0 c) _ rfl _ _ HEq.rfl _ (dest0 c) _ _ rfl rfl) $$ HS; iintro HS
  iapply (ld_w X R E W c) $$ HI; iintro HI
  iapply (ld_w X R E W c) $$ HI; iintro HI
  iapply (ld_w X R E W c) $$ HI; iintro HI
  iapply (ld_w X R E W c) $$ HI; iintro HI
  iapply (front_ret X R E W a0 c (φ := fun r => r = _) rfl (by decide)) $$ HS HI

theorem run6 (b4 b9 : BitVec 32) (hw : rowsOf (a0 c) (base 1) = product1 X R E W c) :
    iprop(St a0 c 1 ![2, 0, 0, 0, 0, 0] ∗ Staged X R E W c) ⊢ WP c (onArgs (k0_part6 (F := F)) c b4 b9 (toks X) (share0 X R E c) (share1 X R E c) (share2 X R E c) (k0_pay21 (toks X) (share0 X R E c) (share1 X R E c) (share2 X R E c) (share3 X R E c) (slab0 W) (slab1 W) (slab2 W) (slab3 W))) fun r => iprop(⌜∃ b, r = ⟨b, k0_pay23 (toks X), k0_pay24 (toks X) (share0 X R E c) (share1 X R E c) (slab0 W) (slab1 W), k0_pay25 (share2 X R E c)⟩⌝ ∗ St a0 c 2 ![2, 2, 0, 0, 0, 0] ∗ Staged X R E W c) := by
  unfold onArgs
  simp only [k0_part6_eq_skeleton]
  unfold k0_part6_skel
  simp only [semSignalWord, semWaitWord, Prog.lift, Prog.bind_op, Prog.bind_ret, Prog.pure_eq_ret, wp_deviceId]
  iintro ⟨HS, HI⟩
  iapply (ld_any a0 c 1 rfl _ rfl _ rfl _) $$ HS; iintro %_ HS
  iapply (st_part a0 c 1 rfl _ rfl _ rfl _ _ hw) $$ HS; iintro HS
  iapply (send_half a0 c 0 1 rfl rfl _ (sent1 c) _ rfl _ _ HEq.rfl _ (dest1 c) _ _ rfl rfl) $$ HS; iintro HS
  iapply (ld_w X R E W c) $$ HI; iintro HI
  iapply (ld_w X R E W c) $$ HI; iintro HI
  iapply (front_ret X R E W a0 c (φ := fun r => ∃ b, r = (⟨b, _⟩ : Σ' (_ : BitVec 32), _)) ⟨_, rfl⟩ (by decide)) $$ HS HI

theorem run7 (b5 b13 : BitVec 32) (hw : rowsOf (a0 c) (base 2) = product2 X R E W c) :
    iprop(St a0 c 2 ![2, 2, 0, 0, 0, 0] ∗ Staged X R E W c) ⊢ WP c (onArgs (k0_part7 (F := F)) c b5 b13 (toks X) (share0 X R E c) (share3 X R E c) (k0_pay23 (toks X)) (k0_pay24 (toks X) (share0 X R E c) (share1 X R E c) (slab0 W) (slab1 W)) (k0_pay25 (share2 X R E c))) fun r => iprop(⌜∃ b, r = ⟨b, k0_pay27 (toks X), k0_pay28, k0_pay29 (share0 X R E c)⟩⌝ ∗ St a0 c 3 ![2, 2, 2, 0, 0, 0] ∗ Staged X R E W c) := by
  unfold onArgs
  simp only [k0_part7_eq_skeleton]
  unfold k0_part7_skel
  simp only [semSignalWord, semWaitWord, Prog.lift, Prog.bind_op, Prog.bind_ret, Prog.pure_eq_ret, wp_deviceId]
  iintro ⟨HS, HI⟩
  iapply (ld_w X R E W c) $$ HI; iintro HI
  iapply (ld_w X R E W c) $$ HI; iintro HI
  iapply (ld_any a0 c 2 rfl _ rfl _ rfl _) $$ HS; iintro %_ HS
  iapply (st_part a0 c 2 rfl _ rfl _ rfl _ _ hw) $$ HS; iintro HS
  iapply (send_half a0 c 0 2 rfl rfl _ (sent2 c) _ rfl _ _ HEq.rfl _ (dest2 c) _ _ rfl rfl) $$ HS; iintro HS
  iapply (front_ret X R E W a0 c (φ := fun r => ∃ b, r = (⟨b, _⟩ : Σ' (_ : BitVec 32), _)) ⟨_, rfl⟩ (by decide)) $$ HS HI

theorem run8 (b7 : BitVec 32) (hw : rowsOf (a0 c) (base 3) = product3 X R E W c) :
    iprop(St a0 c 3 ![2, 2, 2, 0, 0, 0] ∗ Staged X R E W c) ⊢ WP c (onArgs (k0_part8 (F := F)) b7 (share1 X R E c) (share2 X R E c) (share3 X R E c) (k0_pay27 (toks X)) k0_pay28 (k0_pay29 (share0 X R E c))) fun r => iprop(⌜True⌝ ∗ St a0 c 3 ![2, 2, 2, 1, 0, 0] ∗ Staged X R E W c) := by
  unfold onArgs
  simp only [k0_part8_eq_skeleton]
  unfold k0_part8_skel
  simp only [semSignalWord, semWaitWord, Prog.lift, Prog.bind_op, Prog.bind_ret, Prog.pure_eq_ret, wp_deviceId]
  iintro ⟨HS, HI⟩
  iapply (ld_w X R E W c) $$ HI; iintro HI
  iapply (ld_w X R E W c) $$ HI; iintro HI
  iapply (ld_w X R E W c) $$ HI; iintro HI
  iapply (ld_w X R E W c) $$ HI; iintro HI
  iapply (ld_any a0 c 3 rfl _ rfl _ rfl _) $$ HS; iintro %_ HS
  iapply (st_part a0 c 3 rfl _ rfl _ rfl _ _ hw) $$ HS; iintro HS
  iapply (front_ret X R E W a0 c (φ := fun _ => True) trivial (by decide)) $$ HS HI

theorem run9 (b3 b7 b305 b576 : BitVec 32) :
    iprop(St a0 c 3 ![2, 2, 2, 1, 0, 0] ∗ Staged X R E W c) ⊢ WP c (onArgs (k0_part9 (F := F)) c b3 b7 (toks X) (share0 X R E c) (share1 X R E c) (share2 X R E c) b305 b576) fun r => iprop(⌜∃ b, r = ⟨b, k0_pay31 (toks X), k0_pay32 (toks X) (share0 X R E c) (share1 X R E c) (slab0 W) (slab1 W), k0_pay33 (toks X) (share2 X R E c), k0_pay34 (slab2 W), constant S128x1024 .f32 0x00000000#32⟩⌝ ∗ St a0 c 4 ![2, 2, 2, 2, 0, 0] ∗ Staged X R E W c) := by
  unfold onArgs
  simp only [k0_part9_eq_skeleton]
  unfold k0_part9_skel
  simp only [semSignalWord, semWaitWord, Prog.lift, Prog.bind_op, Prog.bind_ret, Prog.pure_eq_ret, wp_deviceId]
  iintro ⟨HS, HI⟩
  iapply (send_half a0 c 0 3 rfl rfl _ (sent3 c) _ rfl _ _ HEq.rfl _ (dest3 c) _ _ rfl rfl) $$ HS; iintro HS
  iapply (ld_w X R E W c) $$ HI; iintro HI
  iapply (ld_w X R E W c) $$ HI; iintro HI
  iapply (ld_w X R E W c) $$ HI; iintro HI
  iapply (front_ret X R E W a0 c (φ := fun r => ∃ b, r = (⟨b, _⟩ : Σ' (_ : BitVec 32), _)) ⟨_, rfl⟩ (by decide)) $$ HS HI

theorem run10 (b5 b13 : BitVec 32) (hw : rowsOf (a0 c) (base 4) = product4 X R E W c) :
    iprop(St a0 c 4 ![2, 2, 2, 2, 0, 0] ∗ Staged X R E W c) ⊢ WP c (onArgs (k0_part10 (F := F)) c b5 b13 (toks X) (share0 X R E c) (share3 X R E c) (k0_pay31 (toks X)) (k0_pay32 (toks X) (share0 X R E c) (share1 X R E c) (slab0 W) (slab1 W)) (k0_pay33 (toks X) (share2 X R E c)) (k0_pay34 (slab2 W)) (constant S128x1024 .f32 0x00000000#32)) fun r => iprop(⌜∃ b, r = ⟨b, k0_pay36 (toks X), k0_pay37 (F := F), k0_pay38 (toks X) (share0 X R E c) (slab0 W)⟩⌝ ∗ St a0 c 5 ![2, 2, 2, 2, 2, 0] ∗ Staged X R E W c) := by
  unfold onArgs
  simp only [k0_part10_eq_skeleton]
  unfold k0_part10_skel
  simp only [semSignalWord, semWaitWord, Prog.lift, Prog.bind_op, Prog.bind_ret, Prog.pure_eq_ret, wp_deviceId]
  iintro ⟨HS, HI⟩
  iapply (ld_w X R E W c) $$ HI; iintro HI
  iapply (ld_any a0 c 4 rfl _ rfl _ rfl _) $$ HS; iintro %_ HS
  iapply (st_part a0 c 4 rfl _ rfl _ rfl _ _ hw) $$ HS; iintro HS
  iapply (send_half a0 c 0 4 rfl rfl _ (sent4 c) _ rfl _ _ HEq.rfl _ (dest4 c) _ _ rfl rfl) $$ HS; iintro HS
  iapply (ld_w X R E W c) $$ HI; iintro HI
  iapply (front_ret X R E W a0 c (φ := fun r => ∃ b, r = (⟨b, _⟩ : Σ' (_ : BitVec 32), _)) ⟨_, rfl⟩ (by decide)) $$ HS HI

theorem run11 (b9 : BitVec 32) (hw : rowsOf (a0 c) (base 5) = product5 X R E W c) :
    iprop(St a0 c 5 ![2, 2, 2, 2, 2, 0] ∗ Staged X R E W c) ⊢ WP c (onArgs (k0_part11 (F := F)) b9 (share1 X R E c) (share2 X R E c) (share3 X R E c) (k0_pay36 (toks X)) (k0_pay37 (F := F)) (k0_pay38 (toks X) (share0 X R E c) (slab0 W))) fun r => iprop(⌜True⌝ ∗ St a0 c 5 ![2, 2, 2, 2, 2, 1] ∗ Staged X R E W c) := by
  unfold onArgs
  simp only [k0_part11_eq_skeleton]
  unfold k0_part11_skel
  simp only [semSignalWord, semWaitWord, Prog.lift, Prog.bind_op, Prog.bind_ret, Prog.pure_eq_ret, wp_deviceId]
  iintro ⟨HS, HI⟩
  iapply (ld_w X R E W c) $$ HI; iintro HI
  iapply (ld_w X R E W c) $$ HI; iintro HI
  iapply (ld_w X R E W c) $$ HI; iintro HI
  iapply (ld_any a0 c 5 rfl _ rfl _ rfl _) $$ HS; iintro %_ HS
  iapply (st_part a0 c 5 rfl _ rfl _ rfl _ _ hw) $$ HS; iintro HS
  iapply (front_ret X R E W a0 c (φ := fun _ => True) trivial (by decide)) $$ HS HI

end Cert.KProof
-- ==== Proof.Body.lean ====
/-
The whole body: its parts one after another, and its last waits.
-/
module

public import proofs.«01_k».proof.Proof.Front

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : S1024x512.Idx → Elt F .f32) (R : S512x32.Idx → Elt F .f32) (E : S1024x2.Idx → Elt F .i32) (W : S4x512x1024.Idx → Elt F .f32)
variable (a0 : Dev nD → S1024x1024.Idx → Elt F .bf16) (c : Dev nD)

set_option maxHeartbeats 1600000

theorem run38 (ha : a0 c = partials X R E W c) :
    iprop(Start a0 c ∗ Staged X R E W c ∗ Out a0 c 0) ⊢ WP c (onArgs (k0_part38 (F := F)))
      fun r => iprop(⌜r.1 = c⌝ ∗ (St a0 c 36 ![25, 25, 25, 25, 25, 22] ∗ Out a0 c 896) ∗ Staged X R E W c ∗ semVal (barCell c) 0) := by
  have r0 : rowsOf (a0 c) (base 0) = product0 X R E W c := ha ▸ rows_product0 X R E W c
  have r1 : rowsOf (a0 c) (base 1) = product1 X R E W c := ha ▸ rows_product1 X R E W c
  have r2 : rowsOf (a0 c) (base 2) = product2 X R E W c := ha ▸ rows_product2 X R E W c
  have r3 : rowsOf (a0 c) (base 3) = product3 X R E W c := ha ▸ rows_product3 X R E W c
  have r4 : rowsOf (a0 c) (base 4) = product4 X R E W c := ha ▸ rows_product4 X R E W c
  have r5 : rowsOf (a0 c) (base 5) = product5 X R E W c := ha ▸ rows_product5 X R E W c
  unfold onArgs
  simp only [k0_part38_eq_skeleton]
  unfold k0_part38_skel
  simp only [Prog.lift, Prog.bind_op, Prog.bind_ret, Prog.pure_eq_ret]
  iintro ⟨HS, HI, HO⟩
  iapply (run_then (run1 X R E W a0 c)) $$ [HS HI]; · isplitl [HS] <;> iassumption
  iintro %r ⟨%h, HS, HI⟩; obtain ⟨b3, b4, b5, b7, b9, b13, rfl⟩ := h
  iapply (run_then (run2 X R E W c)) $$ HI
  iintro %r ⟨%h, HI⟩; subst h
  iapply (run_then (run3 X R E W a0 c)) $$ [HS HI]; · isplitl [HS] <;> iassumption
  iintro %r ⟨%h, HS, HB⟩; subst h
  iapply (run_then (run4 X R E W a0 c _ _ r0)) $$ HS
  iintro %b144 ⟨-, HS⟩
  iapply (run_then (run5 X R E W a0 c)) $$ HS
  iintro %r ⟨%h, HS⟩; subst h
  iapply (run_then (run6 X R E W a0 c _ _ r1)) $$ HS
  iintro %r ⟨%h, HS⟩; obtain ⟨b198, rfl⟩ := h
  iapply (run_then (run7 X R E W a0 c _ _ r2)) $$ HS
  iintro %r ⟨%h, HS⟩; obtain ⟨b252, rfl⟩ := h
  iapply (run_then (run8 X R E W a0 c _ r3)) $$ HS
  iintro %r ⟨-, HS⟩; obtain ⟨b305, b576⟩ := r
  iapply (run_then (run9 X R E W a0 c _ _ _ _)) $$ HS
  iintro %r ⟨%h, HS⟩; obtain ⟨b306, rfl⟩ := h
  iapply (run_then (run10 X R E W a0 c _ _ r4)) $$ HS
  iintro %r ⟨%h, HS⟩; obtain ⟨b360, rfl⟩ := h
  iapply (run_then (run11 X R E W a0 c _ r5)) $$ HS
  iintro %r ⟨-, HS, HI⟩; obtain ⟨b414, b1⟩ := r
  iapply (run_then (run12 a0 c _ _ _ _ _)) $$ HS
  iintro %_ HS
  iapply (run_then (run13 a0 c _ _ _ _)) $$ HS
  iintro %_ HS
  iapply (run_then (run14 a0 c _ _ _ _)) $$ HS
  iintro %r HS; obtain ⟨_, _⟩ := r
  iapply (run_then (run15 a0 c _ _ _ _ _)) $$ HS
  iintro %_ HS
  iapply (run_then (run16 a0 c _ _ _ _)) $$ HS
  iintro %r ⟨%h, HS⟩; obtain ⟨_, _, _⟩ := r; obtain ⟨rfl, rfl⟩ := h
  iapply (run_then (run17 a0 c _ _ _ _ _)) $$ HS
  iintro %_ HS
  iapply (run_then (run18 a0 c _ _ _ _ _)) $$ HS
  iintro %r HS; obtain ⟨_, _, _⟩ := r
  iapply (run_then (run19 a0 c _ _ _ _ _ _)) $$ HS
  iintro %_ HS
  iapply (run_then (run20 a0 c _ _ _ _)) $$ HS
  iintro %_ HS
  iapply (run_then (run21 a0 c _ _ _ _)) $$ HS
  iintro %_ HS
  iapply (run_then (run22 a0 c _ _ _ _)) $$ HS
  iintro %_ HS
  iapply (run_then (run23 a0 c _ _ _ _)) $$ HS
  iintro %r ⟨%h, HS⟩; subst h
  iapply (run_then (run24 a0 c _ _ _)) $$ HS
  iintro %_ HS
  iapply (run_then (run25 a0 c _ _)) $$ HS
  iintro %_ HS
  iapply (run_then (run26 a0 c _ _ _)) $$ HS
  iintro %_ HS
  iapply (run_then (run27 a0 c _ _ _ _ _)) $$ HS
  iintro %_ HS
  iapply (run_then (run28 a0 c _ _ _ _)) $$ HS
  iintro %_ HS
  iapply (run_then (run29 a0 c _ _ _ _ _)) $$ HS
  iintro %r HS; obtain ⟨_, _, _⟩ := r
  iapply (run_then (run30 a0 c _ _ _ _ _ _)) $$ HS
  iintro %_ HS
  iapply (run_then (run31 a0 c _ _ _ _ _ _ _)) $$ HS
  iintro %_ HS
  iapply (run_then (run32 a0 c _ _ _ _ _)) $$ HS
  iintro %_ HS
  iapply (run_then (run33 a0 c _ _ _ _)) $$ HS
  iintro %_ HS
  iapply (run_then (run34 a0 c _ _ _ _ _ _ _)) $$ HS
  iintro %_ HS
  iapply (run_then (run35 a0 c _ _ _ _)) $$ HS
  iintro %_ HS
  iapply (run_then (run36 a0 c _ _)) $$ [HS HO]; · isplitl [HS] <;> iassumption
  iintro %_ ⟨HS, HO⟩
  iapply (run_then (run37 a0 c _ _)) $$ [HS HO]; · isplitl [HS] <;> iassumption
  iintro %_ ⟨HS, HO⟩
  iapply (wait_rows a0 c 5 4 (by decide) rfl (by decide) _ rfl rfl) $$ HS; iintro HS
  iapply (ld_done a0 c 4 rfl _ rfl _ rfl _) $$ HS; iintro HS
  iapply (ld_out a0 c) $$ HO; iintro %_ HO
  iapply (st_out a0 c _ _ rfl) $$ HO; iintro HO
  unfold WP
  rw [wp_ret]
  imodintro
  isplitr; · ipureintro; rfl
  isplitr [HI HB]
  · isplitl [HS]
    · iapply (St_to a0 c (by decide)) $$ HS
    iexact HO
  isplitl [HI] <;> iassumption

theorem run_body (ha : a0 c = partials X R E W c) :
    iprop(Start a0 c ∗ Staged X R E W c ∗ Out a0 c 0) ⊢ WP c (onArgs (cc0_body (F := F)))
      fun _ => iprop((St a0 c 36 ![25, 25, 25, 25, 25, 25] ∗ Out a0 c 1024) ∗ Staged X R E W c ∗ semVal (barCell c) 0) := by
  unfold onArgs
  simp only [cc0_body_eq_skeleton]
  unfold cc0_body_skel
  simp only [Prog.lift, Prog.bind_op, Prog.bind_ret, Prog.pure_eq_ret]
  iintro H
  iapply (run_then (run38 X R E W a0 c ha)) $$ H
  iintro %r ⟨%h, ⟨HS, HO⟩, Hrest⟩
  obtain ⟨d, b⟩ := r
  cases (show d = c from h)
  iapply (wait_send a0 c 5 5 rfl _ rfl rfl) $$ HS; iintro HS
  iapply (wait_rows a0 c 5 5 (by decide) rfl (by decide) _ rfl rfl) $$ HS; iintro HS
  iapply (ld_done a0 c 5 rfl _ rfl _ rfl _) $$ HS; iintro HS
  iapply (ld_out a0 c) $$ HO; iintro %_ HO
  iapply (st_out a0 c _ _ rfl) $$ HO; iintro HO
  unfold WP
  rw [wp_ret]
  imodintro
  isplitr [Hrest]
  · isplitl [HS]
    · iapply (St_to a0 c (by decide)) $$ HS
    iexact HO
  iexact Hrest

end Cert.KProof
-- ==== Proof.Deal.lean ====
/-
The launch's resources: the semaphores under the schedule, the tokens of their duties, the credits, and how they are dealt
to the devices.
-/
module

public import proofs.«01_k».proof.Proof.Front

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A family over the semaphores, sorted -/

/-- A transfer's place after `o` others. -/
def place (o : ℕ) {n : ℕ} (h : o + 36 ≤ n) : Fin 6 × Fin 6 ↪ Fin n where
  toFun x := ⟨o + (6 * x.2.val + x.1.val), by have := x.1.isLt; have := x.2.isLt; omega⟩
  inj' x y e := by
    have := Fin.mk.inj e; have := x.1.isLt; have := x.2.isLt; have := y.1.isLt; have := y.2.isLt
    exact Prod.ext (Fin.ext (by omega)) (Fin.ext (by omega))

omit [FloatOps F] in
theorem both {I : Type} [DecidableEq I] {s t : Finset I} (h : Disjoint s t) (Φ : I → sProp 𝕄) : bigSep (s ∪ t) Φ = iprop(bigSep s Φ ∗ bigSep t Φ) :=
  bigSep_union h

/-- A family over `m` things and then two for each transfer. -/
theorem sorted {m n : ℕ} (hn : n = m + 72) (Φ : Fin n → sProp 𝕄) :
    bigSep Finset.univ Φ = iprop((bigSep Finset.univ fun i : Fin m => Φ ⟨i.val, by have := i.isLt; omega⟩)
      ∗ (bigSep Finset.univ fun j => bigSep Finset.univ fun k => Φ (place m (by omega) (j, k)))
      ∗ bigSep Finset.univ fun j => bigSep Finset.univ fun k => Φ (place (m + 36) (by omega) (j, k))) := by
  let b : Fin m ↪ Fin n := ⟨fun i => ⟨i.val, by have := i.isLt; omega⟩, fun i i' e => Fin.ext (Fin.mk.inj e)⟩
  have hu : (Finset.univ : Finset (Fin n))
      = Finset.univ.map b ∪ (Finset.univ.map (place m (by omega)) ∪ Finset.univ.map (place (m + 36) (by omega))) := by
    ext i
    rw [Finset.mem_union, Finset.mem_union, Finset.mem_map, Finset.mem_map, Finset.mem_map]
    refine ⟨fun _ => ?_, fun _ => Finset.mem_univ _⟩
    have hi := i.isLt
    by_cases h1 : i.val < m
    · exact Or.inl ⟨⟨i.val, h1⟩, Finset.mem_univ _, rfl⟩
    by_cases h2 : i.val < m + 36
    · refine Or.inr (Or.inl ⟨(⟨(i.val - m) % 6, Nat.mod_lt _ (by decide)⟩, ⟨(i.val - m) / 6, by omega⟩), Finset.mem_univ _, Fin.ext ?_⟩)
      show m + (6 * ((i.val - m) / 6) + (i.val - m) % 6) = i.val; omega
    · refine Or.inr (Or.inr ⟨(⟨(i.val - (m + 36)) % 6, Nat.mod_lt _ (by decide)⟩, ⟨(i.val - (m + 36)) / 6, by omega⟩), Finset.mem_univ _, Fin.ext ?_⟩)
      show m + 36 + (6 * ((i.val - (m + 36)) / 6) + (i.val - (m + 36)) % 6) = i.val; omega
  rw [hu, both, both, bigSep_map, bigSep_map, bigSep_map, bigSep_univ_prod, bigSep_univ_prod]
  · rfl
  · rw [Finset.disjoint_left]; intro i h1 h2
    rw [Finset.mem_map] at h1 h2; obtain ⟨x, -, rfl⟩ := h1; obtain ⟨y, -, h⟩ := h2
    have := Fin.mk.inj h; have := x.1.isLt; have := x.2.isLt; omega
  · rw [Finset.disjoint_left]; intro i h1 h2
    rw [Finset.mem_union, Finset.mem_map, Finset.mem_map] at h2; rw [Finset.mem_map] at h1
    obtain ⟨x, -, rfl⟩ := h1; have := x.isLt
    rcases h2 with ⟨y, -, h⟩ | ⟨y, -, h⟩ <;> · have := Fin.mk.inj h; omega

theorem osem_send (j k : Fin 6) : osem (place 1 (by decide) (j, k)) = .dma (sendS k j) := by
  refine (if_neg (show ¬1 + (6 * k.val + j.val) = 0 by omega)).trans ?_
  exact congrArg SemLoc.dma (Fin.ext (show 1 + (6 * k.val + j.val) + 4 = 5 + (6 * k.val + j.val) by omega))
theorem osem_recv (j k : Fin 6) : osem (place (1 + 36) (by decide) (j, k)) = .dma (recvS k j) := by
  refine (if_neg (show ¬1 + 36 + (6 * k.val + j.val) = 0 by omega)).trans ?_
  exact congrArg SemLoc.dma (Fin.ext (show 1 + 36 + (6 * k.val + j.val) + 4 = 41 + (6 * k.val + j.val) by omega))

/-- Over the kernel's semaphores. -/
theorem over_sems (Φ : SemLoc sig → sProp 𝕄) :
    (bigSep Finset.univ fun i : Fin 73 => Φ (osem i)) = iprop(Φ (.reg barS)
      ∗ (bigSep Finset.univ fun j => bigSep Finset.univ fun k => Φ (.dma (sendS k j)))
      ∗ bigSep Finset.univ fun j => bigSep Finset.univ fun k => Φ (.dma (recvS k j))) := by
  refine (sorted (m := 1) rfl _).trans ?_
  rw [bigSep_univ_eq_bigSepL [(0 : Fin 1)] (by decide) (by decide)]
  show iprop(Φ (.reg barS) ∗ (bigSep Finset.univ fun j => bigSep Finset.univ fun k => Φ (osem (place 1 (by decide) (j, k))))
      ∗ bigSep Finset.univ fun j => bigSep Finset.univ fun k => Φ (osem (place (1 + 36) (by decide) (j, k)))) = _
  simp only [osem_send, osem_recv]

/-! ## Cells and tokens -/

/-- A semaphore's place among the kernel's. -/
def placeOf : SemLoc sig → ℕ
  | .reg _ => 0
  | .dma s => s.val - 4

theorem placeOf_osem (i : Fin 73) : placeOf (osem i) = i.val := by
  unfold osem; split
  · next h => rw [h]; rfl
  · show i.val + 4 - 4 = _; omega

theorem kcell_injective : Function.Injective (kcell : Dev nD × Fin 73 → GSem nD τ sig) := by
  rintro ⟨c, k⟩ ⟨c', k'⟩ h
  have h1 : c = c' := congrArg (fun g : GSem nD τ sig => g.1.1) h
  have h2 : osem k = osem k' := congrArg Prod.snd h
  have h3 := congrArg placeOf h2
  rw [placeOf_osem, placeOf_osem] at h3
  exact Prod.ext h1 (Fin.ext h3)

def kCells : Finset (GSem nD τ sig) := Finset.univ.map ⟨kcell, kcell_injective⟩

/-- A device's duties: its barrier's three, then each transfer's two. -/
def tokOf (x : Dev nD × Fin 75) : GSem nD τ sig × ℕ × D :=
  if h : x.2.val < 3 then (barCell x.1, 0, ⟨x.2.val, h⟩) else (kcell (x.1, ⟨x.2.val - 2, by have := x.2.isLt; omega⟩), 0, 0)

theorem tokOf_injective : Function.Injective tokOf := by
  have hb : ∀ x : Dev nD × Fin 75, placeOf (tokOf x).1.2 + (tokOf x).2.2.val = (if x.2.val < 3 then x.2.val else x.2.val - 2)
      ∧ (placeOf (tokOf x).1.2 = 0 ↔ x.2.val < 3) ∧ (tokOf x).1.1.1 = x.1 := by
    rintro ⟨c, i⟩
    have hi := i.isLt
    unfold tokOf; split
    · next h => exact ⟨Nat.zero_add _, ⟨fun _ => h, fun _ => rfl⟩, rfl⟩
    · next h =>
      have hp : placeOf (kcell (c, ⟨i.val - 2, by omega⟩)).2 = i.val - 2 := placeOf_osem _
      have h' : ¬i.val < 3 := h
      refine ⟨?_, ⟨fun e => ?_, fun e => absurd e h⟩, rfl⟩
      · exact hp
      · have e' : placeOf (kcell (c, ⟨i.val - 2, by omega⟩)).2 = 0 := e
        rw [hp] at e'; show i.val < 3; omega
  intro x y h
  obtain ⟨x1, x2, x3⟩ := hb x
  obtain ⟨y1, y2, y3⟩ := hb y
  rw [h] at x1 x2 x3
  refine Prod.ext (x3.symm.trans y3) (Fin.ext ?_)
  have hxy : x.2.val < 3 ↔ y.2.val < 3 := x2.symm.trans y2
  rw [x1] at y1
  by_cases hc : x.2.val < 3
  · rw [if_pos hc, if_pos (hxy.mp hc)] at y1; exact y1
  · have hd : ¬y.2.val < 3 := fun e => hc (hxy.mpr e)
    rw [if_neg hc, if_neg hd] at y1; omega

def kToks : Finset (GSem nD τ sig × ℕ × D) := Finset.univ.map ⟨tokOf, tokOf_injective⟩

/-- The tokens of a device's own semaphores. -/
def toksAt (c : Dev nD) : sProp 𝕄 :=
  iprop((bigSep Finset.univ fun d : Fin 3 => dutyTok ER (barCell c) 0 d)
    ∗ (bigSep Finset.univ fun j => bigSep Finset.univ fun k => dutyTok ER (sendCell k j c) 0 (0 : D))
    ∗ bigSep Finset.univ fun j => bigSep Finset.univ fun k => dutyTok ER (recvCell k j c) 0 (0 : D))
/-- The tokens a device pays with. -/
def pays (c : Dev nD) : sProp 𝕄 :=
  iprop((bigSep Finset.univ fun d : Fin 3 => dutyTok ER (barCell (nbr d c)) 0 d)
    ∗ (bigSep Finset.univ fun j => bigSep Finset.univ fun k => dutyTok ER (sendCell k j c) 0 (0 : D))
    ∗ bigSep Finset.univ fun j => bigSep Finset.univ fun k => dutyTok ER (recvCell k j (tpal k.val j c)) 0 (0 : D))

omit [FloatOps F] in
/-- A family dealt by permutations of the devices. -/
theorem deal {I : Type} [Fintype I] (e : I → Dev nD ≃ Dev nD) (Φ : I → Dev nD → sProp 𝕄) :
    (bigSep Finset.univ fun c => bigSep Finset.univ fun i => Φ i c) = bigSep Finset.univ fun c => bigSep Finset.univ fun i => Φ i (e i c) := by
  rw [bigSep_univ_comm, bigSep_univ_comm (fun c i => Φ i (e i c))]
  exact bigSep_congr fun i _ => bigSep_univ_equiv (e i) (Φ i)

theorem toks_around : (bigSep Finset.univ fun c : Dev nD => (toksAt (F := F) c)) = bigSep Finset.univ fun c : Dev nD => pays c := by
  unfold toksAt pays
  rw [bigSep_sep', bigSep_sep', bigSep_sep', bigSep_sep', deal (F := F) swap fun d c => dutyTok ER (barCell c) 0 d]
  congr 2
  have h := deal (F := F) (fun x : Fin 6 × Fin 6 => swap (tdim x.2.val x.1)) fun x c => dutyTok ER (recvCell x.2 x.1 c) 0 (0 : D)
  simp only [bigSep_univ_prod] at h
  exact h

theorem toks_eq : bigSep kToks (fun x => (dutyTok ER x.1 x.2.1 x.2.2 : sProp 𝕄)) = bigSep Finset.univ fun c : Dev nD => toksAt c := by
  unfold kToks; rw [bigSep_map, bigSep_univ_prod]
  refine bigSep_congr fun c _ => ?_
  rw [sorted (m := 3) rfl]
  unfold toksAt
  have hs : ∀ j k : Fin 6, tokOf (c, place 3 (by decide) (j, k)) = (sendCell k j c, 0, 0) := fun j k => by
    refine (dif_neg (show ¬3 + (6 * k.val + j.val) < 3 by omega)).trans ?_
    show (((c : Thread nD τ), osem _), 0, 0) = _
    rw [show (⟨(place 3 (by decide) (j, k) : Fin 75).val - 2, _⟩ : Fin 73) = place 1 (by decide) (j, k) from
      Fin.ext (show 3 + (6 * k.val + j.val) - 2 = 1 + (6 * k.val + j.val) by omega), osem_send]
  have hr : ∀ j k : Fin 6, tokOf (c, place (3 + 36) (by decide) (j, k)) = (recvCell k j c, 0, 0) := fun j k => by
    refine (dif_neg (show ¬3 + 36 + (6 * k.val + j.val) < 3 by omega)).trans ?_
    show (((c : Thread nD τ), osem _), 0, 0) = _
    rw [show (⟨(place (3 + 36) (by decide) (j, k) : Fin 75).val - 2, _⟩ : Fin 73) = place (1 + 36) (by decide) (j, k) from
      Fin.ext (show 3 + 36 + (6 * k.val + j.val) - 2 = 1 + 36 + (6 * k.val + j.val) by omega), osem_recv]
  show iprop((bigSep Finset.univ fun i : Fin 3 => dutyTok ER (tokOf (c, ⟨i.val, _⟩)).1 (tokOf (c, ⟨i.val, _⟩)).2.1 (tokOf (c, ⟨i.val, _⟩)).2.2)
    ∗ (bigSep Finset.univ fun j => bigSep Finset.univ fun k => dutyTok ER (tokOf (c, place 3 _ (j, k))).1 (tokOf (c, place 3 _ (j, k))).2.1 (tokOf (c, place 3 _ (j, k))).2.2)
    ∗ bigSep Finset.univ fun j => bigSep Finset.univ fun k => dutyTok ER (tokOf (c, place (3 + 36) _ (j, k))).1 (tokOf (c, place (3 + 36) _ (j, k))).2.1 (tokOf (c, place (3 + 36) _ (j, k))).2.2) = _
  simp only [hs, hr]
  rfl

/-! ## Credits -/

theorem owed₀_bar (d c : Dev nD) : owed₀ d (barCell c) () = ∑ i : Fin 3, if d = nbr i c then 1 else 0 := by
  have h0 : owed d 0 (barCell c) () = 0 := by
    by_contra h
    obtain ⟨i, hi, hp⟩ := sum_pos _ _ (Nat.pos_of_ne_zero h)
    exact absurd (congrArg Prod.snd (tally_pos hp)) (fun e => by cases e)
  have hb : ∀ i : Fin 3, (tallyAt (barCell (nbr i d)) () 1 : CellTallies nD τ sig Unit) (barCell c) () = if d = nbr i c then 1 else 0 := fun i => by
    rw [tallyAt_apply]
    by_cases h : d = nbr i c
    · subst h; rw [nbr_nbr, if_pos ⟨rfl, rfl⟩, if_pos rfl]
    · rw [if_neg (fun e => h (by
        have e' : c = nbr i d := congrArg (fun g : GSem nD τ sig => g.1.1) e.1
        rw [e', nbr_nbr])), if_neg h]
  unfold owed₀
  rw [Pi.add_apply, Finsupp.add_apply, Pi.add_apply, Finsupp.add_apply, Pi.add_apply, Finsupp.add_apply, h0, hb, hb, hb, Fin.sum_univ_three]
  omega

theorem owed₀_recv (k j : Fin 6) (d c : Dev nD) : owed₀ d (recvCell k j c) () = if d = tpal k.val j c then credit k j else 0 := by
  have hk := k.isLt
  have hj := j.isLt
  have hn : ∀ e : Dev nD, (tallyAt (barCell e) () 1 : CellTallies nD τ sig Unit) (recvCell k j c) () = 0 := fun e => by
    rw [tallyAt_ne_cell (fun h => absurd (congrArg Prod.snd h) (fun e => by cases e))]; rfl
  unfold owed₀
  rw [Pi.add_apply, Finsupp.add_apply, Pi.add_apply, Finsupp.add_apply, Pi.add_apply, Finsupp.add_apply, hn, hn, hn]
  unfold owed
  rw [Finset.sum_apply, Finsupp.finsetSum_apply, Finset.sum_eq_single (6 * k.val + j.val)]
  · unfold due
    rw [stepOf_eq, partOf_eq, tallyAt_apply]
    by_cases h : d = tpal k.val j c
    · subst h; rw [tpal_tpal, if_pos ⟨rfl, rfl⟩, if_pos rfl]; rfl
    · rw [if_neg (fun e => h (by
        have e' : c = tpal k.val j d := congrArg (fun g : GSem nD τ sig => g.1.1) e.1
        rw [e', tpal_tpal])), if_neg h]
  · intro n hn' hne
    rw [Finset.mem_Ico] at hn'
    unfold due
    rw [tallyAt_ne_cell]; · rfl
    intro h
    have h1 : recvS k j = recvS (stepOf n) (partOf n) := SemLoc.dma.inj (congrArg Prod.snd h)
    have h2 : 41 + (6 * k.val + j.val) = 41 + (6 * (n / 6 % 6) + n % 6) := congrArg Fin.val h1
    omega
  · intro h
    exact absurd (Finset.mem_Ico.mpr ⟨Nat.zero_le _, by omega⟩) h

theorem launch_bar (c : Dev nD) :
    tallyOn (barCell c) (launchCredit (Pipeline.owing owed₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed₀_bar d c, Finset.sum_comm,
    Finset.sum_congr rfl fun i _ => (Finset.sum_ite_eq' Finset.univ (nbr i c) fun _ => 1).trans (if_pos (Finset.mem_univ _))]
  rfl

theorem launch_recv (k j : Fin 6) (c : Dev nD) :
    tallyOn (recvCell k j c) (launchCredit (Pipeline.owing owed₀) 0 (recvCell k j c)) = (tallyAt (recvCell k j c) () (credit k j) : CellTallies nD τ sig Unit) := by
  unfold tallyAt; refine congrArg _ (Finsupp.ext fun u => ?_); cases u
  rw [Pipeline.launchCredit_owing, Finsupp.single_eq_same, Finset.sum_congr rfl fun d _ => owed₀_recv k j d c,
    Finset.sum_ite_eq' Finset.univ (tpal k.val j c) fun _ => credit k j, if_pos (Finset.mem_univ _)]

theorem osem_injective : Function.Injective osem := fun i i' h => by
  have := congrArg placeOf h
  rw [placeOf_osem, placeOf_osem] at this; exact Fin.ext this

theorem creds (c : Dev nD) :
    (Pipeline.launchCred owed₀ c : sProp 𝕄) ⊢ iprop(cred (tallyAt (barCell c) () 3)
      ∗ bigSep Finset.univ fun j => bigSep Finset.univ fun k => cred (tallyAt (recvCell k j c) () (credit k j))) := by
  unfold Pipeline.launchCred
  refine (bigSep_subset (Finset.subset_univ (Finset.univ.map ⟨osem, osem_injective⟩))).trans ?_
  rw [bigSep_map]
  refine (Entails.of_eq (over_sems fun sm => cred (tallyOn ((c.tc : Thread nD τ), sm) (launchCredit (Pipeline.owing owed₀) 0 ((c.tc : Thread nD τ), sm))))).trans ?_
  simp only [launch_bar, launch_recv]
  iintro ⟨HB, -, HR⟩
  isplitl [HB]; · iexact HB
  iexact HR

end Cert.KProof
-- ==== Proof.Launch.lean ====
/-
The launch and the run: what each device starts the kernel's body with, the pipeline's data, and the run of the whole
program from any memory, on any float values.
-/
module

public import proofs.«01_k».proof.Proof.Body
public import proofs.«01_k».proof.Proof.Deal
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Scratch memory -/

/-- The landing buffers, and the accumulator by parts. -/
def Scratch (c : Dev nD) : sProp 𝕄 :=
  iprop((bigSep Finset.univ fun x : Fin 3 × Fin 6 => BufAny (F := F) c x.1.val x.2) ∗ bigSep Finset.univ fun j : Fin 6 => AccAny (F := F) c (base j) (size j))

omit [FloatOps F] in
theorem whole_pts (c : Dev nD) (b : Ref sig .tc) (f : Buf (Elt F) ((c : Thread nD τ).loc b)) :
    ((((Memref.whole b).view).loc (c : Thread nD τ)) ↦[(Memref.whole b).view.set]{fullShare} f : sProp 𝕄) = (((c : Thread nD τ).loc b) ↦{fullShare} f) := by
  simp only [Memref.view_whole, View.set_whole]

theorem part_mem (i : S1024x1024.Idx) : i ∈ rowsIn (base (part (i 0).val)) (size (part (i 0).val)) := by
  rw [mem_rowsIn]
  have h : (i 0).val < 1024 := (i 0).isLt
  unfold part
  split_ifs <;> simp [base, size] <;> omega

/-- The accumulator is its six parts. -/
theorem acc_parts (c : Dev nD) (f : S1024x1024.Idx → Elt F .bf16) :
    ((((c : Thread nD τ).loc cc0_scratch18) ↦{fullShare} (f : Buf (Elt F) ((c : Thread nD τ).loc cc0_scratch18))) : sProp 𝕄)
      = bigSep Finset.univ fun j : Fin 6 => Acc c (base j) (size j) f := by
  have hu : (Finset.univ : Finset S1024x1024.Idx) = Finset.univ.biUnion fun j : Fin 6 => rowsIn (base j) (size j) := by
    ext i; exact ⟨fun _ => Finset.mem_biUnion.mpr ⟨part (i 0).val, Finset.mem_univ _, part_mem i⟩, fun _ => Finset.mem_univ _⟩
  unfold Acc
  rw [← pointsTo_biUnion (ℓ := (c : Thread nD τ).loc cc0_scratch18) Finset.univ (fun j : Fin 6 => rowsIn (base j) (size j))]
  · rw [← hu]
  · intro j _ j' _ hne
    rw [Finset.disjoint_left]; intro i h h'
    rw [mem_rowsIn] at h h'
    exact hne ((part_eq h.1 h.2).symm.trans (part_eq h'.1 h'.2))

theorem bufs_eq (Φ : Fin 3 × Fin 6 → sProp 𝕄) :
    bigSep Finset.univ Φ = iprop(Φ (0, 0) ∗ Φ (1, 0) ∗ Φ (2, 0) ∗ Φ (0, 1) ∗ Φ (1, 1) ∗ Φ (2, 1) ∗ Φ (0, 2) ∗ Φ (1, 2) ∗ Φ (2, 2)
      ∗ Φ (0, 3) ∗ Φ (1, 3) ∗ Φ (2, 3) ∗ Φ (0, 4) ∗ Φ (1, 4) ∗ Φ (2, 4) ∗ Φ (0, 5) ∗ Φ (1, 5) ∗ Φ (2, 5)) :=
  bigSep_univ_eq_bigSepL [(0, 0), (1, 0), (2, 0), (0, 1), (1, 1), (2, 1), (0, 2), (1, 2), (2, 2), (0, 3), (1, 3), (2, 3), (0, 4), (1, 4), (2, 4), (0, 5), (1, 5), (2, 5)]
    (by decide) (by decide) Φ

/-- A landing buffer is a whole scratch buffer. -/
theorem buf_whole (c : Dev nD) (b : Ref sig .tc) :
    iprop(∃ f, ((Memref.whole b).view.loc (c : Thread nD τ)) ↦[(Memref.whole b).view.set]{fullShare} f)
      = (iprop(∃ f : Buf (Elt F) ((c : Thread nD τ).loc b), ((c : Thread nD τ).loc b) ↦{fullShare} f) : sProp 𝕄) := by
  simp only [Memref.view_whole, View.set_whole]

theorem accAny_of (c : Dev nD) (l n : ℕ) (f : S1024x1024.Idx → Elt F .bf16) : Acc c l n f ⊢ AccAny (F := F) c l n := by
  unfold AccAny; iintro H; iexists f; iexact H

theorem regrouped (P Q R : sProp 𝕄) : iprop((P ∗ Q) ∗ R) = iprop(P ∗ Q ∗ R) := equiv_iff.mp ⟨BI.sep_assoc, BI.sep_assoc'⟩
theorem with_emp (P : sProp 𝕄) : iprop(P ∗ emp) = P := equiv_iff.mp BI.sep_emp

/-- The scratch memory: the landing buffers and the whole accumulator. -/
theorem rest_eq (c : Dev nD) : (Pipeline.scopedRest cfg0.spec c : sProp 𝕄)
    = iprop((bigSep Finset.univ fun x : Fin 3 × Fin 6 => BufAny (F := F) c x.1.val x.2)
      ∗ ∃ f : Buf (Elt F) ((c : Thread nD τ).loc cc0_scratch18), ((c : Thread nD τ).loc cc0_scratch18) ↦{fullShare} f) := by
  refine (scopedRest0_eq c).trans ?_
  rw [bufs_eq]; simp only [regrouped]
  iterate 18 refine congrArg₂ (fun P Q : sProp 𝕄 => iprop(P ∗ Q)) (buf_whole c _).symm ?_
  rfl

theorem scratch_intro (c : Dev nD) : (Pipeline.scopedRest cfg0.spec c : sProp 𝕄) ⊢ Scratch c := by
  rw [rest_eq]
  unfold Scratch
  iintro ⟨HB, %f, HA⟩
  isplitl [HB]; · iexact HB
  ihave HA' := (Entails.of_eq (acc_parts c f)) $$ HA
  iapply (show (bigSep Finset.univ fun j : Fin 6 => Acc (F := F) c (base j) (size j) f) ⊢ bigSep Finset.univ fun j : Fin 6 => AccAny c (base j) (size j) from
    bigSep_mono fun j _ => accAny_of c _ _ f)
  iexact HA'

/-! ## From the launch to the body and back -/

section Ends
variable (a0 : Dev nD → S1024x1024.Idx → Elt F .bf16) (c : Dev nD)

/-- The records of every semaphore. -/
def Recs : sProp 𝕄 := bigSep Finset.univ fun x : Dev nD × Fin 73 => Rec (F := F) a0 (kcell x)
instance Recs_persistent : Persistent (Recs (F := F) a0) := by unfold Recs; infer_instance

/-- Where a device stands at its semaphores. -/
def Stands : sProp 𝕄 :=
  iprop(atPos ER (barCell c) 0 ∅ 0
    ∗ (bigSep Finset.univ fun j => bigSep Finset.univ fun k => atPos ER (sendCell k j c) 0 ∅ 0)
    ∗ bigSep Finset.univ fun j => bigSep Finset.univ fun k => atPos ER (recvCell k j c) 0 ∅ 0)
/-- A device's semaphores at zero. -/
def Zeros : sProp 𝕄 :=
  iprop(semVal (barCell c) 0
    ∗ (bigSep Finset.univ fun j => bigSep Finset.univ fun k => semVal (sendCell k j c) 0)
    ∗ bigSep Finset.univ fun j => bigSep Finset.univ fun k => semVal (recvCell k j c) 0)
/-- The credits of a device's semaphores. -/
def Credits : sProp 𝕄 :=
  iprop(cred (tallyAt (barCell c) () 3)
      ∗ bigSep Finset.univ fun j => bigSep Finset.univ fun k => cred (tallyAt (recvCell k j c) () (credit k j)))

/-- What a device starts with, its scratch memory aside. -/
def Given : sProp 𝕄 := iprop((Recs a0 ∗ levAts L lv) ∗ (Stands c ∗ pays c) ∗ Credits c)

theorem bigSep_fin3 (Φ : Fin 3 → sProp 𝕄) : bigSep Finset.univ Φ = iprop(Φ 0 ∗ Φ 1 ∗ Φ 2) := bigSep_univ_eq_bigSepL [0, 1, 2] (by decide) (by decide) Φ

theorem calls_intro : iprop((bigSep Finset.univ fun d : Fin 3 => dutyTok ER (barCell (nbr d c)) 0 d)
      ∗ bigSep Finset.univ fun x : Fin 3 × Fin 6 => BufAny (F := F) c x.1.val x.2) ⊢ iprop(Call c 0 ∗ Call c 1 ∗ Call c 2) := by
  rw [← bigSep_fin3 fun d => Call (F := F) c d]
  unfold Call
  rw [bigSep_sep', by_dir (fun x : Fin 3 × Fin 6 => ord x.2 x.1.val) fun x => BufAny (F := F) c x.1.val x.2]

theorem mine_eq : Mine (F := F) c = iprop((bigSep Finset.univ fun j : Fin 6 => AccAny (F := F) c (base j) (size j))
    ∗ (bigSep Finset.univ fun j => bigSep Finset.univ fun k => dutyTok ER (sendCell k j c) 0 (0 : D))
    ∗ (bigSep Finset.univ fun j => bigSep Finset.univ fun k => dutyTok ER (recvCell k j (tpal k.val j c)) 0 (0 : D))
    ∗ (bigSep Finset.univ fun j => bigSep Finset.univ fun k => atPos ER (sendCell k j c) 0 ∅ 0)
    ∗ (bigSep Finset.univ fun j => bigSep Finset.univ fun k => atPos ER (recvCell k j c) 0 ∅ 0)
    ∗ bigSep Finset.univ fun j => bigSep Finset.univ fun k => cred (tallyAt (recvCell k j c) () (credit k j))) := by
  unfold Mine
  simp only [tok, bigSep_sep']

theorem start_of : iprop(Given a0 c ∗ (∃ W, owes (c : Thread nD τ) (owed₀ c) W) ∗ Scratch c) ⊢ Start (F := F) a0 c := by
  unfold Given Stands pays Credits Scratch Start Know Recs
  iintro ⟨⟨⟨HR, HL⟩, ⟨⟨HpB, HpS, HpR⟩, HdB, HdS, HdR⟩, HcB, HcR⟩, Ho, HBuf, HAcc⟩
  isplitl [HR HL]; · isplitl [HR] <;> iassumption
  isplitl [Ho]; · iexact Ho
  isplitl [HdB HBuf]
  · iapply (calls_intro c); isplitl [HdB] <;> iassumption
  isplitl [HcB]; · iexact HcB
  isplitl [HpB]; · iexact HpB
  iapply (Entails.of_eq (mine_eq c).symm)
  isplitl [HAcc]; · iexact HAcc
  isplitl [HdS]; · iexact HdS
  isplitl [HdR]; · iexact HdR
  isplitl [HpS]; · iexact HpS
  isplitl [HpR]; · iexact HpR
  iexact HcR

theorem part_end (j : Fin 6) : PS a0 c j 25 = iprop(Acc c (base j) (size j) (fin a0)
    ∗ ((bigSep Finset.univ fun k => semVal (sendCell k j c) 0) ∗ bigSep Finset.univ fun k => semVal (recvCell k j c) 0)
    ∗ bigSep Finset.univ fun k : Fin 3 => BufAny (F := F) c k.val j) := by
  have ht : ∀ k : Fin 6, tok (F := F) c j k (25 - 1 - 4 * k.val) = iprop(semVal (sendCell k j c) 0 ∗ semVal (recvCell k j c) 0) := fun k => by
    fin_cases k <;> rfl
  have hl : ∀ k : Fin 3, land a0 c j k (25 - 1 - 4 * k.val) = BufAny c k.val j := fun k => by fin_cases k <;> rfl
  have he : ∀ k : Fin 3, lent (F := F) c j k 25 = iprop(emp) := fun k => if_neg (by have := k.isLt; omega)
  unfold PS
  simp only [ht, hl, he, bigSep_sep']
  rw [show own a0 c j 25 = Acc c (base j) (size j) (fin a0) from rfl, show (bigSep (Finset.univ : Finset (Fin 3)) fun _ => (iprop(emp) : sProp 𝕄)) = iprop(emp) from bigSep_emp_const _, with_emp]

theorem end_of : iprop(St (F := F) a0 c 36 ![25, 25, 25, 25, 25, 25] ∗ semVal (barCell c) 0)
    ⊢ iprop((∃ W, owes (c : Thread nD τ) 0 W) ∗ Zeros c ∗ Pipeline.scopedRest cfg0.spec c) := by
  have hσ : ∀ j : Fin 6, (![25, 25, 25, 25, 25, 25] : Fin 6 → ℕ) j = 25 := fun j => by fin_cases j <;> rfl
  unfold St Zeros
  simp only [hσ, part_end, bigSep_sep']
  rw [rest_eq, ← acc_parts, owed_end, bigSep_univ_comm fun (j : Fin 6) (k : Fin 3) => BufAny (F := F) c k.val j,
    ← bigSep_univ_prod fun x : Fin 3 × Fin 6 => BufAny (F := F) c x.1.val x.2]
  iintro ⟨⟨-, Ho, HA, ⟨HS, HR⟩, HB⟩, HZ⟩
  isplitl [Ho]; · iexact Ho
  isplitl [HZ HS HR]
  · isplitl [HZ]; · iexact HZ
    isplitl [HS] <;> iassumption
  isplitl [HB]; · iexact HB
  iexists (fin a0); iexact HA

end Ends

end Cert.KProof
-- ==== Proof.Run.lean ====
/-
The run: the pipeline's data, the semaphores put under the schedule, and the program's run from any memory, on any float
values: it terminates, each device's result is the reduced array, its arguments are unchanged and every semaphore is
back at zero.
-/
module

public import proofs.«01_k».proof.Proof.Launch
public import proofs.«01_k».proof.Proof.Gen.KernelIdeal.Points
public import Idealize.ShloMosaic.Lib.Pipeline.CollectiveSegs

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The initial machine. -/
def s₀ : MemSt nD τ sig (Elt F) := ⟨m, fun _ => 0, ρ⟩

/-! ## The arrays -/

/-- A device's arguments. -/
def xAt (c : Dev nD) : S1024x512.Idx → Elt F .f32 := m ((c : Thread nD τ).loc main_arg0)
def rAt (c : Dev nD) : S512x32.Idx → Elt F .f32 := m ((c : Thread nD τ).loc main_arg1)
def eAt (c : Dev nD) : S1024x2.Idx → Elt F .i32 := m ((c : Thread nD τ).loc main_arg2)
def wAt (c : Dev nD) : S4x512x1024.Idx → Elt F .f32 := m ((c : Thread nD τ).loc main_arg3)

/-- Each device's partial products. -/
def start (c : Dev nD) : S1024x1024.Idx → Elt F .bf16 := partials (xAt m c) (rAt m c) (eAt m c) (wAt m c) c
/-- The result. -/
def result : S1024x1024.Idx → Elt F .f32 := res (start m)

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => rAt m c
    | ⟨2, _⟩ => eAt m c
    | ⟨3, _⟩ => wAt m c
    | ⟨4, _⟩ => result m
  Φ t := match t with
    | ⟨0, _⟩ => iprop(Given (start m) c ∗ Pipeline.scopedRest cfg0.spec c)
    | ⟨_ + 1, _⟩ => iprop(Zeros c ∗ Pipeline.scopedRest cfg0.spec c)
  q _ := fullShare
  owed t := match t with
    | ⟨0, _⟩ => owed₀ c
    | ⟨_ + 1, _⟩ => 0

omit [FloatOps F] in
theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body -/

/-- Each window's block is its whole array. -/
theorem emb0 (j : S1024x512.Idx) : ((cfg0.win 0).blk t₀).view.emb j = j := funext fun a => Fin.ext (Pipeline.Window.rect_emb_val_of_index_zero win0_0 t₀ a rfl j)
theorem emb1 (j : S512x32.Idx) : ((cfg0.win 1).blk t₀).view.emb j = j := funext fun a => Fin.ext (Pipeline.Window.rect_emb_val_of_index_zero win0_1 t₀ a rfl j)
theorem emb2 (j : S1024x2.Idx) : ((cfg0.win 2).blk t₀).view.emb j = j := funext fun a => Fin.ext (Pipeline.Window.rect_emb_val_of_index_zero win0_2 t₀ a rfl j)
theorem emb3 (j : S4x512x1024.Idx) : ((cfg0.win 3).blk t₀).view.emb j = j := funext fun a => Fin.ext (Pipeline.Window.rect_emb_val_of_index_zero win0_3 t₀ a rfl j)
theorem emb4 (j : S1024x1024.Idx) : ((cfg0.win 4).blk t₀).view.emb j = j := funext fun a => Fin.ext (Pipeline.Window.rect_emb_val_of_index_zero win0_4 t₀ a rfl j)

theorem before_x (c : Dev nD) (d) : (dats m ρ 0 c).before (0 : Fin 5) t₀ d = xAt m c := by
  unfold Dat.before; rw [if_pos (fetch0_0 t₀)]; funext j; show xAt m c (((cfg0.win 0).blk t₀).view.emb j) = _; rw [emb0]
theorem before_r (c : Dev nD) (d) : (dats m ρ 0 c).before (1 : Fin 5) t₀ d = rAt m c := by
  unfold Dat.before; rw [if_pos (fetch0_1 t₀)]; funext j; show rAt m c (((cfg0.win 1).blk t₀).view.emb j) = _; rw [emb1]
theorem before_e (c : Dev nD) (d) : (dats m ρ 0 c).before (2 : Fin 5) t₀ d = eAt m c := by
  unfold Dat.before; rw [if_pos (fetch0_2 t₀)]; funext j; show eAt m c (((cfg0.win 2).blk t₀).view.emb j) = _; rw [emb2]
theorem before_w (c : Dev nD) (d) : (dats m ρ 0 c).before (3 : Fin 5) t₀ d = wAt m c := by
  unfold Dat.before; rw [if_pos (fetch0_3 t₀)]; funext j; show wAt m c (((cfg0.win 3).blk t₀).view.emb j) = _; rw [emb3]

set_option maxRecDepth 4000 in
def bodyPre (c : Dev nD) : sProp 𝕄 :=
  iprop((Given (start m) c ∗ Pipeline.scopedRest cfg0.spec c) ∗ (dats m ρ 0 c).owesAt () t₀.castSucc
    ∗ (∃ d, stg c cc0_stg0_0 ((dats m ρ 0 c).before (0 : Fin 5) t₀ d)) ∗ (∃ d, stg c cc0_stg1_0 ((dats m ρ 0 c).before (1 : Fin 5) t₀ d))
    ∗ (∃ d, stg c cc0_stg2_0 ((dats m ρ 0 c).before (2 : Fin 5) t₀ d)) ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop((Zeros c ∗ Pipeline.scopedRest cfg0.spec c) ∗ (dats m ρ 0 c).owesAt () t₀.succ
    ∗ stg c cc0_stg0_0 (xAt m c) ∗ stg c cc0_stg1_0 (rAt m c) ∗ stg c cc0_stg2_0 (eAt m c) ∗ stg c cc0_stg3_0 (wAt m c) ∗ stg c cc0_stg4_0 (result m))

theorem pre_of (c : Dev nD) : bodyPre m ρ c
    ⊢ iprop(Start (start m) c ∗ Staged (xAt m c) (rAt m c) (eAt m c) (wAt m c) c ∗ Out (start m) c 0) := by
  unfold bodyPre Dat.owesAt Pipeline.owesWithin Staged Out
  simp only [before_x, before_r, before_e, before_w]
  iintro ⟨⟨HG, HS⟩, ⟨%Wt, %hW, Ho⟩, ⟨%d0, %f0, %h0, H0⟩, ⟨%d1, %f1, %h1, H1⟩, ⟨%d2, %f2, %h2, H2⟩, ⟨%d3, %f3, %h3, H3⟩, ⟨%d4, %f4, %h4, H4⟩⟩
  subst h0 h1 h2 h3
  isplitl [HG HS Ho]
  · iapply (start_of (start m) c)
    isplitl [HG]; · iexact HG
    isplitl [Ho]; · iexists Wt; iexact Ho
    iapply (scratch_intro c); iexact HS
  isplitl [H0 H1 H2 H3]
  · isplitl [H0]; · iexact H0
    isplitl [H1]; · iexact H1
    isplitl [H2]; · iexact H2
    iexact H3
  iexists f4
  isplitr; · ipureintro; exact fun i h => absurd h (Nat.not_lt_zero _)
  iexact H4

theorem post_of (c : Dev nD) : iprop((St (start m) c 36 ![25, 25, 25, 25, 25, 25] ∗ Out (start m) c 1024) ∗ Staged (xAt m c) (rAt m c) (eAt m c) (wAt m c) c ∗ semVal (barCell c) 0)
    ⊢ bodyPost m ρ c := by
  unfold bodyPost Dat.owesAt Pipeline.owesWithin Staged Out
  iintro ⟨⟨HSt, %f4, %h4, H4⟩, ⟨H0, H1, H2, H3⟩, HZ⟩
  ihave HE := (end_of (start m) c) $$ [HSt HZ]
  · isplitl [HSt] <;> iassumption
  icases HE with ⟨⟨%Wt, Ho⟩, HZs, HR⟩
  have h4' : f4 = result m := funext fun i => h4 i (i 0).isLt
  subst h4'
  isplitl [HZs HR]; · isplitl [HZs] <;> iassumption
  isplitl [Ho]
  · iexists Wt; isplitr; · ipureintro; exact fun _ _ => Or.inl trivial
    iexact Ho
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

set_option maxRecDepth 100000 in
/-- The library's body obligation on a device. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ (bodyAt0 t₀) (fun _ => bodyPost m ρ c)
  exact (pre_of m ρ c).trans ((run_body (xAt m c) (rAt m c) (eAt m c) (wAt m c) (start m) c rfl).trans
    (Idealize.SL.Sem.wp_mono frame _ _ fun _ => post_of m ρ c))

/-! ## The launch -/

/-- The scoped semaphores among the kernel's. -/
def dsem (i : Fin 72) : SemLoc sig := osem i.succ

theorem ownSemFacts : Pipeline.OwnSemFacts cfg0.spec dsem := by decide

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf kCells kToks)

/-- What the launch element deals a device. -/
def G (c : Dev nD) : sProp 𝕄 :=
  iprop((bigSep Finset.univ fun k : Fin 73 => roundState ER (sched (start m)) (kcell (c, k)) 0)
    ∗ ((bigSep Finset.univ fun k : Fin 73 => atPos ER (kcell (c, k)) 0 ∅ 0) ∗ bigSep Finset.univ fun k : Fin 73 => reached ER (kcell (c, k)) 0) ∗ toksAt c)
/-- What the launch makes of it. -/
def G' (c : Dev nD) : sProp 𝕄 := iprop(Recs (start m) ∗ Stands c ∗ pays c)

theorem fund_kernel : BI.own (ER (initOf kCells kToks)) ⊢ (|==> bigSep Finset.univ (G m) : sProp 𝕄) := by
  have hX (Φ : GSem nD τ sig → sProp 𝕄) : bigSep kCells Φ = bigSep Finset.univ fun c : Dev nD => bigSep Finset.univ fun k : Fin 73 => Φ (kcell (c, k)) := by
    unfold kCells; rw [bigSep_map, bigSep_univ_prod]; rfl
  iintro HX
  imod (Rounds.fund ER (sched (start m)) kCells kToks) $$ HX with ⟨Hst, Hr, Hat, Htok⟩
  imodintro
  ihave Hst' := (Entails.of_eq (hX fun g => roundState ER (sched (start m)) g 0)) $$ Hst
  ihave Hat' := (Entails.of_eq (hX fun g => atPos ER g 0 ∅ 0)) $$ Hat
  ihave Hr' := (Entails.of_eq (hX fun g => reached ER g 0)) $$ Hr
  ihave Htok' := (Entails.of_eq toks_eq) $$ Htok
  unfold G; simp only [bigSep_sep']
  isplitl [Hst']; · iexact Hst'
  isplitl [Hat' Hr']
  · isplitl [Hat'] <;> iassumption
  iexact Htok'

omit [FloatOps F] in
theorem unscoped_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) :
    (bigSep Finset.univ fun k : Fin 73 => (semVal (kcell (c, k)) 0 : sProp 𝕄))
      = iprop(unscopedSems0 c ∗ Pipeline.ownSems0 (Ix := Unit) (Name := ℕ) (U := UU) (Lvl := ℕ) (Val := Elt F) (τ := τ) dsem c) := by
  have hu : (Finset.univ : Finset (Fin 73)) = {0} ∪ Finset.univ.map (Fin.succEmb 72) := by
    ext i; rw [Finset.mem_union, Finset.mem_singleton, Finset.mem_map]
    refine ⟨fun _ => ?_, fun _ => Finset.mem_univ _⟩
    rcases Fin.eq_zero_or_eq_succ i with h | ⟨j, rfl⟩
    · exact Or.inl h
    · exact Or.inr ⟨j, Finset.mem_univ _, rfl⟩
  rw [unscoped_eq, hu, both, bigSep_map, bigSep_singleton]
  · rfl
  · rw [Finset.disjoint_left]; intro i h h'
    rw [Finset.mem_singleton] at h; subst h
    rw [Finset.mem_map] at h'; obtain ⟨j, -, hj⟩ := h'
    exact Fin.succ_ne_zero j hj

theorem zeros_eq (c : Dev nD) : Zeros (F := F) c = bigSep Finset.univ fun k : Fin 73 => (semVal (kcell (c, k)) 0 : sProp 𝕄) :=
  (over_sems fun sm => (semVal ((c : Thread nD τ), sm) 0 : sProp 𝕄)).symm
theorem stands_eq (c : Dev nD) : Stands (F := F) c = bigSep Finset.univ fun k : Fin 73 => (atPos ER (kcell (c, k)) 0 ∅ 0 : sProp 𝕄) :=
  (over_sems fun sm => (atPos ER ((c : Thread nD τ), sm) 0 ∅ 0 : sProp 𝕄)).symm

theorem rec_of (g : GSem nD τ sig) : iprop((∃ κ : ℕ, cellInv ER (sched (start m)) κ g) ∗ reached ER g 0) ⊢ Rec (F := F) (start m) g := by
  unfold Rec; iintro ⟨⟨%κ, HI⟩, HR⟩; iexists κ; isplitl [HI] <;> iassumption

/-- A device's semaphores put under the schedule. -/
theorem core_alloc (c : Dev nD) :
    iprop(Pipeline.ownSems0 (Ix := Unit) (Name := ℕ) (U := UU) (Lvl := ℕ) (Val := Elt F) (τ := τ) dsem c ∗ unscopedSems0 c ∗ G m c)
      ⊢ |={Set.univ}=> iprop((bigSep Finset.univ fun k => Rec (F := F) (start m) (kcell (c, k))) ∗ Stands c ∗ toksAt c) := by
  unfold G
  iintro ⟨Hos, Hus, Hst, ⟨Hat, Hr⟩, Htok⟩
  ihave Hv := (Entails.of_eq (sems_eq (F := F) c).symm) $$ [Hos Hus]
  · isplitl [Hus] <;> iassumption
  imod (show iprop((bigSep Finset.univ fun k : Fin 73 => semVal (kcell (c, k)) 0) ∗ bigSep Finset.univ fun k : Fin 73 => roundState ER (sched (start m)) (kcell (c, k)) 0)
      ⊢ (|={Set.univ}=> bigSep Finset.univ fun k => iprop(∃ κ : ℕ, cellInv ER (sched (start m)) κ (kcell (c, k))) : sProp 𝕄) from by
        rw [← bigSep_sep']
        exact (bigSep_mono fun k _ => (Rounds.body_intro ER (sched (start m)) (kcell (c, k))).trans inv_alloc).trans (bigSep_fupd _ _)) $$ [Hv Hst] with Hinv
  · isplitl [Hv] <;> iassumption
  imodintro
  isplitl [Hinv Hr]
  · iapply ((Entails.of_eq (bigSep_sep' Finset.univ (fun k : Fin 73 => iprop(∃ κ : ℕ, cellInv ER (sched (start m)) κ (kcell (c, k)))) fun k => reached ER (kcell (c, k)) 0).symm).trans
      (bigSep_mono fun k _ => rec_of m (kcell (c, k))))
    isplitl [Hinv] <;> iassumption
  isplitl [Hat]; · iapply (Entails.of_eq (stands_eq c).symm); iexact Hat
  iexact Htok

theorem deal_out : (bigSep Finset.univ fun c : Dev nD => iprop((bigSep Finset.univ fun k => Rec (F := F) (start m) (kcell (c, k))) ∗ Stands c ∗ toksAt c))
    ⊢ bigSep Finset.univ (G' m) := by
  rw [bigSep_sep', bigSep_sep', toks_around, ← bigSep_univ_prod (fun x : Dev nD × Fin 73 => Rec (F := F) (start m) (kcell x))]
  unfold G'
  rw [bigSep_sep', bigSep_sep']
  iintro ⟨HR, HS, HT⟩
  isplitl [HR]
  · iapply (BI.bigSep_of_persistent Finset.univ (Recs (F := F) (start m)))
    unfold Recs; iexact HR
  isplitl [HS] <;> iassumption

theorem glob : (bigSep Finset.univ fun c => iprop(Pipeline.ownSems0 (Ix := Unit) (Name := ℕ) (U := UU) (Lvl := ℕ) (Val := Elt F) (τ := τ) dsem c ∗ unscopedSems0 c ∗ G m c) : sProp 𝕄)
    ⊢ |={Set.univ}=> bigSep Finset.univ (G' m) :=
  ((bigSep_mono fun c _ => core_alloc m c).trans (bigSep_fupd _ _)).trans (BI.fupd_mono (deal_out m))

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(Given (start m) c ∗ emp) := by
  iintro ⟨-, Hlev, Hcr, -, HG⟩
  ihave Hc := (creds (F := F) c) $$ Hcr
  imodintro
  unfold Given G' Credits
  icases HG with ⟨HR, HS, HP⟩
  isplitl
  · isplitl [HR Hlev]; · isplitl [HR] <;> iassumption
    isplitl [HS HP]; · isplitl [HS] <;> iassumption
    iexact Hc
  · iempintro

theorem phi0_intro (c : Dev nD) :
    iprop(Given (start m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(Given (start m) c ∗ Pipeline.scopedRest cfg0.spec c) from rfl]
  iintro ⟨Hs, -, Hr⟩
  isplitl [Hs] <;> iassumption

theorem phi1_exit (c : Dev nD) :
    (dats m ρ 0 c).Φ (Fin.last cfg0.N) ⊢ iprop(unscopedSems0 c ∗ Pipeline.ownSems0 dsem c ∗ Pipeline.scopedRest cfg0.spec c) := by
  rw [show (dats m ρ 0 c).Φ (Fin.last cfg0.N) = iprop(Zeros c ∗ Pipeline.scopedRest cfg0.spec c) from rfl, zeros_eq, sems_eq]
  iintro ⟨⟨HU, HO⟩, HR⟩
  isplitl [HU]; · iexact HU
  isplitl [HO] <;> iassumption

theorem waits (c : Dev nD) : (levAts L lv : sProp 𝕄) ⊢ Pipeline.cellsWaits cfgs (dats m ρ) () 0 c :=
  Pipeline.cellsWaits_intro cfgs (dats m ρ) () 0 c fun w s t => by
    have hl : lv ((c : Thread nD τ), .dma ((cfg0.win w).sem s)) () = 0 := by revert w s; intro w s; fin_cases w <;> fin_cases s <;> rfl
    refine mayWait_of c _ _ fun g u h => ?_
    rcases t with ⟨_ | _, ht⟩
    · have := owed₀_pos (c := c) h
      exact ⟨this.1, by rw [hl]; omega⟩
    · exact absurd h (Nat.lt_irrefl 0)

/-! ## The run -/

def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 100000 in
/-- The run of the whole program. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_kernel m) $$ HX with HG
      imodintro
      isplitl [HP] <;> iassumption)
    (hglob := glob m)
    (hA := fun _ _ => rfl) (hpf := fun _ k => k.elim0)
    (X := Given (start m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array after the run. -/
theorem final_out (c : Dev nD) : (dats m ρ 0 c).arrAt (4 : Fin 5) cfg0.N = result m :=
  (dats m ρ 0 c).arrAt_eq_of_cover 4 (result m)
    (fun t _ => by
      rw [fin_N t]; funext j
      show result m j = result m (((cfg0.win 4).blk t₀).view.emb j)
      rw [emb4])
    fun i => ⟨t₀, flush0_4 _, by
      have h := ((cfg0.win 4).blk t₀).view.emb_mem_set i; rwa [emb4] at h⟩

/-- The run, by arrays. -/
theorem run : θ_run defs (onTc (τ := τ) (main (F := F))) (s₀ m ρ) fun r => (∀ c : Dev nD,
      r.2.mem ((c : Thread nD τ).loc main_v1) = result m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0 :=
  (θ_run defs _ _).mono (fun r h => ⟨fun c => ⟨(h.1 c 4).trans (final_out m ρ c),
    (h.1 c 0).trans ((dats m ρ 0 c).arrAt_in (0 : Fin 5) rfl _), (h.1 c 1).trans ((dats m ρ 0 c).arrAt_in (1 : Fin 5) rfl _),
    (h.1 c 2).trans ((dats m ρ 0 c).arrAt_in (2 : Fin 5) rfl _), (h.1 c 3).trans ((dats m ρ 0 c).arrAt_in (3 : Fin 5) rfl _)⟩, h.2⟩) (run_main m ρ)

end Cert.KProof
-- ==== Proof.Frames.lean ====
/-
The frames of the kernel, printed over bit patterns and over the extended reals: one run, read at either.
-/
module

public import proofs.«01_k».proof.Proof.Run
public import proofs.«01_k».proof.Defs
public import proofs.«01_k».proof.Proof.Gen.Kernel
public import proofs.«01_k».proof.Proof.Gen.ReferenceIdeal.Run

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local instance] Cert.Kernel.Gen.facts Cert.KernelIdeal.Gen.facts Cert.ReferenceIdeal.Gen.facts

theorem frame_ideal : Cert.quiescent_KernelIdeal := fun m ρ _ =>
  (θ_run Cert.KernelIdeal.defs _ _).mono (fun _ h => ⟨fun c => (h.1 c).2, h.2⟩) (run (F := Ideal) m ρ)

set_option maxRecDepth 100000 in
/-- The two printed kernels have the same body. -/
theorem bodies_eq : (Cert.Kernel.defs₀ : Defs Cert.Kernel.nD Cert.Kernel.τ _ (Elt Bits) _)
    = (Cert.KernelIdeal.defs₀ : Defs Cert.KernelIdeal.nD Cert.KernelIdeal.τ _ (Elt Bits) _) := by
  unfold Cert.Kernel.defs₀ Cert.KernelIdeal.defs₀
  congr 1
  funext x y
  match x, y with
  | ⟨0, _⟩, (t, s) =>
    show Cert.Kernel.cc0_body (F := Bits) _ _ _ _ _ _ _ _ _ _ _ _ _ _ _ _ _ _ _ _ _ _ _ _ _ _ _ _ _ _ _ _ _ _ _ _ _ _ _ _ _ _ _ _ _ _ _ _ _ _
      = Cert.KernelIdeal.cc0_body (F := Bits) _ _ _ _ _ _ _ _ _ _ _ _ _ _ _ _ _ _ _ _ _ _ _ _ _ _ _ _ _ _ _ _ _ _ _ _ _ _ _ _ _ _ _ _ _ _ _ _ _ _
    rfl

/-- And the same table of bodies. -/
theorem defs_eq : (Cert.Kernel.defs (F := Bits)) = (Cert.KernelIdeal.defs (F := Bits)) :=
  congrArg (Pipeline.defs (Cert.KernelIdeal.pcfgs (F := Bits))) bodies_eq

theorem frame_kernel : Cert.quiescent_Kernel := fun m ρ _ => by
  rw [defs_eq]
  exact (θ_run (Cert.KernelIdeal.defs (F := Bits)) _ _).mono (fun _ h => ⟨fun c => (h.1 c).2, h.2⟩) (run (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KProof

end
-- ==== Proof.Mixture.lean ====
/-
The arithmetic of a mixture of experts over the extended reals: scores, softmax probabilities, and a token's output as
the sum over all the experts against the sum over the chosen two.
-/
module

public import Idealize.ShloMosaic.Lib.Pointwise

@[expose] public section

noncomputable section

namespace Cert.KProof

open Idealize.ShloMosaic
open scoped BigOperators

/-! ## Finite sums over the extended reals -/

/-- A nonnegative finite factor goes into a finite sum, whatever the terms. -/
theorem mul_sum_of_real {ι : Type} (s : Finset ι) (f : ι → EReal) (a : ℝ) (ha : 0 ≤ a) :
    (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top (EReal.coe_nonneg.2 ha) (EReal.coe_ne_top a), ih]

/-- A finite sum of real numbers, as an extended real. -/
theorem sum_coe {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- One term of a sum is chosen by its number. -/
theorem sum_chosen {n : ℕ} (e : Fin n) (f : Fin n → EReal) : ∑ x, (if x = e then f x else 0) = f e := by
  rw [Finset.sum_ite_eq' Finset.univ e f, if_pos (Finset.mem_univ e)]

/-- A quotient of real numbers. -/
theorem div_real (a b : ℝ) (hb : b ≠ 0) : Ideal.div (a : EReal) (b : EReal) = ((a / b : ℝ) : EReal) := by
  rw [Ideal.div_coe hb, ← EReal.coe_mul]
  congr 1
  ring

/-! ## The softmax -/

abbrev Tokens : Type := (⟨2, ![1024, 512]⟩ : Shape).Idx → EReal
abbrev Router : Type := (⟨2, ![512, 32]⟩ : Shape).Idx → EReal
abbrev Choices : Type := (⟨2, ![1024, 2]⟩ : Shape).Idx → BitVec 32
abbrev Experts : Type := (⟨3, ![32, 512, 1024]⟩ : Shape).Idx → EReal

variable (X : Tokens) (R : Router)

/-- Token `t`'s score for expert `e`. -/
def score (t : Fin 1024) (e : Fin 32) : EReal := ∑ k : Fin 512, X (ix2 t k) * R (ix2 k e)
/-- Its greatest score. -/
def top (t : Fin 1024) : EReal := Finset.fold max (Ideal.ofBits .f32 0xFF800000#32) (fun e : Fin 32 => score X R t e) Finset.univ
/-- Its weight for an expert, before the weights are scaled to add up to one. -/
def weight (t : Fin 1024) (e : Fin 32) : EReal := Ideal.exp (score X R t e - top X R t)
/-- Its probability for an expert. -/
def prob (t : Fin 1024) (e : Fin 32) : EReal := Ideal.div (weight X R t e) (∑ x : Fin 32, weight X R t x)

variable {X R}

/-- Every token and every router entry is a real number. -/
def Real2 (x : Fin 1024 → Fin 512 → ℝ) (r : Fin 512 → Fin 32 → ℝ) (X : Tokens) (R : Router) : Prop :=
  (∀ t k, X (ix2 t k) = (x t k : EReal)) ∧ ∀ k e, R (ix2 k e) = (r k e : EReal)

variable {x : Fin 1024 → Fin 512 → ℝ} {r : Fin 512 → Fin 32 → ℝ}

theorem score_real (h : Real2 x r X R) (t : Fin 1024) (e : Fin 32) : score X R t e = ((∑ k, x t k * r k e : ℝ) : EReal) := by
  unfold score
  rw [← sum_coe]
  exact Finset.sum_congr rfl fun k _ => by rw [h.1, h.2, EReal.coe_mul]

theorem top_real (h : Real2 x r X R) (t : Fin 1024) : ∃ a : ℝ, top X R t = (a : EReal) := by
  have h1 : top X R t < ⊤ := by
    unfold top
    rw [Finset.fold_max_lt]
    refine ⟨by simp [Ideal.ofBits, Ideal.ieee], fun e _ => ?_⟩
    rw [score_real h]
    exact EReal.coe_lt_top _
  have h2 : ⊥ < top X R t := by
    unfold top
    rw [Finset.lt_fold_max]
    refine Or.inr ⟨0, Finset.mem_univ _, ?_⟩
    rw [score_real h]
    exact EReal.bot_lt_coe _
  exact ⟨(top X R t).toReal, (EReal.coe_toReal h1.ne h2.ne').symm⟩

theorem weight_real (h : Real2 x r X R) (t : Fin 1024) : ∃ w : Fin 32 → ℝ, ∀ e, 0 < w e ∧ weight X R t e = (w e : EReal) := by
  obtain ⟨a, ha⟩ := top_real h t
  refine ⟨fun e => Real.exp ((∑ k, x t k * r k e) - a), fun e => ⟨Real.exp_pos _, ?_⟩⟩
  unfold weight
  rw [score_real h, ha, ← EReal.coe_sub]
  rfl

/-- A probability is a positive real number. -/
theorem prob_real (h : Real2 x r X R) (t : Fin 1024) (e : Fin 32) : ∃ p : ℝ, 0 < p ∧ prob X R t e = (p : EReal) := by
  obtain ⟨w, hw⟩ := weight_real h t
  have hs : ∑ x : Fin 32, weight X R t x = ((∑ x, w x : ℝ) : EReal) := by
    rw [← sum_coe]
    exact Finset.sum_congr rfl fun x _ => (hw x).2
  have hp : 0 < ∑ x, w x := Finset.sum_pos (fun x _ => (hw x).1) ⟨0, Finset.mem_univ _⟩
  refine ⟨w e / ∑ x, w x, div_pos (hw e).1 hp, ?_⟩
  unfold prob
  rw [hs, (hw e).2, div_real _ _ hp.ne']

/-! ## All the experts against the chosen two -/

/-- The share of expert `e` in a token whose chosen experts are `e0` and `e1`, with probabilities `p` and `q`. -/
def shareOf (p q : EReal) (e0 e1 e : Fin 32) : EReal := Ideal.div ((if e = e0 then p else 0) + (if e = e1 then q else 0)) (p + q)

theorem share_split (p q : ℝ) (hp : 0 < p) (hq : 0 < q) (e0 e1 e : Fin 32) :
    shareOf p q e0 e1 e = (if e = e0 then ((p / (p + q) : ℝ) : EReal) else 0) + (if e = e1 then ((q / (p + q) : ℝ) : EReal) else 0) := by
  have hs : p + q ≠ 0 := (add_pos hp hq).ne'
  unfold shareOf
  have h0 : ∀ (c : Prop) [Decidable c] (a : ℝ), (if c then (a : EReal) else 0) = ((if c then a else 0 : ℝ) : EReal) := fun c _ a => by
    split <;> simp
  rw [h0, h0, h0, h0, ← EReal.coe_add, ← EReal.coe_add, div_real _ _ hs, ← EReal.coe_add, add_div]
  congr 2
  · split <;> simp
  · split <;> simp

/-- Scaled tokens through every expert, added up, are the two chosen experts' outputs, scaled and added. -/
theorem mixture (p q : ℝ) (hp : 0 < p) (hq : 0 < q) (e0 e1 : Fin 32) (y : Fin 512 → EReal) (w : Fin 32 → Fin 512 → EReal) :
    ∑ e, ∑ k, shareOf p q e0 e1 e * y k * w e k
      = Ideal.div (p : EReal) ((p : EReal) + q) * (∑ k, y k * w e0 k) + Ideal.div (q : EReal) ((p : EReal) + q) * ∑ k, y k * w e1 k := by
  have hs : p + q ≠ 0 := (add_pos hp hq).ne'
  have hP : 0 ≤ p / (p + q) := (div_pos hp (add_pos hp hq)).le
  have hQ : 0 ≤ q / (p + q) := (div_pos hq (add_pos hp hq)).le
  have one : ∀ (a : ℝ) (ha : 0 ≤ a) (e1 : Fin 32), ∑ e, ∑ k, (if e = e1 then (a : EReal) else 0) * (y k * w e k) = a * ∑ k, y k * w e1 k := by
    intro a ha e1
    rw [mul_sum_of_real _ _ _ ha, ← sum_chosen e1 (fun e => ∑ k, (a : EReal) * (y k * w e k))]
    refine Finset.sum_congr rfl fun e _ => ?_
    split
    · rfl
    · simp
  have nn : ∀ (c : Prop) [Decidable c] (a : ℝ), 0 ≤ a → (0 : EReal) ≤ if c then (a : EReal) else 0 := fun c _ a ha => by
    split
    · exact EReal.coe_nonneg.2 ha
    · exact le_rfl
  rw [← EReal.coe_add, div_real _ _ hs, div_real _ _ hs, ← one _ hP, ← one _ hQ, ← Finset.sum_add_distrib]
  refine Finset.sum_congr rfl fun e _ => ?_
  rw [← Finset.sum_add_distrib]
  refine Finset.sum_congr rfl fun k _ => ?_
  rw [share_split p q hp hq, mul_assoc, EReal.right_distrib_of_nonneg (nn _ _ hP) (nn _ _ hQ)]

end Cert.KProof
-- ==== Proof.KernelValue.lean ====
/-
What the kernel computes over the extended reals, element by element: a device's partial result is the sum over its four
experts, and the reduced array is the sum over the devices.
-/
module

public import Idealize.ShloMosaic.Lib.Pointwise
public import Idealize.ShloMosaic.Lib.Pointwise.IndexBridge
public import proofs.«01_k».proof.Proof.Inputs
public import proofs.«01_k».proof.Proof.Mixture

@[expose] public section

noncomputable section

namespace Cert.KProof

open Cert.KernelIdeal Cert.KernelIdeal.Gen
open Idealize.ShloMosaic
open scoped BigOperators

/-! ## The reduction adds up the devices -/

/-- The devices whose partial results meet in three exchanges are all eight, each once. -/
theorem meet (j : Fin 6) (c : Dev nD) :
    [c, pal j 0 c, pal j 1 c, pal j 0 (pal j 1 c), pal j 2 c, pal j 0 (pal j 2 c), pal j 1 (pal j 2 c), pal j 0 (pal j 1 (pal j 2 c))].Perm
      (List.finRange 8) := by
  revert j c; decide

theorem red_eq_sum (a0 : Dev nD → S1024x1024.Idx → Elt Ideal .bf16) (c : Dev nD) (i : S1024x1024.Idx) :
    red a0 3 c i = ∑ d : Fin 8, (a0 d i : EReal) := by
  have h := ((meet (part (i 0).val) c).map fun d => (a0 d i : EReal)).sum_eq
  rw [Fin.sum_univ_def, ← h]
  simp only [List.map_cons, List.map_nil, List.sum_cons, List.sum_nil, add_zero]
  show (((a0 c i : EReal) + a0 _ i) + (a0 _ i + a0 _ i)) + ((a0 _ i + a0 _ i) + (a0 _ i + a0 _ i)) = _
  simp only [add_assoc]

theorem res_eq_sum (a0 : Dev nD → S1024x1024.Idx → Elt Ideal .bf16) (i : S1024x1024.Idx) :
    res a0 i = ∑ d : Fin 8, (a0 d i : EReal) := red_eq_sum a0 _ i

/-! ## A device's inputs -/

variable (X : S1024x512.Idx → Elt Ideal .f32) (R : S512x32.Idx → Elt Ideal .f32) (E : S1024x2.Idx → Elt Ideal .i32) (W : S4x512x1024.Idx → Elt Ideal .f32)
variable (c : Dev nD)

/-- A position counted from zero in steps of one. -/
theorem from_zero (n : ℕ) : 0 + 1 * n = n := by omega

theorem tokens_apply (t : Fin 1024) (k : Fin 512) : tokens X (ix2 t k) = X (ix2 t k) := by
  unfold tokens xM
  refine congrArg X (funext fun a => Fin.ext ?_)
  match a with
  | ⟨0, _⟩ => exact from_zero _
  | ⟨1, _⟩ => exact from_zero _

theorem router_apply (k : Fin 512) (e : Fin 32) : router R (ix2 k e) = R (ix2 k e) := by
  unfold router rM
  refine congrArg R (funext fun a => Fin.ext ?_)
  match a with
  | ⟨0, _⟩ => exact from_zero _
  | ⟨1, _⟩ => exact from_zero _

theorem first_apply (t : Fin 1024) : first E (ix2 t 0) = E (ix2 t 0) := by
  unfold first eM
  refine congrArg E (funext fun a => Fin.ext ?_)
  match a with
  | ⟨0, _⟩ => exact from_zero _
  | ⟨1, _⟩ => rfl

theorem second_apply (t : Fin 1024) : second E (ix2 t 0) = E (ix2 t 1) := by
  unfold second eM
  refine congrArg E (funext fun a => Fin.ext ?_)
  match a with
  | ⟨0, _⟩ => exact from_zero _
  | ⟨1, _⟩ => rfl

/-- A slab's element is the weights' element at the slab's number. -/
theorem slab0_apply (k : Fin 512) (h : Fin 1024) : slab0 W (ix3 0 k h) = W (ix3 0 k h) := by
  unfold slab0 wM
  refine congrArg W (funext fun a => Fin.ext ?_)
  match a with
  | ⟨0, _⟩ => rfl
  | ⟨1, _⟩ => exact from_zero _
  | ⟨2, _⟩ => exact from_zero _
theorem slab1_apply (k : Fin 512) (h : Fin 1024) : slab1 W (ix3 0 k h) = W (ix3 1 k h) := by
  unfold slab1 wM
  refine congrArg W (funext fun a => Fin.ext ?_)
  match a with
  | ⟨0, _⟩ => rfl
  | ⟨1, _⟩ => exact from_zero _
  | ⟨2, _⟩ => exact from_zero _
theorem slab2_apply (k : Fin 512) (h : Fin 1024) : slab2 W (ix3 0 k h) = W (ix3 2 k h) := by
  unfold slab2 wM
  refine congrArg W (funext fun a => Fin.ext ?_)
  match a with
  | ⟨0, _⟩ => rfl
  | ⟨1, _⟩ => exact from_zero _
  | ⟨2, _⟩ => exact from_zero _
theorem slab3_apply (k : Fin 512) (h : Fin 1024) : slab3 W (ix3 0 k h) = W (ix3 3 k h) := by
  unfold slab3 wM
  refine congrArg W (funext fun a => Fin.ext ?_)
  match a with
  | ⟨0, _⟩ => rfl
  | ⟨1, _⟩ => exact from_zero _
  | ⟨2, _⟩ => exact from_zero _

/-! ## Scores, gates and shares -/

theorem scores_apply (t : Fin 1024) (e : Fin 32) : scores X R (ix2 t e) = score X R t e := by
  unfold scores score
  pointwise [k0_pay3, k0_pay2]
  simp only [tokens_apply, router_apply]

theorem tops_apply (t : Fin 1024) (e : Fin 32) : tops X R (ix2 t e) = top X R t := by
  unfold tops top
  pointwise [k0_pay4]
  refine congrArg (fun f => Finset.fold max _ f Finset.univ) (funext fun e => ?_)
  exact scores_apply X R t e

/-- The gate of a token for the expert whose number is the word `w`. -/
def gate (w : BitVec 32) (t : Fin 1024) : EReal :=
  ∑ x : Fin 32, Scalar.select (IntOp.cmpi CmpIPredicate.eq (BitVec.ofNat 32 x.val) w) (prob X R t x) 0

theorem gate0_apply (t : Fin 1024) : gate0 X R E (ix2 t 0) = gate X R (E (ix2 t 0)) t := by
  unfold gate0 gate prob weight
  pointwise [k0_pay8, k0_pay5, k0_pay6]
  simp only [scores_apply, tops_apply, first_apply]

theorem gate1_apply (t : Fin 1024) : gate1 X R E (ix2 t 0) = gate X R (E (ix2 t 1)) t := by
  unfold gate1 gate prob weight
  pointwise [k0_pay9, k0_pay5, k0_pay7]
  simp only [scores_apply, tops_apply, second_apply]

/-- The share of the expert whose number is the word `n` in a token. -/
def shareW (n : BitVec 32) (t : Fin 1024) : EReal :=
  Ideal.div (Scalar.select (IntOp.cmpi CmpIPredicate.eq (E (ix2 t 0)) n) (gate X R (E (ix2 t 0)) t) 0
      + Scalar.select (IntOp.cmpi CmpIPredicate.eq (E (ix2 t 1)) n) (gate X R (E (ix2 t 1)) t) 0)
    (gate X R (E (ix2 t 0)) t + gate X R (E (ix2 t 1)) t)

theorem gates_apply (t : Fin 1024) : gates X R E (ix2 t 0) = gate X R (E (ix2 t 0)) t + gate X R (E (ix2 t 1)) t := by
  rw [← gate0_apply, ← gate1_apply]
  rfl

/-- The number of a device's expert `l`, as the kernel computes it. -/
def expertWord (l : BitVec 32) : BitVec 32 := Scalar.addi (Scalar.muli (number c) 4#32) l

theorem expertWord_eq (l : Fin 4) : expertWord c (BitVec.ofNat 32 l.val) = BitVec.ofNat 32 (4 * c.val + l.val) := by
  revert c l; decide

theorem share0_apply (t : Fin 1024) : share0 X R E c (ix2 t 0) = shareW X R E (expertWord c 0#32) t := by
  have h0 := gate0_apply X R E t
  have h1 := gate1_apply X R E t
  unfold gate0 at h0
  unfold gate1 at h1
  unfold share0 shareW expertWord
  pointwise [k0_pay11, k0_pay10, k0_pay6, k0_pay7]
  simp only [h0, h1, first_apply, second_apply]

theorem share1_apply (t : Fin 1024) : share1 X R E c (ix2 t 0) = shareW X R E (expertWord c 1#32) t := by
  have h0 := gate0_apply X R E t
  unfold gate0 at h0
  unfold share1 half1 hit1 shareW expertWord
  pointwise [k0_pay14, k0_pay13, k0_pay12, k0_pay6, k0_pay7]
  simp only [h0, gate1_apply, gates_apply, first_apply, second_apply]

theorem share2_apply (t : Fin 1024) : share2 X R E c (ix2 t 0) = shareW X R E (expertWord c 2#32) t := by
  unfold share2 shareW expertWord
  pointwise [k0_pay15, k0_pay6, k0_pay7]
  simp only [gate0_apply, gate1_apply, gates_apply, first_apply, second_apply]

theorem share3_apply (t : Fin 1024) : share3 X R E c (ix2 t 0) = shareW X R E (expertWord c 3#32) t := by
  unfold share3 shareW expertWord
  pointwise [k0_pay16, k0_pay6, k0_pay7]
  simp only [gate0_apply, gate1_apply, gates_apply, first_apply, second_apply]

theorem toks_apply (t : Fin 1024) (k : Fin 512) : toks X (ix2 t k) = X (ix2 t k) := by
  unfold toks
  pointwise [k0_pay2]
  exact tokens_apply X t k

/-! ## The partial result -/

/-- A device's partial result: each of its experts' outputs, for the tokens scaled by their shares. -/
def partSum (t h : Fin 1024) : EReal :=
  ∑ l : Fin 4, ∑ k : Fin 512, shareW X R E (expertWord c (BitVec.ofNat 32 l.val)) t * X (ix2 t k) * W (ix3 l k h)

theorem partSum_eq (t h : Fin 1024) : partSum X R E W c t h
    = ∑ k : Fin 512, share0 X R E c (ix2 t 0) * toks X (ix2 t k) * slab0 W (ix3 0 k h)
      + ∑ k : Fin 512, share1 X R E c (ix2 t 0) * toks X (ix2 t k) * slab1 W (ix3 0 k h)
      + ∑ k : Fin 512, share2 X R E c (ix2 t 0) * toks X (ix2 t k) * slab2 W (ix3 0 k h)
      + ∑ k : Fin 512, share3 X R E c (ix2 t 0) * toks X (ix2 t k) * slab3 W (ix3 0 k h) := by
  unfold partSum
  rw [Fin.sum_univ_four]
  simp only [share0_apply, share1_apply, share2_apply, share3_apply, toks_apply, slab0_apply, slab1_apply, slab2_apply, slab3_apply]
  rfl

theorem product0_apply (t : Fin 192) (h : Fin 1024) : product0 X R E W c (ix2 t h) = partSum X R E W c ⟨t.val, by omega⟩ h := by
  rw [partSum_eq]
  pointwise [product0, k0_pay17, k0_pay18, k0_pay19, k0_pay20]
  rfl
theorem product1_apply (t : Fin 192) (h : Fin 1024) : product1 X R E W c (ix2 t h) = partSum X R E W c ⟨192 + t.val, by omega⟩ h := by
  rw [partSum_eq]
  pointwise [product1, k0_pay21, k0_pay22]
theorem product2_apply (t : Fin 192) (h : Fin 1024) : product2 X R E W c (ix2 t h) = partSum X R E W c ⟨384 + t.val, by omega⟩ h := by
  rw [partSum_eq]
  pointwise [product2, k0_pay23, k0_pay24, k0_pay25, k0_pay26]
theorem product3_apply (t : Fin 192) (h : Fin 1024) : product3 X R E W c (ix2 t h) = partSum X R E W c ⟨576 + t.val, by omega⟩ h := by
  rw [partSum_eq]
  pointwise [product3, k0_pay27, k0_pay28, k0_pay29, k0_pay30]
theorem product4_apply (t : Fin 128) (h : Fin 1024) : product4 X R E W c (ix2 t h) = partSum X R E W c ⟨768 + t.val, by omega⟩ h := by
  rw [partSum_eq]
  pointwise [product4, k0_pay31, k0_pay32, k0_pay33, k0_pay34, k0_pay35]
theorem product5_apply (t : Fin 128) (h : Fin 1024) : product5 X R E W c (ix2 t h) = partSum X R E W c ⟨896 + t.val, by omega⟩ h := by
  rw [partSum_eq]
  pointwise [product5, k0_pay36, k0_pay37, k0_pay38, k0_pay39]

theorem partials_apply (t h : Fin 1024) : partials X R E W c (ix2 t h) = partSum X R E W c t h := by
  have ht := t.isLt
  unfold partials
  simp only [← ix2_eq_valueIdx]
  by_cases h0 : t.val < 192
  · exact (dif_pos h0).trans (product0_apply X R E W c ⟨t.val, h0⟩ h)
  refine (dif_neg h0).trans ?_
  by_cases h1 : t.val < 384
  · exact (dif_pos h1).trans ((product1_apply X R E W c ⟨t.val - 192, _⟩ h).trans (congrArg (partSum X R E W c · h) (Fin.ext (by show 192 + (t.val - 192) = t.val; omega))))
  refine (dif_neg h1).trans ?_
  by_cases h2 : t.val < 576
  · exact (dif_pos h2).trans ((product2_apply X R E W c ⟨t.val - 384, _⟩ h).trans (congrArg (partSum X R E W c · h) (Fin.ext (by show 384 + (t.val - 384) = t.val; omega))))
  refine (dif_neg h2).trans ?_
  by_cases h3 : t.val < 768
  · exact (dif_pos h3).trans ((product3_apply X R E W c ⟨t.val - 576, _⟩ h).trans (congrArg (partSum X R E W c · h) (Fin.ext (by show 576 + (t.val - 576) = t.val; omega))))
  refine (dif_neg h3).trans ?_
  by_cases h4 : t.val < 896
  · exact (dif_pos h4).trans ((product4_apply X R E W c ⟨t.val - 768, _⟩ h).trans (congrArg (partSum X R E W c · h) (Fin.ext (by show 768 + (t.val - 768) = t.val; omega))))
  refine (dif_neg h4).trans ?_
  exact (product5_apply X R E W c ⟨t.val - 896, _⟩ h).trans (congrArg (partSum X R E W c · h) (Fin.ext (by show 896 + (t.val - 896) = t.val; omega)))

end Cert.KProof
-- ==== Proof.RefValue.lean ====
/-
What the reference computes over the extended reals, element by element, when every chosen expert exists.
-/
module

public import Idealize.ShloMosaic.Lib.Pointwise
public import Idealize.ShloMosaic.Lib.Tactic.CleanTypes
public import Idealize.ShloMosaic.Lib.StableHlo.Predicate
public import proofs.«01_k».proof.Proof.Gen.ReferenceIdeal.Run
public import proofs.«01_k».proof.Proof.Mixture

@[expose] public section

noncomputable section

namespace Cert.KProof

open Cert.ReferenceIdeal Cert.ReferenceIdeal.Gen
open Idealize.ShloMosaic Idealize.ShloMosaic.TcCoe
open scoped BigOperators

/-! ## Looking up in a table -/

/-- A small number, as a word, reads back as itself. -/
theorem word_toNat (n : ℕ) (h : n < 1024) : (BitVec.ofNat 32 n).toInt.toNat = n := by
  have e : (BitVec.ofNat 32 n).toNat = n := by rw [BitVec.toNat_ofNat]; omega
  rw [BitVec.toInt_eq_toNat_of_lt (by omega), e]
  rfl

/-- A pair of numbers in range looks up its entry of the table of probabilities. -/
theorem lookup_pair {α : Type} (P : S1024x32.Idx → α) (idx : IVec S1024x2 32) (t : Fin 1024) (e : Fin 32)
    (h0 : idx (ix2 t 0) = BitVec.ofNat 32 t.val) (h1 : idx (ix2 t 1) = BitVec.ofNat 32 e.val) :
    Host.gather gather_S1024x32_S1024x2_S1024_n_01_n_n_01_1_11 P idx (ix1 t) = P (ix2 t e) := by
  have ht := t.isLt
  have he := e.isLt
  unfold Host.gather
  refine congrArg P (funext fun a => Fin.ext ?_)
  match a with
  | ⟨0, _⟩ =>
    show min (idx _).toInt.toNat 1023 + 0 + 0 = t.val
    refine Eq.trans (congrArg (fun j => min (idx j).toInt.toNat 1023 + 0 + 0) (?_ : _ = ix2 t 0)) ?_
    · funext b
      match b with
      | ⟨0, _⟩ => rfl
      | ⟨1, _⟩ => rfl
    · simp only [h0, word_toNat _ ht]; omega
  | ⟨1, _⟩ =>
    show min (idx _).toInt.toNat 31 + 0 + 0 = e.val
    refine Eq.trans (congrArg (fun j => min (idx j).toInt.toNat 31 + 0 + 0) (?_ : _ = ix2 t 1)) ?_
    · funext b
      match b with
      | ⟨0, _⟩ => rfl
      | ⟨1, _⟩ => rfl
    · simp only [h1, word_toNat _ (by omega : e.val < 1024)]; omega

/-- A number in range looks up its expert's weights. -/
theorem lookup_expert {α : Type} (W : S32x512x1024.Idx → α) (idx : IVec S1024x1 32) (t : Fin 1024) (k : Fin 512) (h : Fin 1024) (e : Fin 32)
    (h0 : idx (ix2 t 0) = BitVec.ofNat 32 e.val) :
    Host.gather gather_S32x512x1024_S1024x1_S1024x512x1024_12_0_n_n_0_1_15121024 W idx (ix3 t k h) = W (ix3 e k h) := by
  have he := e.isLt
  unfold Host.gather
  refine congrArg W (funext fun a => Fin.ext ?_)
  match a with
  | ⟨0, _⟩ =>
    show min (idx _).toInt.toNat 31 + 0 + 0 = e.val
    refine Eq.trans (congrArg (fun j => min (idx j).toInt.toNat 31 + 0 + 0) (?_ : _ = ix2 t 0)) ?_
    · funext b
      match b with
      | ⟨0, _⟩ => rfl
      | ⟨1, _⟩ => rfl
    · simp only [h0, word_toNat _ (by omega : e.val < 1024)]; omega
  | ⟨1, _⟩ => exact (Nat.zero_add _).trans rfl
  | ⟨2, _⟩ => exact (Nat.zero_add _).trans rfl

/-- A conjunction all of whose members hold. -/
theorem all_hold {n : ℕ} (f : Fin n → BitVec 1) (h : ∀ x, f x = 1#1) : Finset.fold IntOp.andi (1#1) f Finset.univ = 1#1 := by
  classical
  have : ∀ s : Finset (Fin n), Finset.fold IntOp.andi (1#1) f s = 1#1 := fun s => by
    induction s using Finset.induction_on with
    | empty => rfl
    | insert i s hi ih => rw [Finset.fold_insert hi, ih, h]; rfl
  exact this _

/-- A number between zero and a bound passes both comparisons. -/
theorem in_range (n b : ℕ) (h : n ≤ b) (hb : b < 1024) :
    IntOp.andi (IntOp.cmpi CmpIPredicate.sge (BitVec.ofNat 32 n) 0#32) (IntOp.cmpi CmpIPredicate.sle (BitVec.ofNat 32 n) (BitVec.ofNat 32 b)) = 1#1 := by
  have en : (BitVec.ofNat 32 n).toNat = n := by rw [BitVec.toNat_ofNat]; omega
  have eb : (BitVec.ofNat 32 b).toNat = b := by rw [BitVec.toNat_ofNat]; omega
  rw [(StableHlo.Predicate.sge_iff_toNat (by rw [en]; omega) (by decide)).2 (by rw [en]; exact Nat.zero_le _),
    (StableHlo.Predicate.sle_iff_toNat (by rw [en]; omega) (by rw [eb]; omega)).2 (by rw [en, eb]; exact h)]
  rfl

theorem bounds0 (x : Fin 2) : lit0 (S2.rowMajor (ix1 x)) = if x.val < 1 then 1023#32 else 31#32 := by revert x; decide
theorem bounds1 (x : Fin 2) : lit1 (S2.rowMajor (ix1 x)) = if x.val < 1 then 1023#32 else 31#32 := by revert x; decide

/-- A token's number and its expert's are both in range. -/
theorem pair_in_range (t : Fin 1024) (e : Fin 32) (x : Fin 2) :
    IntOp.andi (IntOp.cmpi CmpIPredicate.sge (if h : x.val < 1 then BitVec.ofNat 32 t.val else BitVec.ofNat 32 e.val) 0#32)
      (IntOp.cmpi CmpIPredicate.sle (if h : x.val < 1 then BitVec.ofNat 32 t.val else BitVec.ofNat 32 e.val) (if x.val < 1 then 1023#32 else 31#32)) = 1#1 := by
  have ht := t.isLt
  have he := e.isLt
  by_cases h : x.val < 1
  · rw [dif_pos h, if_pos h]; exact in_range t.val 1023 (by omega) (by omega)
  · rw [dif_neg h, if_neg h]; exact in_range e.val 31 (by omega) (by omega)

set_option maxRecDepth 16384 in
/-- The reference's element: the two chosen experts' outputs, each scaled by its probability's part of their sum. -/
theorem reference_apply (m : (ℓ : Loc nD τ sig) → Buf (Elt Ideal) ℓ) (X : Tokens) (R : Router) (E : Choices) (W : Experts)
    (hX : m (((0 : Dev nD).tc : Thread nD τ).loc main_arg0) = X) (hR : m (((0 : Dev nD).tc : Thread nD τ).loc main_arg1) = R)
    (hE : m (((0 : Dev nD).tc : Thread nD τ).loc main_arg2) = E) (hW : m (((0 : Dev nD).tc : Thread nD τ).loc main_arg3) = W)
    (t h : Fin 1024) (e0 e1 : Fin 32) (h0 : E (ix2 t 0) = BitVec.ofNat 32 e0.val) (h1 : E (ix2 t 1) = BitVec.ofNat 32 e1.val) :
    Cert.ReferenceIdeal.Value.res_main_v76 m 0 (ix2 t h)
      = Ideal.div (prob X R t e0) (prob X R t e0 + prob X R t e1) * (∑ k : Fin 512, X (ix2 t k) * W (ix3 e0 k h))
        + Ideal.div (prob X R t e1) (prob X R t e0 + prob X R t e1) * ∑ k : Fin 512, X (ix2 t k) * W (ix3 e1 k h) := by
  unfold Cert.ReferenceIdeal.Value.res_main_v76
  subst hX hR hE hW
  clean_types
  pointwise
  rw [lookup_pair (t := t) (e := e0), lookup_pair (t := t) (e := e1)]
  · simp only [h0, h1, bounds0, bounds1, all_hold _ (pair_in_range t e0), all_hold _ (pair_in_range t e1), all_hold _ fun _ => in_range e0.val 31 (by omega) (by omega),
      all_hold _ fun _ => in_range e1.val 31 (by omega) (by omega), ValueIdx.select_one]
    pointwise [prob, weight, top, score]
    refine congrArg₂ (· + ·) (congrArg₂ (· * ·) rfl (Finset.sum_congr rfl fun k _ => congrArg _ (lookup_expert _ _ t k h e0 ?_)))
      (congrArg₂ (· * ·) rfl (Finset.sum_congr rfl fun k _ => congrArg _ (lookup_expert _ _ t k h e1 ?_)))
    · pointwise; exact h0
    · pointwise; exact h1
  · pointwise
  · pointwise; exact h1
  · pointwise
  · pointwise; exact h0

end Cert.KProof
-- ==== Proof.Value.lean ====
/-
The kernel's result and the reference's are equal over the extended reals.
-/
module

public import proofs.«01_k».proof.Defs
public import proofs.«01_k».proof.Proof.Frames
public import proofs.«01_k».proof.Proof.KernelValue
public import proofs.«01_k».proof.Proof.RefValue

@[expose] public section

noncomputable section

namespace Cert.KProof

open Idealize.ShloMosaic Idealize.ShloMosaic.TcCoe Idealize.SL.Sem
open scoped BigOperators

/-! ## The precondition's side conditions, and what it says -/

/-- The shapes by which the precondition spreads its constants, for the kernel's program. -/
theorem pre_kernel_facts : Cert.Pre_well_posed_KernelIdeal.Facts where
  bcast_S_S1024x512 := by decide
  bcast_S_S512x32 := by decide
  bcast_S_S1024x2 := by decide

/-- The same for the reference's program. -/
theorem pre_reference_facts : Cert.Pre_well_posed_ReferenceIdeal.Facts where
  bcast_S_S1024x512 := by decide
  bcast_S_S512x32 := by decide
  bcast_S_S1024x2 := by decide

attribute [local instance] Cert.Kernel.Gen.facts Cert.KernelIdeal.Gen.facts Cert.ReferenceIdeal.Gen.facts pre_kernel_facts pre_reference_facts

/-- A number below infinity in absolute value is real. -/
theorem real_of_abs_lt (a : EReal) (h : FloatOps.cmpf (F := Ideal) (φ := .f32) .olt (FloatOps.hostAbsf a) (Ideal.ofBits .f32 0x7F800000#32) = 1#1) :
    ∃ b : ℝ, a = (b : EReal) := by
  have ht : (Ideal.ofBits .f32 0x7F800000#32 : EReal) = ⊤ := by simp [Ideal.ofBits, Ideal.ieee]
  have hlt : max a (-a) < (⊤ : EReal) := by
    have h' : BitVec.ofBool (decide (max a (-a) < (Ideal.ofBits .f32 0x7F800000#32 : EReal))) = 1#1 := h
    rw [ht] at h'
    by_contra hn
    rw [decide_eq_false hn] at h'
    exact absurd h' (by decide)
  obtain ⟨h1, h2⟩ := max_lt_iff.mp hlt
  have hb : a ≠ ⊥ := fun e => by simp [e] at h2
  exact ⟨a.toReal, (EReal.coe_toReal h1.ne hb).symm⟩

/-- A word that is not negative and is below 32 is the number of an expert. -/
theorem expert_of_range (w : BitVec 32) (h : IntOp.andi (IntOp.cmpi CmpIPredicate.sge w 0#32) (IntOp.cmpi CmpIPredicate.slt w 32#32) = 1#1) :
    ∃ e : Fin 32, w = BitVec.ofNat 32 e.val := by
  have hs : BitVec.ofBool ((0#32).sle w) &&& BitVec.ofBool (w.slt 32#32) = 1#1 := h
  have hb : (0#32).sle w = true ∧ w.slt 32#32 = true := by
    revert hs
    cases (0#32).sle w <;> cases w.slt 32#32 <;> decide
  have h0 : (0 : ℤ) ≤ w.toInt := by simpa [BitVec.sle] using hb.1
  have h1 : w.toInt < 32 := by simpa [BitVec.slt] using hb.2
  have hl := w.isLt
  rw [BitVec.toInt_eq_toNat_cond] at h0 h1
  have hn : w.toNat < 32 := by split at h0 <;> omega
  exact ⟨⟨w.toNat, hn⟩, by simp⟩

/-- What the precondition says: tokens and router hold real numbers, and every choice is an expert. -/
theorem pre_reads (X : Tokens) (R : Router) (E : Choices) (W : (⟨3, ![4, 512, 1024]⟩ : Shape).Idx → EReal)
    (h0 : (Cert.Pre_well_posed_KernelIdeal.fn (F := Ideal) X R E W).1 = fun _ => 1#1)
    (h1 : (Cert.Pre_well_posed_KernelIdeal.fn (F := Ideal) X R E W).2.1 = fun _ => 1#1)
    (h2 : (Cert.Pre_well_posed_KernelIdeal.fn (F := Ideal) X R E W).2.2 = fun _ => 1#1) :
    (∃ x r, Real2 x r X R) ∧ ∀ t i, ∃ e : Fin 32, E (ix2 t i) = BitVec.ofNat 32 e.val := by
  refine ⟨?_, fun t i => ?_⟩
  · have hx : ∀ t k, ∃ b : ℝ, X (ix2 t k) = (b : EReal) := fun t k => by
      have := congrFun h0 (ix2 t k)
      pointwise [Cert.Pre_well_posed_KernelIdeal.fn] at this
      exact real_of_abs_lt _ this
    have hr : ∀ k e, ∃ b : ℝ, R (ix2 k e) = (b : EReal) := fun k e => by
      have := congrFun h1 (ix2 k e)
      pointwise [Cert.Pre_well_posed_KernelIdeal.fn] at this
      exact real_of_abs_lt _ this
    choose x hx using hx
    choose r hr using hr
    exact ⟨x, r, hx, hr⟩
  · have := congrFun h2 (ix2 t i)
    pointwise [Cert.Pre_well_posed_KernelIdeal.fn] at this
    exact expert_of_range _ this

/-! ## The kernel's element -/

/-- Choosing by equality of two experts' words is choosing by equality of the experts. -/
theorem select_word (x e : Fin 32) (a : EReal) :
    Scalar.select (IntOp.cmpi CmpIPredicate.eq (BitVec.ofNat 32 x.val) (BitVec.ofNat 32 e.val)) a 0 = if x = e then a else 0 := by
  have h : IntOp.cmpi CmpIPredicate.eq (BitVec.ofNat 32 x.val) (BitVec.ofNat 32 e.val) = if x = e then 1#1 else 0#1 := by revert x e; decide
  rw [h]
  split
  · exact ValueIdx.select_one _ _
  · exact ValueIdx.select_zero _ _

section Element

variable (X : Tokens) (R : Router) (E : Choices) (t : Fin 1024) (e0 e1 : Fin 32)
variable (h0 : E (ix2 t 0) = BitVec.ofNat 32 e0.val) (h1 : E (ix2 t 1) = BitVec.ofNat 32 e1.val)
include h0 h1

/-- The masked sum by which the kernel looks a gate up is that expert's probability. -/
theorem gate_prob (e : Fin 32) : gate X R (BitVec.ofNat 32 e.val) t = prob X R t e := by
  unfold gate
  simp only [select_word]
  exact sum_chosen e _

/-- The kernel's share of an expert in a token, in terms of the two chosen probabilities. -/
theorem shareW_share (e : Fin 32) : shareW X R E (BitVec.ofNat 32 e.val) t = shareOf (prob X R t e0) (prob X R t e1) e0 e1 e := by
  unfold shareW shareOf
  rw [h0, h1, gate_prob X R E t e0 e1 h0 h1, gate_prob X R E t e0 e1 h0 h1, select_word, select_word]
  simp only [eq_comm (a := e)]

/-- Adding the devices' partial results is adding over all the experts. -/
theorem kernel_apply (W : Experts) (Wc : Fin 8 → (⟨3, ![4, 512, 1024]⟩ : Shape).Idx → EReal)
    (hW : ∀ c, Wc c = Layout.block ⟨3, ![4, 512, 1024]⟩ ⟨3, ![32, 512, 1024]⟩ 0 8 c W) (h : Fin 1024) :
    ∑ c : Fin 8, partSum X R E (Wc c) c t h
      = ∑ e : Fin 32, ∑ k : Fin 512, shareOf (prob X R t e0) (prob X R t e1) e0 e1 e * X (ix2 t k) * W (ix3 e k h) := by
  rw [← Equiv.sum_comp (finProdFinEquiv : Fin 8 × Fin 4 ≃ Fin 32), Fintype.sum_prod_type]
  refine Finset.sum_congr rfl fun c _ => ?_
  unfold partSum
  refine Finset.sum_congr rfl fun l _ => Finset.sum_congr rfl fun k _ => ?_
  have hv : (finProdFinEquiv (c, l) : Fin 32).val = 4 * c.val + l.val := by simp [finProdFinEquiv]; omega
  rw [expertWord_eq, ← hv, shareW_share X R E t e0 e1 h0 h1, hW]
  refine congrArg _ (congrArg W (funext fun a => Fin.ext ?_))
  match a with
  | ⟨0, _⟩ => exact (show c.val * 4 + l.val = (finProdFinEquiv (c, l) : Fin 32).val by omega)
  | ⟨1, _⟩ => rfl
  | ⟨2, _⟩ => rfl

end Element

/-! ## The claim -/

open Cert.KernelIdeal in
/-- Where the arguments agree and the precondition holds, the sum of all devices' partial results is the reference's array. -/
theorem values_agree (m : (ℓ : Loc nD τ sig) → Buf (Elt Ideal) ℓ)
    (m' : (ℓ : Loc Cert.ReferenceIdeal.nD Cert.ReferenceIdeal.τ Cert.ReferenceIdeal.sig) → Buf (Elt Ideal) ℓ)
    (X : Tokens) (R : Router) (E : Choices) (W : Experts)
    (hx : ∀ c, xAt m c = X) (hr : ∀ c, rAt m c = R) (he : ∀ c, eAt m c = E)
    (hw : ∀ c, wAt m c = Layout.block ⟨3, ![4, 512, 1024]⟩ ⟨3, ![32, 512, 1024]⟩ 0 8 c W)
    (hX : m' (((0 : Dev Cert.ReferenceIdeal.nD).tc : Thread Cert.ReferenceIdeal.nD Cert.ReferenceIdeal.τ).loc Cert.ReferenceIdeal.main_arg0) = X)
    (hR : m' (((0 : Dev Cert.ReferenceIdeal.nD).tc : Thread Cert.ReferenceIdeal.nD Cert.ReferenceIdeal.τ).loc Cert.ReferenceIdeal.main_arg1) = R)
    (hE : m' (((0 : Dev Cert.ReferenceIdeal.nD).tc : Thread Cert.ReferenceIdeal.nD Cert.ReferenceIdeal.τ).loc Cert.ReferenceIdeal.main_arg2) = E)
    (hW : m' (((0 : Dev Cert.ReferenceIdeal.nD).tc : Thread Cert.ReferenceIdeal.nD Cert.ReferenceIdeal.τ).loc Cert.ReferenceIdeal.main_arg3) = W)
    (hreal : ∃ x r, Real2 x r X R) (hexp : ∀ t i, ∃ e : Fin 32, E (ix2 t i) = BitVec.ofNat 32 e.val) :
    result m = Cert.ReferenceIdeal.Value.res_main_v76 m' 0 := by
  funext i
  obtain ⟨t, h, rfl⟩ : ∃ t h : Fin 1024, i = ix2 t h := ⟨i 0, i 1, eq_ix2 i⟩
  obtain ⟨x, r, hxr⟩ := hreal
  obtain ⟨e0, h0⟩ := hexp t 0
  obtain ⟨e1, h1⟩ := hexp t 1
  obtain ⟨p, hp, hpe⟩ := prob_real hxr t e0
  obtain ⟨q, hq, hqe⟩ := prob_real hxr t e1
  refine Eq.trans ?_ (reference_apply m' X R E W hX hR hE hW t h e0 e1 h0 h1).symm
  unfold result
  rw [res_eq_sum]
  have hs : ∀ c, start m c (ix2 t h) = partSum X R E (wAt m c) c t h := fun c => by
    unfold start
    rw [hx, hr, he]
    exact partials_apply X R E _ c t h
  simp only [hs]
  rw [kernel_apply X R E t e0 e1 h0 h1 W (fun c => wAt m c) hw h, hpe, hqe]
  exact mixture p q hp hq e0 e1 (fun k => X (ix2 t k)) fun e k => W (ix3 e k h)

/-- Kernel and reference compute the same array over the extended reals, on every device. -/
theorem algebraic : Cert.algebraic_KernelIdeal_ReferenceIdeal_pre_well_posed_KernelIdeal := fun m ρ m' ρ' hpre hm => by
  obtain ⟨hreal, hexp⟩ := pre_reads _ _ _ _ (hpre 0).1 (hpre 0).2.1 (hpre 0).2.2
  have hv := values_agree m m' _ _ _ _ (fun c => (hm c).1) (fun c => (hm c).2.1) (fun c => (hm c).2.2.1) (fun c => (hm c).2.2.2) rfl rfl rfl rfl
    (by rw [(hm 0).1, (hm 0).2.1] at hreal; exact hreal) (by rw [(hm 0).2.2.1] at hexp; exact hexp)
  refine ⟨result m, ?_, ?_⟩
  · exact (θ_run Cert.KernelIdeal.defs _ _).mono (fun _ h => h.1) (run (F := Ideal) m ρ)
  · refine (θ_run Cert.ReferenceIdeal.defs _ _).mono (fun _ h => ?_) (Cert.ReferenceIdeal.Value.run (F := Ideal) m' ρ')
    exact ⟨(h 0).1.trans hv.symm, (h 0).2⟩

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KProof.pre_kernel_facts, Cert.KProof.pre_reference_facts,
  Cert.KProof.frame_kernel, Cert.KProof.frame_ideal, fun m g _ => Cert.KProof.frame_ideal m g trivial,
  Cert.KProof.frame_reference, fun m g _ => Cert.KProof.frame_reference m g trivial,
  trivial, Cert.KProof.algebraic⟩

end Cert.Proof

end
